-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S1024x4 : Shape := ⟨2, ![1024, 4]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S1024x2048 : Shape := ⟨2, ![1024, 2048]⟩
abbrev S4096x1024 : Shape := ⟨2, ![4096, 1024]⟩
abbrev S1024x4096 : Shape := ⟨2, ![1024, 4096]⟩
abbrev S4 : Shape := ⟨1, ![4]⟩
abbrev S32x1024 : Shape := ⟨2, ![32, 1024]⟩
abbrev S64x1024 : Shape := ⟨2, ![64, 1024]⟩
abbrev S1024x64 : Shape := ⟨2, ![1024, 64]⟩
abbrev S1x1024 : Shape := ⟨2, ![1, 1024]⟩
abbrev S1 : Shape := ⟨1, ![1]⟩
abbrev S_ : Shape := ⟨0, ![]⟩
abbrev S8x1024 : Shape := ⟨2, ![8, 1024]⟩
abbrev S4x1024 : Shape := ⟨2, ![4, 1024]⟩
abbrev S256x1024 : Shape := ⟨2, ![256, 1024]⟩
abbrev S1x256 : Shape := ⟨2, ![1, 256]⟩
abbrev S2 : Shape := ⟨1, ![2]⟩
abbrev S1x2048 : Shape := ⟨2, ![1, 2048]⟩
abbrev S2x4096x128 : Shape := ⟨3, ![2, 4096, 128]⟩
abbrev S2x4096x64 : Shape := ⟨3, ![2, 4096, 64]⟩
abbrev S1x256x1024 : Shape := ⟨3, ![1, 256, 1024]⟩
abbrev S1x256x128 : Shape := ⟨3, ![1, 256, 128]⟩
abbrev S1x256x64 : Shape := ⟨3, ![1, 256, 64]⟩
abbrev S4x8x1024 : Shape := ⟨3, ![4, 8, 1024]⟩
abbrev S4x256x264 : Shape := ⟨3, ![4, 256, 264]⟩
abbrev S256x264 : Shape := ⟨2, ![256, 264]⟩
abbrev S1x256x264 : Shape := ⟨3, ![1, 256, 264]⟩
abbrev S256 : Shape := ⟨1, ![256]⟩
abbrev S256x1 : Shape := ⟨2, ![256, 1]⟩
abbrev S3x1024 : Shape := ⟨2, ![3, 1024]⟩
abbrev S259x1024 : Shape := ⟨2, ![259, 1024]⟩
abbrev S256x256 : Shape := ⟨2, ![256, 256]⟩
abbrev S256x32 : Shape := ⟨2, ![256, 32]⟩
abbrev S256x64 : Shape := ⟨2, ![256, 64]⟩
abbrev S256x61 : Shape := ⟨2, ![256, 61]⟩
abbrev S256x128 : Shape := ⟨2, ![256, 128]⟩
abbrev S7x1024 : Shape := ⟨2, ![7, 1024]⟩
abbrev S1x1x1024 : Shape := ⟨3, ![1, 1, 1024]⟩
abbrev S264x1024 : Shape := ⟨2, ![264, 1024]⟩
abbrev S256x2048 : Shape := ⟨2, ![256, 2048]⟩
abbrev S2x256x128 : Shape := ⟨3, ![2, 256, 128]⟩
abbrev S256x16 : Shape := ⟨2, ![256, 16]⟩
abbrev S1x256x1 : Shape := ⟨3, ![1, 256, 1]⟩

abbrev nBuf : Space → Nat
  | .hbm => 95
  | .vmem => 39
  | .smem => 2
  | _ => 0

abbrev bufTy : (tb : Table) → Fin (tcTables nBuf tb) → BufTy
  | .hbm, ⟨0, _⟩ => ⟨S2x4096x1024, .f32⟩
  | .hbm, ⟨1, _⟩ => ⟨S1024x4, .f32⟩
  | .hbm, ⟨2, _⟩ => ⟨S1024x1024, .f32⟩
  | .hbm, ⟨3, _⟩ => ⟨S1024, .f32⟩
  | .hbm, ⟨4, _⟩ => ⟨S2048x1024, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S4096x1024, .f32⟩
  | .hbm, ⟨9, _⟩ => ⟨S1024x4096, .f32⟩
  | .hbm, ⟨10, _⟩ => ⟨S4, .f32⟩
  | .hbm, ⟨11, _⟩ => ⟨S32x1024, .f32⟩
  | .hbm, ⟨12, _⟩ => ⟨S32x1024, .f32⟩
  | .hbm, ⟨13, _⟩ => ⟨S64x1024, .f32⟩
  | .hbm, ⟨14, _⟩ => ⟨S1024x64, .f32⟩
  | .hbm, ⟨15, _⟩ => ⟨S1x1024, .f32⟩
  | .hbm, ⟨16, _⟩ => ⟨S1, .f32⟩
  | .hbm, ⟨17, _⟩ => ⟨S1x1024, .f32⟩
  | .hbm, ⟨18, _⟩ => ⟨S1, .f32⟩
  | .hbm, ⟨19, _⟩ => ⟨S1x1024, .f32⟩
  | .hbm, ⟨20, _⟩ => ⟨S1, .f32⟩
  | .hbm, ⟨21, _⟩ => ⟨S_, .f32⟩
  | .hbm, ⟨22, _⟩ => ⟨S8x1024, .f32⟩
  | .hbm, ⟨23, _⟩ => ⟨S4x1024, .f32⟩
  | .hbm, ⟨24, _⟩ => ⟨S_, .i32⟩
  | .hbm, ⟨25, _⟩ => ⟨S1, .i32⟩
  | .hbm, ⟨26, _⟩ => ⟨S8x1024, .f32⟩
  | .hbm, ⟨27, _⟩ => ⟨S_, .f32⟩
  | .hbm, ⟨28, _⟩ => ⟨S256x1024, .f32⟩
  | .hbm, ⟨29, _⟩ => ⟨S_, .i32⟩
  | .hbm, ⟨30, _⟩ => ⟨S1, .i32⟩
  | .hbm, ⟨31, _⟩ => ⟨S256x1024, .f32⟩
  | .hbm, ⟨32, _⟩ => ⟨S_, .i32⟩
  | .hbm, ⟨33, _⟩ => ⟨S1, .i32⟩
  | .hbm, ⟨34, _⟩ => ⟨S256x1024, .f32⟩
  | .hbm, ⟨35, _⟩ => ⟨S_, .i32⟩
  | .hbm, ⟨36, _⟩ => ⟨S1, .i32⟩
  | .hbm, ⟨37, _⟩ => ⟨S256x1024, .f32⟩
  | .hbm, ⟨38, _⟩ => ⟨S1024, .f32⟩
  | .hbm, ⟨39, _⟩ => ⟨S_, .i32⟩
  | .hbm, ⟨40, _⟩ => ⟨S1, .i32⟩
  | .hbm, ⟨41, _⟩ => ⟨S256x1024, .f32⟩
  | .hbm, ⟨42, _⟩ => ⟨S1024, .f32⟩
  | .hbm, ⟨43, _⟩ => ⟨S_, .i32⟩
  | .hbm, ⟨44, _⟩ => ⟨S1, .i32⟩
  | .hbm, ⟨45, _⟩ => ⟨S256x1024, .f32⟩
  | .hbm, ⟨46, _⟩ => ⟨S1024, .f32⟩
  | .hbm, ⟨47, _⟩ => ⟨S_, .i32⟩
  | .hbm, ⟨48, _⟩ => ⟨S1, .i32⟩
  | .hbm, ⟨49, _⟩ => ⟨S256x1024, .f32⟩
  | .hbm, ⟨50, _⟩ => ⟨S_, .f32⟩
  | .hbm, ⟨51, _⟩ => ⟨S1x256, .f32⟩
  | .hbm, ⟨52, _⟩ => ⟨S_, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S1x256, .f32⟩
  | .hbm, ⟨59, _⟩ => ⟨S_, .f32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S2, .i32⟩
  | .hbm, ⟨65, _⟩ => ⟨S1x256, .f32⟩
  | .hbm, ⟨66, _⟩ => ⟨S_, .f32⟩
  | .hbm, ⟨67, _⟩ => ⟨S_, .i32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S2, .i32⟩
  | .hbm, ⟨72, _⟩ => ⟨S1x256, .f32⟩
  | .hbm, ⟨73, _⟩ => ⟨S4, .f32⟩
  | .hbm, ⟨74, _⟩ => ⟨S4, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4096x1024, .bf16⟩
  | .hbm, ⟨83, _⟩ => ⟨S1024x4096, .bf16⟩
  | .hbm, ⟨84, _⟩ => ⟨S1024x1024, .bf16⟩
  | .hbm, ⟨85, _⟩ => ⟨S1x1024, .f32⟩
  | .hbm, ⟨86, _⟩ => ⟨S2048x1024, .bf16⟩
  | .hbm, ⟨87, _⟩ => ⟨S1x2048, .f32⟩
  | .hbm, ⟨88, _⟩ => ⟨S1024x2048, .bf16⟩
  | .hbm, ⟨89, _⟩ => ⟨S1x1024, .f32⟩
  | .hbm, ⟨90, _⟩ => ⟨S2x4096x1024, .f32⟩
  | .hbm, ⟨91, _⟩ => ⟨S2x4096x128, .f32⟩
  | .hbm, ⟨92, _⟩ => ⟨S2x4096x64, .f32⟩
  | .hbm, ⟨93, _⟩ => ⟨S1024x64, .bf16⟩
  | .hbm, ⟨94, _⟩ => ⟨S2x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S8x1024, .f32⟩
  | .local _ .vmem, ⟨5, _⟩ => ⟨S1024x1024, .bf16⟩
  | .local _ .vmem, ⟨6, _⟩ => ⟨S1x1024, .f32⟩
  | .local _ .vmem, ⟨7, _⟩ => ⟨S256x1024, .f32⟩
  | .local _ .vmem, ⟨8, _⟩ => ⟨S1x256, .f32⟩
  | .local _ .vmem, ⟨9, _⟩ => ⟨S4096x1024, .bf16⟩
  | .local _ .vmem, ⟨10, _⟩ => ⟨S1024x4096, .bf16⟩
  | .local _ .vmem, ⟨11, _⟩ => ⟨S2048x1024, .bf16⟩
  | .local _ .vmem, ⟨12, _⟩ => ⟨S1x2048, .f32⟩
  | .local _ .vmem, ⟨13, _⟩ => ⟨S1024x2048, .bf16⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x128, .f32⟩
  | .local _ .vmem, ⟨18, _⟩ => ⟨S1x256x128, .f32⟩
  | .local _ .vmem, ⟨19, _⟩ => ⟨S1x256x64, .f32⟩
  | .local _ .vmem, ⟨20, _⟩ => ⟨S1x256x64, .f32⟩
  | .local _ .vmem, ⟨21, _⟩ => ⟨S4x8x1024, .f32⟩
  | .local _ .vmem, ⟨22, _⟩ => ⟨S4x256x264, .f32⟩
  | .local _ .vmem, ⟨23, _⟩ => ⟨S1x256x64, .f32⟩
  | .local _ .vmem, ⟨24, _⟩ => ⟨S1x256x64, .f32⟩
  | .local _ .vmem, ⟨25, _⟩ => ⟨S1x256x64, .f32⟩
  | .local _ .vmem, ⟨26, _⟩ => ⟨S1x256x64, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S1024x64, .bf16⟩
  | .local _ .vmem, ⟨36, _⟩ => ⟨S1x256x1024, .f32⟩
  | .local _ .vmem, ⟨37, _⟩ => ⟨S1x256x1024, .f32⟩
  | .local _ .vmem, ⟨38, _⟩ => ⟨S2x256x128, .f32⟩
  | .local _ .smem, ⟨0, _⟩ => ⟨S4, .f32⟩
  | .local _ .smem, ⟨1, _⟩ => ⟨S4, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_4 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_5 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_6 : Ref sig .tc := ⟨.hbm, 47, rfl⟩
abbrev main_v18 : Ref sig .tc := ⟨.hbm, 48, rfl⟩
abbrev main_v19 : Ref sig .tc := ⟨.hbm, 49, rfl⟩
abbrev main_cst_7 : Ref sig .tc := ⟨.hbm, 50, rfl⟩
abbrev main_v20 : Ref sig .tc := ⟨.hbm, 51, rfl⟩
abbrev main_v21 : Ref sig .tc := ⟨.hbm, 52, rfl⟩
abbrev main_c_8 : Ref sig .tc := ⟨.hbm, 53, rfl⟩
abbrev main_v22 : Ref sig .tc := ⟨.hbm, 54, rfl⟩
abbrev main_c_9 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_10 : Ref sig .tc := ⟨.hbm, 60, rfl⟩
abbrev main_v27 : Ref sig .tc := ⟨.hbm, 61, rfl⟩
abbrev main_c_11 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_12 : Ref sig .tc := ⟨.hbm, 67, rfl⟩
abbrev main_v32 : Ref sig .tc := ⟨.hbm, 68, rfl⟩
abbrev main_c_13 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_14 : Ref sig .tc := ⟨.hbm, 75, rfl⟩
abbrev main_v38 : Ref sig .tc := ⟨.hbm, 76, rfl⟩
abbrev main_v39 : Ref sig .tc := ⟨.hbm, 77, rfl⟩
abbrev main_cst_15 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51_0 : Ref sig .tc := ⟨.hbm, 90, rfl⟩
abbrev main_v51_1 : Ref sig .tc := ⟨.hbm, 91, rfl⟩
abbrev main_v51_2 : Ref sig .tc := ⟨.hbm, 92, rfl⟩
abbrev main_v52 : Ref sig .tc := ⟨.hbm, 93, rfl⟩
abbrev main_v53 : Ref sig .tc := ⟨.hbm, 94, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg15_1 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg7_1 : Ref sig .tc := ⟨.vmem, 37, rfl⟩
abbrev cc1_scratch0 : Ref sig .tc := ⟨.vmem, 38, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem7_0 : DmaSem sig := 36
abbrev cc1_sem7_1 : DmaSem sig := 37

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev grid1 : Pipeline.Grid := ⟨3, ![2, 16, 16], ![false, false, false]⟩

def k1_cond2 (i : grid1.Coords) : BitVec 1 :=
  let arg2 : BitVec 32 := BitVec.ofNat 32 (i 2).val
  let c15_i32 : BitVec 32 := 15#32
  let v58 : BitVec 1 := Scalar.cmpi .eq arg2 c15_i32
  let v59 : BitVec 32 := Scalar.extui v58
  let c0_i32_29 : BitVec 32 := 0#32
  let v60 : BitVec 1 := Scalar.cmpi .ne v59 c0_i32_29
  v60

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 1 → Memref sig .tc .vmem S1024x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]
-- ==== ReferenceIdeal.lean ====
abbrev S2x4096x1024 : Shape := ⟨3, ![2, 4096, 1024]⟩
abbrev S1024x4 : Shape := ⟨2, ![1024, 4]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S1024x2048 : Shape := ⟨2, ![1024, 2048]⟩
abbrev S4096x1024 : Shape := ⟨2, ![4096, 1024]⟩
abbrev S1024x4096 : Shape := ⟨2, ![1024, 4096]⟩
abbrev S4 : Shape := ⟨1, ![4]⟩
abbrev S32x1024 : Shape := ⟨2, ![32, 1024]⟩
abbrev S64x1024 : Shape := ⟨2, ![64, 1024]⟩
abbrev S1024x64 : Shape := ⟨2, ![1024, 64]⟩
abbrev S1x1024 : Shape := ⟨2, ![1, 1024]⟩
abbrev S1 : Shape := ⟨1, ![1]⟩
abbrev S_ : Shape := ⟨0, ![]⟩
abbrev S2x4096 : Shape := ⟨2, ![2, 4096]⟩
abbrev S2x4096x1 : Shape := ⟨3, ![2, 4096, 1]⟩
abbrev S2x4099x1024 : Shape := ⟨3, ![2, 4099, 1024]⟩
abbrev S1024x1 : Shape := ⟨2, ![1024, 1]⟩
abbrev S1x1x1024 : Shape := ⟨3, ![1, 1, 1024]⟩
abbrev S2x4096x4096 : Shape := ⟨3, ![2, 4096, 4096]⟩
abbrev S2x4096x4x1024 : Shape := ⟨4, ![2, 4096, 4, 1024]⟩
abbrev S2x4x1024 : Shape := ⟨3, ![2, 4, 1024]⟩
abbrev S4096x2x4x1024 : Shape := ⟨4, ![4096, 2, 4, 1024]⟩
abbrev S1x2x4x1024 : Shape := ⟨4, ![1, 2, 4, 1024]⟩
abbrev S1x4x1 : Shape := ⟨3, ![1, 4, 1]⟩
abbrev S1x1x1 : Shape := ⟨3, ![1, 1, 1]⟩
abbrev S1024x32 : Shape := ⟨2, ![1024, 32]⟩
abbrev S2x4096x32 : Shape := ⟨3, ![2, 4096, 32]⟩
abbrev S2x4096x2x16 : Shape := ⟨4, ![2, 4096, 2, 16]⟩
abbrev S16 : Shape := ⟨1, ![16]⟩
abbrev S1x1x1x16 : Shape := ⟨4, ![1, 1, 1, 16]⟩
abbrev S2x4096x2 : Shape := ⟨3, ![2, 4096, 2]⟩
abbrev S2x4096x64 : Shape := ⟨3, ![2, 4096, 64]⟩
abbrev S2 : Shape := ⟨1, ![2]⟩
abbrev S2x1 : Shape := ⟨2, ![2, 1]⟩
abbrev S2x65536x64 : Shape := ⟨3, ![2, 65536, 64]⟩
abbrev S2x65536x1 : Shape := ⟨3, ![2, 65536, 1]⟩
abbrev S2x4096x2048 : Shape := ⟨3, ![2, 4096, 2048]⟩
abbrev S1x1x2048 : Shape := ⟨3, ![1, 1, 2048]⟩

abbrev nBuf : Space → Nat
  | .hbm => 452
  | .vmem => 0
  | .smem => 0
  | _ => 0

abbrev hbmTy0_0 (i : Nat) : BufTy := match i % 128 with
  | 0 => ⟨S2x4096x1024, .f32⟩
  | 1 => ⟨S1024x4, .f32⟩
  | 2 => ⟨S1024x1024, .f32⟩
  | 3 => ⟨S1024, .f32⟩
  | 4 => ⟨S2048x1024, .f32⟩
  | 5 => ⟨S2048, .f32⟩
  | 6 => ⟨S1024x2048, .f32⟩
  | 7 => ⟨S1024, .f32⟩
  | 8 => ⟨S4096x1024, .f32⟩
  | 9 => ⟨S1024x4096, .f32⟩
  | 10 => ⟨S4, .f32⟩
  | 11 => ⟨S32x1024, .f32⟩
  | 12 => ⟨S32x1024, .f32⟩
  | 13 => ⟨S64x1024, .f32⟩
  | 14 => ⟨S1024x64, .f32⟩
  | 15 => ⟨S1x1024, .f32⟩
  | 16 => ⟨S1, .f32⟩
  | 17 => ⟨S1x1024, .f32⟩
  | 18 => ⟨S1, .f32⟩
  | 19 => ⟨S1x1024, .f32⟩
  | 20 => ⟨S1, .f32⟩
  | 21 => ⟨S2x4096x1024, .f32⟩
  | 22 => ⟨S_, .f32⟩
  | 23 => ⟨S2x4096, .f32⟩
  | 24 => ⟨S2x4096x1, .f32⟩
  | 25 => ⟨S_, .f32⟩
  | 26 => ⟨S2x4096x1, .f32⟩
  | 27 => ⟨S2x4096x1, .f32⟩
  | 28 => ⟨S_, .f32⟩
  | 29 => ⟨S2x4096x1, .f32⟩
  | 30 => ⟨S2x4096x1, .f32⟩
  | 31 => ⟨S2x4096x1, .f32⟩
  | 32 => ⟨S2x4096x1024, .f32⟩
  | 33 => ⟨S2x4096x1024, .f32⟩
  | 34 => ⟨S_, .i32⟩
  | 35 => ⟨S_, .f32⟩
  | 36 => ⟨S2x4099x1024, .f32⟩
  | 37 => ⟨S_, .f32⟩
  | 38 => ⟨S2x4096x1024, .f32⟩
  | 39 => ⟨S2x4096x1024, .f32⟩
  | 40 => ⟨S1024x1, .f32⟩
  | 41 => ⟨S1024, .f32⟩
  | 42 => ⟨S1x1x1024, .f32⟩
  | 43 => ⟨S2x4096x1024, .f32⟩
  | 44 => ⟨S2x4096x1024, .f32⟩
  | 45 => ⟨S2x4096x1024, .f32⟩
  | 46 => ⟨S2x4096x1024, .f32⟩
  | 47 => ⟨S1024x1, .f32⟩
  | 48 => ⟨S1024, .f32⟩
  | 49 => ⟨S1x1x1024, .f32⟩
  | 50 => ⟨S2x4096x1024, .f32⟩
  | 51 => ⟨S2x4096x1024, .f32⟩
  | 52 => ⟨S2x4096x1024, .f32⟩
  | 53 => ⟨S2x4096x1024, .f32⟩
  | 54 => ⟨S1024x1, .f32⟩
  | 55 => ⟨S1024, .f32⟩
  | 56 => ⟨S1x1x1024, .f32⟩
  | 57 => ⟨S2x4096x1024, .f32⟩
  | 58 => ⟨S2x4096x1024, .f32⟩
  | 59 => ⟨S2x4096x1024, .f32⟩
  | 60 => ⟨S2x4096x1024, .f32⟩
  | 61 => ⟨S1024x1, .f32⟩
  | 62 => ⟨S1024, .f32⟩
  | 63 => ⟨S1x1x1024, .f32⟩
  | 64 => ⟨S2x4096x1024, .f32⟩
  | 65 => ⟨S2x4096x1024, .f32⟩
  | 66 => ⟨S2x4096x1024, .f32⟩
  | 67 => ⟨S1024x1024, .f32⟩
  | 68 => ⟨S2x4096x1024, .f32⟩
  | 69 => ⟨S1x1x1024, .f32⟩
  | 70 => ⟨S2x4096x1024, .f32⟩
  | 71 => ⟨S2x4096x1024, .f32⟩
  | 72 => ⟨S2x4096x1024, .f32⟩
  | 73 => ⟨S2x4096x1024, .f32⟩
  | 74 => ⟨S_, .f32⟩
  | 75 => ⟨S2x4096x1024, .f32⟩
  | 76 => ⟨S2x4096x1024, .f32⟩
  | 77 => ⟨S_, .f32⟩
  | 78 => ⟨S2x4096x1024, .f32⟩
  | 79 => ⟨S2x4096x1024, .f32⟩
  | 80 => ⟨S2x4096x1024, .f32⟩
  | 81 => ⟨S1024x4096, .f32⟩
  | 82 => ⟨S2x4096x4096, .f32⟩
  | 83 => ⟨S2x4096x4x1024, .f32⟩
  | 84 => ⟨S4, .f32⟩
  | 85 => ⟨S4, .f32⟩
  | 86 => ⟨S_, .f32⟩
  | 87 => ⟨S4, .f32⟩
  | 88 => ⟨S4, .f32⟩
  | 89 => ⟨S_, .f32⟩
  | 90 => ⟨S4, .f32⟩
  | 91 => ⟨S4, .f32⟩
  | 92 => ⟨S_, .f32⟩
  | 93 => ⟨S2x4x1024, .f32⟩
  | 94 => ⟨S4096x2x4x1024, .f32⟩
  | 95 => ⟨S_, .f32⟩
  | 96 => ⟨S4096x2x4x1024, .f32⟩
  | 97 => ⟨S_, .i32⟩
  | 98 => ⟨S4096x2x4x1024, .f32⟩
  | 99 => ⟨S4, .f32⟩
  | 100 => ⟨S_, .i32⟩
  | 101 => ⟨S2x4x1024, .f32⟩
  | 102 => ⟨S4096x2x4x1024, .f32⟩
  | 103 => ⟨S_, .i32⟩
  | 104 => ⟨S_, .i1⟩
  | 105 => ⟨S_, .i32⟩
  | 106 => ⟨S_, .i32⟩
  | 107 => ⟨S_, .i32⟩
  | 108 => ⟨S1x2x4x1024, .f32⟩
  | 109 => ⟨S2x4x1024, .f32⟩
  | 110 => ⟨S1x4x1, .f32⟩
  | 111 => ⟨S2x4x1024, .f32⟩
  | 112 => ⟨S2x4x1024, .f32⟩
  | 113 => ⟨S1x4x1, .f32⟩
  | 114 => ⟨S_, .f32⟩
  | 115 => ⟨S1x4x1, .f32⟩
  | 116 => ⟨S1x4x1, .f32⟩
  | 117 => ⟨S2x4x1024, .f32⟩
  | 118 => ⟨S2x4x1024, .f32⟩
  | 119 => ⟨S2x4x1024, .f32⟩
  | 120 => ⟨S1x2x4x1024, .f32⟩
  | 121 => ⟨S_, .i32⟩
  | 122 => ⟨S_, .i32⟩
  | 123 => ⟨S_, .i32⟩
  | 124 => ⟨S4096x2x4x1024, .f32⟩
  | 125 => ⟨S_, .i32⟩
  | 126 => ⟨S_, .i32⟩
  | 127 => ⟨S2x4096x4x1024, .f32⟩
  | _ => ⟨S2x4096x1024, .f32⟩

abbrev hbmTy0_1 (i : Nat) : BufTy := match i % 128 with
  | 0 => ⟨S2x4096x4096, .f32⟩
  | 1 => ⟨S2x4096x1024, .f32⟩
  | 2 => ⟨S_, .f32⟩
  | 3 => ⟨S2x4096, .f32⟩
  | 4 => ⟨S2x4096x1, .f32⟩
  | 5 => ⟨S_, .f32⟩
  | 6 => ⟨S2x4096x1, .f32⟩
  | 7 => ⟨S2x4096x1, .f32⟩
  | 8 => ⟨S_, .f32⟩
  | 9 => ⟨S2x4096x1, .f32⟩
  | 10 => ⟨S2x4096x1, .f32⟩
  | 11 => ⟨S2x4096x1, .f32⟩
  | 12 => ⟨S2x4096x1024, .f32⟩
  | 13 => ⟨S2x4096x1024, .f32⟩
  | 14 => ⟨S_, .i32⟩
  | 15 => ⟨S_, .f32⟩
  | 16 => ⟨S2x4099x1024, .f32⟩
  | 17 => ⟨S_, .f32⟩
  | 18 => ⟨S2x4096x1024, .f32⟩
  | 19 => ⟨S2x4096x1024, .f32⟩
  | 20 => ⟨S1024x1, .f32⟩
  | 21 => ⟨S1024, .f32⟩
  | 22 => ⟨S1x1x1024, .f32⟩
  | 23 => ⟨S2x4096x1024, .f32⟩
  | 24 => ⟨S2x4096x1024, .f32⟩
  | 25 => ⟨S2x4096x1024, .f32⟩
  | 26 => ⟨S2x4096x1024, .f32⟩
  | 27 => ⟨S1024x1, .f32⟩
  | 28 => ⟨S1024, .f32⟩
  | 29 => ⟨S1x1x1024, .f32⟩
  | 30 => ⟨S2x4096x1024, .f32⟩
  | 31 => ⟨S2x4096x1024, .f32⟩
  | 32 => ⟨S2x4096x1024, .f32⟩
  | 33 => ⟨S2x4096x1024, .f32⟩
  | 34 => ⟨S1024x1, .f32⟩
  | 35 => ⟨S1024, .f32⟩
  | 36 => ⟨S1x1x1024, .f32⟩
  | 37 => ⟨S2x4096x1024, .f32⟩
  | 38 => ⟨S2x4096x1024, .f32⟩
  | 39 => ⟨S2x4096x1024, .f32⟩
  | 40 => ⟨S2x4096x1024, .f32⟩
  | 41 => ⟨S1024x1, .f32⟩
  | 42 => ⟨S1024, .f32⟩
  | 43 => ⟨S1x1x1024, .f32⟩
  | 44 => ⟨S2x4096x1024, .f32⟩
  | 45 => ⟨S2x4096x1024, .f32⟩
  | 46 => ⟨S2x4096x1024, .f32⟩
  | 47 => ⟨S1024x1024, .f32⟩
  | 48 => ⟨S2x4096x1024, .f32⟩
  | 49 => ⟨S1x1x1024, .f32⟩
  | 50 => ⟨S2x4096x1024, .f32⟩
  | 51 => ⟨S2x4096x1024, .f32⟩
  | 52 => ⟨S2x4096x1024, .f32⟩
  | 53 => ⟨S2x4096x1024, .f32⟩
  | 54 => ⟨S_, .f32⟩
  | 55 => ⟨S2x4096x1024, .f32⟩
  | 56 => ⟨S2x4096x1024, .f32⟩
  | 57 => ⟨S_, .f32⟩
  | 58 => ⟨S2x4096x1024, .f32⟩
  | 59 => ⟨S2x4096x1024, .f32⟩
  | 60 => ⟨S2x4096x1024, .f32⟩
  | 61 => ⟨S4096x1024, .f32⟩
  | 62 => ⟨S2x4096x1024, .f32⟩
  | 63 => ⟨S1024x1, .f32⟩
  | 64 => ⟨S2x4096x1, .f32⟩
  | 65 => ⟨S1x1x1, .f32⟩
  | 66 => ⟨S2x4096x1, .f32⟩
  | 67 => ⟨S2x4096x1, .f32⟩
  | 68 => ⟨S2x4096x1, .f32⟩
  | 69 => ⟨S2x4096x1, .f32⟩
  | 70 => ⟨S_, .f32⟩
  | 71 => ⟨S2x4096x1, .f32⟩
  | 72 => ⟨S2x4096x1, .f32⟩
  | 73 => ⟨S_, .f32⟩
  | 74 => ⟨S2x4096x1, .f32⟩
  | 75 => ⟨S2x4096x1, .f32⟩
  | 76 => ⟨S2x4096x1024, .f32⟩
  | 77 => ⟨S2x4096x1024, .f32⟩
  | 78 => ⟨S1024x32, .f32⟩
  | 79 => ⟨S2x4096x32, .f32⟩
  | 80 => ⟨S_, .f32⟩
  | 81 => ⟨S2x4096x32, .f32⟩
  | 82 => ⟨S2x4096x32, .i1⟩
  | 83 => ⟨S2x4096x32, .i32⟩
  | 84 => ⟨S2x4096x2x16, .i32⟩
  | 85 => ⟨S16, .i32⟩
  | 86 => ⟨S_, .i32⟩
  | 87 => ⟨S16, .i32⟩
  | 88 => ⟨S16, .i32⟩
  | 89 => ⟨S1x1x1x16, .i32⟩
  | 90 => ⟨S2x4096x2x16, .i32⟩
  | 91 => ⟨S2x4096x2x16, .i32⟩
  | 92 => ⟨S_, .i32⟩
  | 93 => ⟨S2x4096x2, .i32⟩
  | 94 => ⟨S_, .i32⟩
  | 95 => ⟨S2x4096x2, .i32⟩
  | 96 => ⟨S2x4096x2, .i32⟩
  | 97 => ⟨S1024x32, .f32⟩
  | 98 => ⟨S2x4096x32, .f32⟩
  | 99 => ⟨S_, .f32⟩
  | 100 => ⟨S2x4096x32, .f32⟩
  | 101 => ⟨S2x4096x32, .i1⟩
  | 102 => ⟨S2x4096x32, .i32⟩
  | 103 => ⟨S2x4096x2x16, .i32⟩
  | 104 => ⟨S16, .i32⟩
  | 105 => ⟨S_, .i32⟩
  | 106 => ⟨S16, .i32⟩
  | 107 => ⟨S16, .i32⟩
  | 108 => ⟨S1x1x1x16, .i32⟩
  | 109 => ⟨S2x4096x2x16, .i32⟩
  | 110 => ⟨S2x4096x2x16, .i32⟩
  | 111 => ⟨S_, .i32⟩
  | 112 => ⟨S2x4096x2, .i32⟩
  | 113 => ⟨S_, .i32⟩
  | 114 => ⟨S2x4096x2, .i32⟩
  | 115 => ⟨S2x4096x2, .i32⟩
  | 116 => ⟨S1024x64, .f32⟩
  | 117 => ⟨S2x4096x64, .f32⟩
  | 118 => ⟨S1024x1, .f32⟩
  | 119 => ⟨S2x4096x1, .f32⟩
  | 120 => ⟨S1x1x1, .f32⟩
  | 121 => ⟨S2x4096x1, .f32⟩
  | 122 => ⟨S2x4096x1, .f32⟩
  | 123 => ⟨S2x4096x1, .f32⟩
  | 124 => ⟨S2x4096x1, .f32⟩
  | 125 => ⟨S_, .f32⟩
  | 126 => ⟨S2x4096x1, .f32⟩
  | 127 => ⟨S2x4096x1, .f32⟩
  | _ => ⟨S2x4096x1024, .f32⟩

abbrev hbmTy0_2 (i : Nat) : BufTy := match i % 128 with
  | 0 => ⟨S_, .f32⟩
  | 1 => ⟨S2x4096x1, .f32⟩
  | 2 => ⟨S2x4096x1, .f32⟩
  | 3 => ⟨S2x4096x64, .f32⟩
  | 4 => ⟨S2x4096x64, .f32⟩
  | 5 => ⟨S2, .i32⟩
  | 6 => ⟨S2x1, .i32⟩
  | 7 => ⟨S_, .f32⟩
  | 8 => ⟨S2x65536x64, .f32⟩
  | 9 => ⟨S_, .f32⟩
  | 10 => ⟨S2x65536x1, .f32⟩
  | 11 => ⟨S2x4096x1, .i32⟩
  | 12 => ⟨S2x4096, .i32⟩
  | 13 => ⟨S_, .i32⟩
  | 14 => ⟨S2x1, .i32⟩
  | 15 => ⟨S2x1, .i1⟩
  | 16 => ⟨S_, .i32⟩
  | 17 => ⟨S2x1, .i32⟩
  | 18 => ⟨S2x1, .i32⟩
  | 19 => ⟨S2x1, .i32⟩
  | 20 => ⟨S_, .i32⟩
  | 21 => ⟨S2x4096, .i32⟩
  | 22 => ⟨S2x4096, .i1⟩
  | 23 => ⟨S_, .i32⟩
  | 24 => ⟨S2x4096, .i32⟩
  | 25 => ⟨S2x4096, .i32⟩
  | 26 => ⟨S2x4096, .i32⟩
  | 27 => ⟨S2x4096, .i32⟩
  | 28 => ⟨S2x4096x1, .i32⟩
  | 29 => ⟨S2x4096x1, .i32⟩
  | 30 => ⟨S2x4096x2, .i32⟩
  | 31 => ⟨S2x65536x64, .f32⟩
  | 32 => ⟨S2x4096x1, .i32⟩
  | 33 => ⟨S2x4096, .i32⟩
  | 34 => ⟨S_, .i32⟩
  | 35 => ⟨S2x1, .i32⟩
  | 36 => ⟨S2x1, .i1⟩
  | 37 => ⟨S_, .i32⟩
  | 38 => ⟨S2x1, .i32⟩
  | 39 => ⟨S2x1, .i32⟩
  | 40 => ⟨S2x1, .i32⟩
  | 41 => ⟨S_, .i32⟩
  | 42 => ⟨S2x4096, .i32⟩
  | 43 => ⟨S2x4096, .i1⟩
  | 44 => ⟨S_, .i32⟩
  | 45 => ⟨S2x4096, .i32⟩
  | 46 => ⟨S2x4096, .i32⟩
  | 47 => ⟨S2x4096, .i32⟩
  | 48 => ⟨S2x4096, .i32⟩
  | 49 => ⟨S2x4096x1, .i32⟩
  | 50 => ⟨S2x4096x1, .i32⟩
  | 51 => ⟨S2x4096x2, .i32⟩
  | 52 => ⟨S2x65536x1, .f32⟩
  | 53 => ⟨S2x4096x1, .i32⟩
  | 54 => ⟨S2x4096, .i32⟩
  | 55 => ⟨S_, .i32⟩
  | 56 => ⟨S2x1, .i32⟩
  | 57 => ⟨S2x1, .i1⟩
  | 58 => ⟨S_, .i32⟩
  | 59 => ⟨S2x1, .i32⟩
  | 60 => ⟨S2x1, .i32⟩
  | 61 => ⟨S2x1, .i32⟩
  | 62 => ⟨S_, .i32⟩
  | 63 => ⟨S2x4096, .i32⟩
  | 64 => ⟨S2x4096, .i1⟩
  | 65 => ⟨S_, .i32⟩
  | 66 => ⟨S2x4096, .i32⟩
  | 67 => ⟨S2x4096, .i32⟩
  | 68 => ⟨S2x4096, .i32⟩
  | 69 => ⟨S2x4096, .i32⟩
  | 70 => ⟨S2x4096x1, .i32⟩
  | 71 => ⟨S2x4096x1, .i32⟩
  | 72 => ⟨S2x4096x2, .i32⟩
  | 73 => ⟨S2x65536x64, .f32⟩
  | 74 => ⟨S2x4096x1, .i32⟩
  | 75 => ⟨S2x4096, .i32⟩
  | 76 => ⟨S_, .i32⟩
  | 77 => ⟨S2x1, .i32⟩
  | 78 => ⟨S2x1, .i1⟩
  | 79 => ⟨S_, .i32⟩
  | 80 => ⟨S2x1, .i32⟩
  | 81 => ⟨S2x1, .i32⟩
  | 82 => ⟨S2x1, .i32⟩
  | 83 => ⟨S_, .i32⟩
  | 84 => ⟨S2x4096, .i32⟩
  | 85 => ⟨S2x4096, .i1⟩
  | 86 => ⟨S_, .i32⟩
  | 87 => ⟨S2x4096, .i32⟩
  | 88 => ⟨S2x4096, .i32⟩
  | 89 => ⟨S2x4096, .i32⟩
  | 90 => ⟨S2x4096, .i32⟩
  | 91 => ⟨S2x4096x1, .i32⟩
  | 92 => ⟨S2x4096x1, .i32⟩
  | 93 => ⟨S2x4096x2, .i32⟩
  | 94 => ⟨S2x65536x1, .f32⟩
  | 95 => ⟨S_, .f32⟩
  | 96 => ⟨S2x65536x1, .f32⟩
  | 97 => ⟨S2x65536x1, .f32⟩
  | 98 => ⟨S2x65536x64, .f32⟩
  | 99 => ⟨S2x65536x64, .f32⟩
  | 100 => ⟨S_, .f32⟩
  | 101 => ⟨S2x4096x64, .f32⟩
  | 102 => ⟨S2x4096x1, .i32⟩
  | 103 => ⟨S2x4096, .i32⟩
  | 104 => ⟨S_, .i32⟩
  | 105 => ⟨S2x1, .i32⟩
  | 106 => ⟨S2x1, .i1⟩
  | 107 => ⟨S_, .i32⟩
  | 108 => ⟨S2x1, .i32⟩
  | 109 => ⟨S2x1, .i32⟩
  | 110 => ⟨S2x1, .i32⟩
  | 111 => ⟨S_, .i32⟩
  | 112 => ⟨S2x4096, .i32⟩
  | 113 => ⟨S2x4096, .i1⟩
  | 114 => ⟨S_, .i32⟩
  | 115 => ⟨S2x4096, .i32⟩
  | 116 => ⟨S2x4096, .i32⟩
  | 117 => ⟨S2x4096, .i32⟩
  | 118 => ⟨S2x4096, .i32⟩
  | 119 => ⟨S2x4096x1, .i32⟩
  | 120 => ⟨S2x4096x1, .i32⟩
  | 121 => ⟨S2x4096x2, .i32⟩
  | 122 => ⟨S2x4096x64, .f32⟩
  | 123 => ⟨S2x4096x64, .f32⟩
  | 124 => ⟨S2x4096x1, .i32⟩
  | 125 => ⟨S2x4096, .i32⟩
  | 126 => ⟨S_, .i32⟩
  | 127 => ⟨S2x1, .i32⟩
  | _ => ⟨S2x4096x1024, .f32⟩

abbrev hbmTy0_3 (i : Nat) : BufTy := match i % 128 with
  | 0 => ⟨S2x1, .i1⟩
  | 1 => ⟨S_, .i32⟩
  | 2 => ⟨S2x1, .i32⟩
  | 3 => ⟨S2x1, .i32⟩
  | 4 => ⟨S2x1, .i32⟩
  | 5 => ⟨S_, .i32⟩
  | 6 => ⟨S2x4096, .i32⟩
  | 7 => ⟨S2x4096, .i1⟩
  | 8 => ⟨S_, .i32⟩
  | 9 => ⟨S2x4096, .i32⟩
  | 10 => ⟨S2x4096, .i32⟩
  | 11 => ⟨S2x4096, .i32⟩
  | 12 => ⟨S2x4096, .i32⟩
  | 13 => ⟨S2x4096x1, .i32⟩
  | 14 => ⟨S2x4096x1, .i32⟩
  | 15 => ⟨S2x4096x2, .i32⟩
  | 16 => ⟨S2x4096x64, .f32⟩
  | 17 => ⟨S2x4096x64, .f32⟩
  | 18 => ⟨S_, .f32⟩
  | 19 => ⟨S2x4096x64, .f32⟩
  | 20 => ⟨S2x4096x64, .f32⟩
  | 21 => ⟨S64x1024, .f32⟩
  | 22 => ⟨S2x4096x1024, .f32⟩
  | 23 => ⟨S1024x1, .f32⟩
  | 24 => ⟨S2x4096x1, .f32⟩
  | 25 => ⟨S1x1x1, .f32⟩
  | 26 => ⟨S2x4096x1, .f32⟩
  | 27 => ⟨S2x4096x1, .f32⟩
  | 28 => ⟨S2x4096x1, .f32⟩
  | 29 => ⟨S2x4096x1, .f32⟩
  | 30 => ⟨S_, .f32⟩
  | 31 => ⟨S2x4096x1, .f32⟩
  | 32 => ⟨S2x4096x1, .f32⟩
  | 33 => ⟨S_, .f32⟩
  | 34 => ⟨S2x4096x1, .f32⟩
  | 35 => ⟨S2x4096x1, .f32⟩
  | 36 => ⟨S2x4096x1024, .f32⟩
  | 37 => ⟨S2x4096x1024, .f32⟩
  | 38 => ⟨S1024x2048, .f32⟩
  | 39 => ⟨S2x4096x2048, .f32⟩
  | 40 => ⟨S1x1x2048, .f32⟩
  | 41 => ⟨S2x4096x2048, .f32⟩
  | 42 => ⟨S2x4096x2048, .f32⟩
  | 43 => ⟨S2x4096x2048, .f32⟩
  | 44 => ⟨S2x4096x2048, .f32⟩
  | 45 => ⟨S_, .f32⟩
  | 46 => ⟨S2x4096x2048, .f32⟩
  | 47 => ⟨S2x4096x2048, .f32⟩
  | 48 => ⟨S2x4096x2048, .f32⟩
  | 49 => ⟨S_, .f32⟩
  | 50 => ⟨S2x4096x2048, .f32⟩
  | 51 => ⟨S2x4096x2048, .f32⟩
  | 52 => ⟨S2x4096x2048, .f32⟩
  | 53 => ⟨S_, .f32⟩
  | 54 => ⟨S2x4096x2048, .f32⟩
  | 55 => ⟨S2x4096x2048, .f32⟩
  | 56 => ⟨S_, .f32⟩
  | 57 => ⟨S2x4096x2048, .f32⟩
  | 58 => ⟨S2x4096x2048, .f32⟩
  | 59 => ⟨S2x4096x2048, .f32⟩
  | 60 => ⟨S2048x1024, .f32⟩
  | 61 => ⟨S2x4096x1024, .f32⟩
  | 62 => ⟨S1x1x1024, .f32⟩
  | 63 => ⟨S2x4096x1024, .f32⟩
  | 64 => ⟨S2x4096x1024, .f32⟩
  | 65 => ⟨S2x4096x1024, .f32⟩
  | 66 => ⟨S2x4096x1024, .f32⟩
  | 67 => ⟨S2x4096x1024, .f32⟩
  | _ => ⟨S2x4096x1024, .f32⟩

abbrev hbmTy (i : Nat) : BufTy := match i / 128 with
  | 0 => hbmTy0_0 i
  | 1 => hbmTy0_1 i
  | 2 => hbmTy0_2 i
  | 3 => hbmTy0_3 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_cst_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_call0_v0 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_3 : Ref sig .tc := ⟨.hbm, 74, rfl⟩
abbrev main_v47 : Ref sig .tc := ⟨.hbm, 75, rfl⟩
abbrev main_v48 : Ref sig .tc := ⟨.hbm, 76, rfl⟩
abbrev main_cst_4 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_5 : Ref sig .tc := ⟨.hbm, 86, rfl⟩
abbrev main_v57 : Ref sig .tc := ⟨.hbm, 87, rfl⟩
abbrev main_v58 : Ref sig .tc := ⟨.hbm, 88, rfl⟩
abbrev main_cst_6 : Ref sig .tc := ⟨.hbm, 89, rfl⟩
abbrev main_v59 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩
abbrev main_cst_8 : Ref sig .tc := ⟨.hbm, 95, rfl⟩
abbrev main_v63 : Ref sig .tc := ⟨.hbm, 96, rfl⟩
abbrev main_c_9 : Ref sig .tc := ⟨.hbm, 97, rfl⟩
abbrev main_v64_0 : Ref sig .tc := ⟨.hbm, 98, rfl⟩
abbrev main_v64_1 : Ref sig .tc := ⟨.hbm, 99, rfl⟩
abbrev main_v64_2 : Ref sig .tc := ⟨.hbm, 100, rfl⟩
abbrev main_v64_3 : Ref sig .tc := ⟨.hbm, 101, rfl⟩
abbrev main_v64_4 : Ref sig .tc := ⟨.hbm, 102, rfl⟩
abbrev main_while0c_c_68 : Ref sig .tc := ⟨.hbm, 103, rfl⟩
abbrev main_while0c_v335 : Ref sig .tc := ⟨.hbm, 104, rfl⟩
abbrev main_while0b_call1_c : Ref sig .tc := ⟨.hbm, 105, rfl⟩
abbrev main_while0b_call1_c_0 : Ref sig .tc := ⟨.hbm, 106, rfl⟩
abbrev main_while0b_call1_c_1 : Ref sig .tc := ⟨.hbm, 107, rfl⟩
abbrev main_while0b_call1_v0 : Ref sig .tc := ⟨.hbm, 108, rfl⟩
abbrev main_while0b_v335 : Ref sig .tc := ⟨.hbm, 109, rfl⟩
abbrev main_while0b_v336 : Ref sig .tc := ⟨.hbm, 110, rfl⟩
abbrev main_while0b_v337 : Ref sig .tc := ⟨.hbm, 111, rfl⟩
abbrev main_while0b_v338 : Ref sig .tc := ⟨.hbm, 112, rfl⟩
abbrev main_while0b_v339 : Ref sig .tc := ⟨.hbm, 113, rfl⟩
abbrev main_while0b_cst_68 : Ref sig .tc := ⟨.hbm, 114, rfl⟩
abbrev main_while0b_v340 : Ref sig .tc := ⟨.hbm, 115, rfl⟩
abbrev main_while0b_v341 : Ref sig .tc := ⟨.hbm, 116, rfl⟩
abbrev main_while0b_v342 : Ref sig .tc := ⟨.hbm, 117, rfl⟩
abbrev main_while0b_v343 : Ref sig .tc := ⟨.hbm, 118, rfl⟩
abbrev main_while0b_v344 : Ref sig .tc := ⟨.hbm, 119, rfl⟩
abbrev main_while0b_call2_v0 : Ref sig .tc := ⟨.hbm, 120, rfl⟩
abbrev main_while0b_call2_c : Ref sig .tc := ⟨.hbm, 121, rfl⟩
abbrev main_while0b_call2_c_0 : Ref sig .tc := ⟨.hbm, 122, rfl⟩
abbrev main_while0b_call2_c_1 : Ref sig .tc := ⟨.hbm, 123, rfl⟩
abbrev main_while0b_v345 : Ref sig .tc := ⟨.hbm, 124, rfl⟩
abbrev main_while0b_c_69 : Ref sig .tc := ⟨.hbm, 125, rfl⟩
abbrev main_while0b_v346 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_cst_10 : Ref sig .tc := ⟨.hbm, 130, rfl⟩
abbrev main_v68 : Ref sig .tc := ⟨.hbm, 131, rfl⟩
abbrev main_v69 : Ref sig .tc := ⟨.hbm, 132, rfl⟩
abbrev main_cst_11 : Ref sig .tc := ⟨.hbm, 133, rfl⟩
abbrev main_v70 : Ref sig .tc := ⟨.hbm, 134, rfl⟩
abbrev main_v71 : Ref sig .tc := ⟨.hbm, 135, rfl⟩
abbrev main_cst_12 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_c_13 : Ref sig .tc := ⟨.hbm, 142, rfl⟩
abbrev main_call3_v0 : Ref sig .tc := ⟨.hbm, 143, rfl⟩
abbrev main_v77 : Ref sig .tc := ⟨.hbm, 144, rfl⟩
abbrev main_cst_14 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_cst_15 : Ref sig .tc := ⟨.hbm, 182, rfl⟩
abbrev main_v114 : Ref sig .tc := ⟨.hbm, 183, rfl⟩
abbrev main_v115 : Ref sig .tc := ⟨.hbm, 184, rfl⟩
abbrev main_cst_16 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_cst_17 : Ref sig .tc := ⟨.hbm, 198, rfl⟩
abbrev main_v128 : Ref sig .tc := ⟨.hbm, 199, rfl⟩
abbrev main_v129 : Ref sig .tc := ⟨.hbm, 200, rfl⟩
abbrev main_cst_18 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_cst_19 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_c_20 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_c_21 : Ref sig .tc := ⟨.hbm, 220, rfl⟩
abbrev main_v146 : Ref sig .tc := ⟨.hbm, 221, rfl⟩
abbrev main_c_22 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_cst_23 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_c_24 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_c_25 : Ref sig .tc := ⟨.hbm, 239, rfl⟩
abbrev main_v161 : Ref sig .tc := ⟨.hbm, 240, rfl⟩
abbrev main_c_26 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_cst_27 : Ref sig .tc := ⟨.hbm, 253, rfl⟩
abbrev main_v173 : Ref sig .tc := ⟨.hbm, 254, rfl⟩
abbrev main_v174 : Ref sig .tc := ⟨.hbm, 255, rfl⟩
abbrev main_cst_28 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_cst_29 : Ref sig .tc := ⟨.hbm, 263, rfl⟩
abbrev main_v181 : Ref sig .tc := ⟨.hbm, 264, rfl⟩
abbrev main_cst_30 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_c_31 : Ref sig .tc := ⟨.hbm, 269, rfl⟩
abbrev main_v185 : Ref sig .tc := ⟨.hbm, 270, rfl⟩
abbrev main_v186 : Ref sig .tc := ⟨.hbm, 271, rfl⟩
abbrev main_c_32 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_c_33 : Ref sig .tc := ⟨.hbm, 276, rfl⟩
abbrev main_v190 : Ref sig .tc := ⟨.hbm, 277, rfl⟩
abbrev main_v191 : Ref sig .tc := ⟨.hbm, 278, rfl⟩
abbrev main_c_34 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_c_35 : Ref sig .tc := ⟨.hbm, 290, rfl⟩
abbrev main_v202 : Ref sig .tc := ⟨.hbm, 291, rfl⟩
abbrev main_v203 : Ref sig .tc := ⟨.hbm, 292, rfl⟩
abbrev main_c_36 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_c_37 : Ref sig .tc := ⟨.hbm, 297, rfl⟩
abbrev main_v207 : Ref sig .tc := ⟨.hbm, 298, rfl⟩
abbrev main_v208 : Ref sig .tc := ⟨.hbm, 299, rfl⟩
abbrev main_c_38 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_c_39 : Ref sig .tc := ⟨.hbm, 311, rfl⟩
abbrev main_v219 : Ref sig .tc := ⟨.hbm, 312, rfl⟩
abbrev main_v220 : Ref sig .tc := ⟨.hbm, 313, rfl⟩
abbrev main_c_40 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_c_41 : Ref sig .tc := ⟨.hbm, 318, rfl⟩
abbrev main_v224 : Ref sig .tc := ⟨.hbm, 319, rfl⟩
abbrev main_v225 : Ref sig .tc := ⟨.hbm, 320, rfl⟩
abbrev main_c_42 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_v233 : Ref sig .tc := ⟨.hbm, 329, rfl⟩
abbrev main_v234 : Ref sig .tc := ⟨.hbm, 330, rfl⟩
abbrev main_v235 : Ref sig .tc := ⟨.hbm, 331, rfl⟩
abbrev main_c_43 : Ref sig .tc := ⟨.hbm, 332, rfl⟩
abbrev main_v236 : Ref sig .tc := ⟨.hbm, 333, rfl⟩
abbrev main_v237 : Ref sig .tc := ⟨.hbm, 334, rfl⟩
abbrev main_c_44 : Ref sig .tc := ⟨.hbm, 335, rfl⟩
abbrev main_v238 : Ref sig .tc := ⟨.hbm, 336, rfl⟩
abbrev main_v239 : Ref sig .tc := ⟨.hbm, 337, rfl⟩
abbrev main_v240 : Ref sig .tc := ⟨.hbm, 338, rfl⟩
abbrev main_c_45 : Ref sig .tc := ⟨.hbm, 339, rfl⟩
abbrev main_v241 : Ref sig .tc := ⟨.hbm, 340, rfl⟩
abbrev main_v242 : Ref sig .tc := ⟨.hbm, 341, rfl⟩
abbrev main_c_46 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_cst_47 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_cst_48 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_c_49 : Ref sig .tc := ⟨.hbm, 360, rfl⟩
abbrev main_v258 : Ref sig .tc := ⟨.hbm, 361, rfl⟩
abbrev main_v259 : Ref sig .tc := ⟨.hbm, 362, rfl⟩
abbrev main_c_50 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_c_51 : Ref sig .tc := ⟨.hbm, 367, rfl⟩
abbrev main_v263 : Ref sig .tc := ⟨.hbm, 368, rfl⟩
abbrev main_v264 : Ref sig .tc := ⟨.hbm, 369, rfl⟩
abbrev main_c_52 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_c_53 : Ref sig .tc := ⟨.hbm, 382, rfl⟩
abbrev main_v276 : Ref sig .tc := ⟨.hbm, 383, rfl⟩
abbrev main_v277 : Ref sig .tc := ⟨.hbm, 384, rfl⟩
abbrev main_c_54 : Ref sig .tc := ⟨.hbm, 385, rfl⟩
abbrev main_v278 : Ref sig .tc := ⟨.hbm, 386, rfl⟩
abbrev main_v279 : Ref sig .tc := ⟨.hbm, 387, rfl⟩
abbrev main_v280 : Ref sig .tc := ⟨.hbm, 388, rfl⟩
abbrev main_c_55 : Ref sig .tc := ⟨.hbm, 389, rfl⟩
abbrev main_v281 : Ref sig .tc := ⟨.hbm, 390, rfl⟩
abbrev main_v282 : Ref sig .tc := ⟨.hbm, 391, rfl⟩
abbrev main_c_56 : Ref sig .tc := ⟨.hbm, 392, rfl⟩
abbrev main_v283 : Ref sig .tc := ⟨.hbm, 393, rfl⟩
abbrev main_v284 : Ref sig .tc := ⟨.hbm, 394, rfl⟩
abbrev main_v285 : Ref sig .tc := ⟨.hbm, 395, rfl⟩
abbrev main_v286 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_cst_57 : Ref sig .tc := ⟨.hbm, 402, rfl⟩
abbrev main_v292 : Ref sig .tc := ⟨.hbm, 403, rfl⟩
abbrev main_v293 : Ref sig .tc := ⟨.hbm, 404, rfl⟩
abbrev main_v294 : Ref sig .tc := ⟨.hbm, 405, rfl⟩
abbrev main_v295 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_v300 : Ref sig .tc := ⟨.hbm, 411, rfl⟩
abbrev main_v301 : Ref sig .tc := ⟨.hbm, 412, rfl⟩
abbrev main_v302 : Ref sig .tc := ⟨.hbm, 413, rfl⟩
abbrev main_cst_58 : Ref sig .tc := ⟨.hbm, 414, rfl⟩
abbrev main_v303 : Ref sig .tc := ⟨.hbm, 415, rfl⟩
abbrev main_v304 : Ref sig .tc := ⟨.hbm, 416, rfl⟩
abbrev main_cst_59 : Ref sig .tc := ⟨.hbm, 417, rfl⟩
abbrev main_v305 : Ref sig .tc := ⟨.hbm, 418, rfl⟩
abbrev main_v306 : Ref sig .tc := ⟨.hbm, 419, rfl⟩
abbrev main_v307 : Ref sig .tc := ⟨.hbm, 420, rfl⟩
abbrev main_v308 : Ref sig .tc := ⟨.hbm, 421, rfl⟩
abbrev main_v309 : Ref sig .tc := ⟨.hbm, 422, rfl⟩
abbrev main_v310 : Ref sig .tc := ⟨.hbm, 423, rfl⟩
abbrev main_v311 : Ref sig .tc := ⟨.hbm, 424, rfl⟩
abbrev main_v312 : Ref sig .tc := ⟨.hbm, 425, rfl⟩
abbrev main_v313 : Ref sig .tc := ⟨.hbm, 426, rfl⟩
abbrev main_v314 : Ref sig .tc := ⟨.hbm, 427, rfl⟩
abbrev main_v315 : Ref sig .tc := ⟨.hbm, 428, rfl⟩
abbrev main_cst_60 : Ref sig .tc := ⟨.hbm, 429, rfl⟩
abbrev main_v316 : Ref sig .tc := ⟨.hbm, 430, rfl⟩
abbrev main_v317 : Ref sig .tc := ⟨.hbm, 431, rfl⟩
abbrev main_v318 : Ref sig .tc := ⟨.hbm, 432, rfl⟩
abbrev main_cst_61 : Ref sig .tc := ⟨.hbm, 433, rfl⟩
abbrev main_v319 : Ref sig .tc := ⟨.hbm, 434, rfl⟩
abbrev main_v320 : Ref sig .tc := ⟨.hbm, 435, rfl⟩
abbrev main_v321 : Ref sig .tc := ⟨.hbm, 436, rfl⟩
abbrev main_cst_62 : Ref sig .tc := ⟨.hbm, 437, rfl⟩
abbrev main_v322 : Ref sig .tc := ⟨.hbm, 438, rfl⟩
abbrev main_v323 : Ref sig .tc := ⟨.hbm, 439, rfl⟩
abbrev main_cst_63 : Ref sig .tc := ⟨.hbm, 440, rfl⟩
abbrev main_v324 : Ref sig .tc := ⟨.hbm, 441, rfl⟩
abbrev main_v325 : Ref sig .tc := ⟨.hbm, 442, rfl⟩
abbrev main_v326 : Ref sig .tc := ⟨.hbm, 443, rfl⟩
abbrev main_v327 : Ref sig .tc := ⟨.hbm, 444, rfl⟩
abbrev main_v328 : Ref sig .tc := ⟨.hbm, 445, rfl⟩
abbrev main_v329 : Ref sig .tc := ⟨.hbm, 446, rfl⟩
abbrev main_v330 : Ref sig .tc := ⟨.hbm, 447, rfl⟩
abbrev main_v331 : Ref sig .tc := ⟨.hbm, 448, rfl⟩
abbrev main_v332 : Ref sig .tc := ⟨.hbm, 449, rfl⟩
abbrev main_v333 : Ref sig .tc := ⟨.hbm, 450, rfl⟩
abbrev main_v334 : Ref sig .tc := ⟨.hbm, 451, rfl⟩

abbrev nD : Nat := 1
abbrev τ : Topo := Topo.v7x

variable {F : FTy → Type} [FloatOps F]

abbrev main_while0_count : Scf.Loop 32 := ⟨0#32, 4096#32, 1#32⟩
-- ==== Proof.MainBase.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

/-! What the first launch reads at a grid point: its windows' blocks and its two branch conditions. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 32 = 0)

abbrev cond0_1 (i : grid0.Coords) : Prop := (Scalar.cmpi .ne (Scalar.extui (Scalar.cmpi .eq (BitVec.ofNat 32 (i 1).val) 0#32)) 0#32) = 1#1

theorem hcond0_1 : ∀ t : Fin cfg0.N, cond0_1 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 16 = 0)

abbrev VO0_15 : View sig .tc .vmem S1x256x1024 .f32 := (Memref.whole cc0_stg15_0 : Memref sig .tc .vmem S1x256x1024 .f32).view

abbrev VO0_16 : View sig .tc .vmem S1x256x128 .f32 := (Memref.whole cc0_stg16_0 : Memref sig .tc .vmem S1x256x128 .f32).view

abbrev VO0_17 : View sig .tc .vmem S1x256x64 .f32 := (Memref.whole cc0_stg17_0 : Memref sig .tc .vmem S1x256x64 .f32).view

abbrev ms0_0 (t : Fin cfg0.N) : Memref sig .tc .smem S4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4096x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x4096 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x2048 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256x64 .f32 := win0_17.stage (cfg0.slots t 17)
abbrev hs0_17 (t : Fin cfg0.N) : (ms0_17 t).IsWhole := hstage0_17 ((cfg0.slots t 17).cast nbuf0_17)

abbrev scM0_0 : Memref sig .tc .vmem S4x8x1024 .f32 := Memref.whole cc0_scratch0
abbrev scM0_1 : Memref sig .tc .vmem S4x256x264 .f32 := Memref.whole cc0_scratch1

abbrev VS0_0 : View sig .tc .vmem S4x8x1024 .f32 := scM0_0.view

abbrev VS0_1 : View sig .tc .vmem S4x256x264 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, scM0_1, owns_whole]; try rfl
end Regions

end Cert.KernelIdeal.Hand

end
-- ==== Proof.MainA.lean ====
module

public import proofs.«01_k».proof.Proof.MainBase

@[expose] public section

set_option maxRecDepth 16384

/-! The first launch's body at its first grid point, and what it leaves. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

set_option maxHeartbeats 4000000 in

noncomputable def kernelRun0_A (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) :
    Σ' (L15 : List (View.Piece (Elt F) S1x256x1024 .f32)), Σ' (L16 : List (View.Piece (Elt F) S1x256x128 .f32)), Σ' (L17 : List (View.Piece (Elt F) S1x256x64 .f32)), Σ' (LS0 : List (View.Piece (Elt F) S4x8x1024 .f32)), { LS1 : List (View.Piece (Elt F) S4x256x264 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    simp only [cc0__main_body_eq_skeleton]; unfold cc0__main_body_skel
    simp only [k0_part9_eq_skeleton, k0_part4_eq_skeleton, k0_part1_eq_skeleton, k0_part2_eq_skeleton, k0_part3_eq_skeleton, k0_part5_eq_skeleton, k0_part6_eq_skeleton, k0_part7_eq_skeleton, k0_part8_eq_skeleton]
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [HS0]; · iexists _; iexact HS0
    iexists _; iexact HS1

theorem cover0_A_15 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).1 S1x256x1024.size (by sl_kernel_rfl) y

def out0_A_15 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) : Vec F S1x256x1024 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).1)

theorem cover0_A_16 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (y : S1x256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.1 S1x256x128.size (by sl_kernel_rfl) y

def out0_A_16 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) : Vec F S1x256x128 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.1)

theorem cover0_A_17 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (y : S1x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.2.1 S1x256x64.size (by sl_kernel_rfl) y

def out0_A_17 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) : Vec F S1x256x64 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.2.1)

theorem scover0_A_0 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (y : S4x8x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.2.2.1 (by sl_whole_mem) y

def sout0_A_0 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) : Vec F S4x8x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.2.2.1)

theorem scover0_A_1 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (y : S4x256x264.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.2.2.2.1 S1x256x264.size (by sl_kernel_rfl) y

def sout0_A_1 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) : Vec F S4x256x264 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14).2.2.2.2.1)
end Regions

end Cert.KernelIdeal.Hand

end
-- ==== Proof.MainB.lean ====
module

public import proofs.«01_k».proof.Proof.MainBase

@[expose] public section

set_option maxRecDepth 16384

/-! The first launch's body past a row's first block, and what it leaves. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

set_option maxHeartbeats 4000000 in

noncomputable def kernelRun0_B (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : ¬cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs0 : Vec F S4x8x1024 .f32) (xs1 : Vec F S4x256x264 .f32) :
    Σ' (L15 : List (View.Piece (Elt F) S1x256x1024 .f32)), Σ' (L16 : List (View.Piece (Elt F) S1x256x128 .f32)), Σ' (L17 : List (View.Piece (Elt F) S1x256x64 .f32)), Σ' (LS0 : List (View.Piece (Elt F) S4x8x1024 .f32)), { LS1 : List (View.Piece (Elt F) S4x256x264 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (arg20.view.loc (c : Thread nD τ) ↦[arg20.view.set]{fullShare} arg20.view.writes (Elt F) (harg20.unread xs0) LS0) ∗ owns (c : Thread nD τ) arg21 fullShare xs1) -∗ K ⟨⟩))
          ⊢ wp frame (wpE (defs₀ (F := F)) Variants.none c none) E (cc0__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, [], fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg20.eq_unread hfs0; obtain rfl := harg21.eq_unread hfs1
    simp only [cc0__main_body_eq_skeleton]; unfold cc0__main_body_skel
    simp only [k0_part9_eq_skeleton, k0_part4_eq_skeleton, k0_part5_eq_skeleton, k0_part6_eq_skeleton, k0_part7_eq_skeleton, k0_part8_eq_skeleton]
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [HS0]; · iexact HS0
    iexists _; isplitr; · ipureintro; exact harg21.read_unread _
    iexact HS1

theorem cover0_B_15 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : ¬cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs0 : Vec F S4x8x1024 .f32) (xs1 : Vec F S4x256x264 .f32) (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).1 S1x256x1024.size (by sl_kernel_rfl) y

def out0_B_15 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : ¬cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs0 : Vec F S4x8x1024 .f32) (xs1 : Vec F S4x256x264 .f32) : Vec F S1x256x1024 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).1)

theorem cover0_B_16 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : ¬cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs0 : Vec F S4x8x1024 .f32) (xs1 : Vec F S4x256x264 .f32) (y : S1x256x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).2.1 S1x256x128.size (by sl_kernel_rfl) y

def out0_B_16 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : ¬cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs0 : Vec F S4x8x1024 .f32) (xs1 : Vec F S4x256x264 .f32) : Vec F S1x256x128 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).2.1)

theorem cover0_B_17 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : ¬cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs0 : Vec F S4x8x1024 .f32) (xs1 : Vec F S4x256x264 .f32) (y : S1x256x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).2.2.1 S1x256x64.size (by sl_kernel_rfl) y

def out0_B_17 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : ¬cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs0 : Vec F S4x8x1024 .f32) (xs1 : Vec F S4x256x264 .f32) : Vec F S1x256x64 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).2.2.1)

def sout0_B_0 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : ¬cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs0 : Vec F S4x8x1024 .f32) (xs1 : Vec F S4x256x264 .f32) : Vec F S4x8x1024 .f32 :=
  arg20.view.read (Elt F) (arg20.view.writes (Elt F) (harg20.unread xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1).2.2.2.1)

def sout0_B_1 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : ¬cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs0 : Vec F S4x8x1024 .f32) (xs1 : Vec F S4x256x264 .f32) : Vec F S4x256x264 .f32 := xs1
end Regions

end Cert.KernelIdeal.Hand

end
-- ==== Proof.MainC.lean ====
module

public import proofs.«01_k».proof.Proof.MainBase

@[expose] public section

set_option maxRecDepth 16384

/-! The first launch's body at the second row's first block, and what it leaves. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

set_option maxHeartbeats 4000000 in

noncomputable def kernelRun0_C (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) :
    Σ' (L15 : List (View.Piece (Elt F) S1x256x1024 .f32)), Σ' (L16 : List (View.Piece (Elt F) S1x256x128 .f32)), Σ' (L17 : List (View.Piece (Elt F) S1x256x64 .f32)), Σ' (LS0 : List (View.Piece (Elt F) S4x8x1024 .f32)), { LS1 : List (View.Piece (Elt F) S4x256x264 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f LS0) ∗ owns (c : Thread nD τ) arg21 fullShare xs1) -∗ K ⟨⟩))
          ⊢ wp frame (wpE (defs₀ (F := F)) Variants.none c none) E (cc0__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, [], fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg21.eq_unread hfs1
    simp only [cc0__main_body_eq_skeleton]; unfold cc0__main_body_skel
    simp only [k0_part9_eq_skeleton, k0_part4_eq_skeleton, k0_part5_eq_skeleton, k0_part6_eq_skeleton, k0_part7_eq_skeleton, k0_part8_eq_skeleton]
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [HS0]; · iexists _; iexact HS0
    iexists _; isplitr; · ipureintro; exact harg21.read_unread _
    iexact HS1

theorem cover0_C_15 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) (y : S1x256x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).1 S1x256x1024.size (by sl_kernel_rfl) y

def out0_C_15 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) : Vec F S1x256x1024 .f32 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).1)

theorem cover0_C_16 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) (y : S1x256x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).2.1 S1x256x128.size (by sl_kernel_rfl) y

def out0_C_16 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) : Vec F S1x256x128 .f32 :=
  VO0_16.read (Elt F) (VO0_16.writes (Elt F) VO0_16.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).2.1)

theorem cover0_C_17 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) (y : S1x256x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).2.2.1 S1x256x64.size (by sl_kernel_rfl) y

def out0_C_17 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) : Vec F S1x256x64 .f32 :=
  VO0_17.read (Elt F) (VO0_17.writes (Elt F) VO0_17.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).2.2.1)

theorem scover0_C_0 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) (y : S4x8x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).2.2.2.1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).2.2.2.1 (by sl_whole_mem) y

def sout0_C_0 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) : Vec F S4x8x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1).2.2.2.1)

def sout0_C_1 (c : Dev nD) (i : grid0.Coords) (arg2 : Memref sig .tc .smem S4 .f32) (harg2 : arg2.IsWhole) (arg3 : Memref sig .tc .smem S4 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x256 .f32) (harg10 : arg10.IsWhole) (arg11 : Memref sig .tc .vmem S4096x1024 .bf16) (harg11 : arg11.IsWhole) (arg12 : Memref sig .tc .vmem S1024x4096 .bf16) (harg12 : arg12.IsWhole) (arg13 : Memref sig .tc .vmem S2048x1024 .bf16) (harg13 : arg13.IsWhole) (arg14 : Memref sig .tc .vmem S1x2048 .f32) (harg14 : arg14.IsWhole) (arg15 : Memref sig .tc .vmem S1024x2048 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S1x256x128 .f32) (harg18 : arg18.IsWhole) (arg19 : Memref sig .tc .vmem S1x256x64 .f32) (harg19 : arg19.IsWhole) (arg20 : Memref sig .tc .vmem S4x8x1024 .f32) (harg20 : arg20.IsWhole) (arg21 : Memref sig .tc .vmem S4x256x264 .f32) (harg21 : arg21.IsWhole) (hc0 : ¬cond0_0 i) (hc1 : cond0_1 i)
    (x0 : Vec F S4 .f32) (x1 : Vec F S4 .f32) (x2 : Vec F S1x256x1024 .f32) (x3 : Vec F S1x256x1024 .f32) (x4 : Vec F S8x1024 .f32) (x5 : Vec F S1024x1024 .bf16) (x6 : Vec F S1x1024 .f32) (x7 : Vec F S256x1024 .f32) (x8 : Vec F S1x256 .f32) (x9 : Vec F S4096x1024 .bf16) (x10 : Vec F S1024x4096 .bf16) (x11 : Vec F S2048x1024 .bf16) (x12 : Vec F S1x2048 .f32) (x13 : Vec F S1024x2048 .bf16) (x14 : Vec F S1x1024 .f32) (xs1 : Vec F S4x256x264 .f32) : Vec F S4x256x264 .f32 := xs1

end Regions

end Cert.KernelIdeal.Hand

end
-- ==== Proof.MainRun.lean ====
module

public import proofs.«01_k».proof.Proof.MainA
public import proofs.«01_k».proof.Proof.MainB
public import proofs.«01_k».proof.Proof.MainC

@[expose] public section

set_option maxRecDepth 16384

/-! The first launch's contents along its grid, and its body's obligation. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

def outsAt0 (c : Dev nD) : (n : ℕ) → n < cfg0.N → Vec F S1x256x1024 .f32 × Vec F S1x256x128 .f32 × Vec F S1x256x64 .f32 × Vec F S4x8x1024 .f32 × Vec F S4x256x264 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩))
  | n + 1, hn =>
    if h0 : (n + 1) % 32 = 0 then
      if h1 : (n + 1) % 16 = 0 then
        (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩))
      else
        False.elim (by have hN : n + 1 < 32 := lt_of_lt_of_eq hn (show cfg0.N = 32 from N_0); omega)
    else
      if h1 : (n + 1) % 16 = 0 then
        (out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.2, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.2, out0_C_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.2)
      else
        (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.1 (outsAt0 c n (Nat.lt_of_succ_lt hn)).2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.1 (outsAt0 c n (Nat.lt_of_succ_lt hn)).2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 32 = 0) (h1 : t.val % 16 = 0) :
    outsAt0 V c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)) := by
  obtain ⟨n, hn⟩ := t
  cases n with
  | zero => exact rfl
  | succ n => exact (dif_pos h0).trans ((dif_pos h1).trans rfl)

theorem outsAt0_B (c : Dev nD) (t : Fin cfg0.N) (h0 : ¬t.val % 32 = 0) (h1 : ¬t.val % 16 = 0) :
    outsAt0 V c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 16 = 0) :
    outsAt0 V c t.val t.isLt = (out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.2, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

def Phi0S (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r))

theorem Phi0S_zero (c : Dev nD) (n : ℕ) (h : n ≤ cfg0.N) (hz : n = 0) : Phi0S V c n h = Pipeline.ΦA spec0 c := by
  subst hz; rfl

theorem Phi0S_succ (c : Dev nD) (n : ℕ) (hn : n < cfg0.N) :
    Phi0S V c (n + 1) hn = iprop(iprop(owns (c : Thread nD τ) scM0_0 fullShare ((outsAt0 V c n hn).2.2.2.1) ∗ owns (c : Thread nD τ) scM0_1 fullShare ((outsAt0 V c n hn).2.2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r)) := rfl

theorem Phi0S_pos (c : Dev nD) (n : ℕ) (h : n ≤ cfg0.N) (hz : n ≠ 0) :
    Phi0S V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => (outsAt0 V c t.val t.isLt).1
    | ⟨16, _⟩ => (outsAt0 V c t.val t.isLt).2.1
    | ⟨17, _⟩ => (outsAt0 V c t.val t.isLt).2.2.1
    | ⟨_ + 18, h⟩ => absurd h (Nat.not_lt.2 (Nat.le_add_left _ _))
  Φ t := Phi0S V c t.val (Nat.le_of_lt_succ t.isLt)
  q w := Pipeline.shareOf spec0 w
  owed _ := 0

theorem A_eq0 (c : Dev nD) (w : Fin cfg0.W) : (dat0 V c).A w = V c (Pipeline.arrRef spec0 w) := by
  dsimp only [dat0]

theorem Phi0S_castSucc (c : Dev nD) (t : Fin cfg0.N) :
    (dat0 V c).Φ t.castSucc = Phi0S V c t.val (Nat.le_of_lt t.isLt) := by
  dsimp only [dat0]; exact Pipeline.Dat.Φ_castSucc (Phi0S V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = (outsAt0 V c t.val t.isLt).1 := by dsimp only [dat0]
theorem after0_16 (c : Dev nD) (t : Fin cfg0.N) : (dat0 V c).after 16 t = (outsAt0 V c t.val t.isLt).2.1 := by dsimp only [dat0]
theorem after0_17 (c : Dev nD) (t : Fin cfg0.N) : (dat0 V c).after 17 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t)
    ∗ owns (c : Thread nD τ) (ms0_17 t) fullShare ((dat0 V c).after 17 t))

set_option maxHeartbeats 24000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17]
  rw [show (dat0 V c).Φ t.succ = Phi0S V c (t.val + 1) t.isLt from rfl, Phi0S_succ]
  have hN : t.val < 32 := lt_of_lt_of_eq t.isLt (show cfg0.N = 32 from N_0)
  by_cases h0 : t.val % 32 = 0
  · by_cases h1 : t.val % 16 = 0
    · by_cases hz : t.val = 0
      · rw [Phi0S_castSucc V c t, Phi0S_zero V c _ _ hz, PhiA0_eq]
        rw [outsAt0_A V c t h0 h1]
        unfold out0_A_15 out0_A_16 out0_A_17 sout0_A_0 sout0_A_1; (try dsimp only)
        iintro ⟨⟨⟨HS0, HS1, HR2, HR3, HR4, HR5, HR6, HR7, HR8, HR9, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [HS0]; · iexact HS0
        isplitl [HS1]; · iexact HS1
        iintro ⟨H0, H1, H2, H3, H4, H5, H6, H7, H8, H9, H10, H11, H12, H13, H14, ⟨%e15, H15⟩, ⟨%e16, H16⟩, ⟨%e17, H17⟩, ⟨%es0, HS0⟩, ⟨%es1, HS1⟩⟩
        isplitl [HS0 HS1 HR2 HR3 HR4 HR5 HR6 HR7 HR8 HR9 HR10 HR11 HR12 HR13 HR14 HR15 HR16 HR17 Hg]
        · isplitl [HS0 HS1 HR2 HR3 HR4 HR5 HR6 HR7 HR8 HR9 HR10 HR11 HR12 HR13 HR14 HR15 HR16 HR17]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _)
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
    · exfalso; omega
  · by_cases h1 : t.val % 16 = 0
    · by_cases hz : t.val = 0
      · exfalso; have hN : t.val < 32 := lt_of_lt_of_eq t.isLt (show cfg0.N = 32 from N_0); omega
      · rw [Phi0S_castSucc V c t, Phi0S_pos V c _ _ hz]
        rw [outsAt0_C V c t h0 h1]
        unfold out0_C_15 out0_C_16 out0_C_17 sout0_C_0 sout0_C_1; (try dsimp only)
        iintro ⟨⟨⟨HS0, HS1, HR2, HR3, HR4, HR5, HR6, HR7, HR8, HR9, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [HS0]; · iexists _; iexact HS0
        isplitl [HS1]; · iexact HS1
        iintro ⟨H0, H1, H2, H3, H4, H5, H6, H7, H8, H9, H10, H11, H12, H13, H14, ⟨%e15, H15⟩, ⟨%e16, H16⟩, ⟨%e17, H17⟩, ⟨%es0, HS0⟩, HS1⟩
        isplitl [HS0 HS1 HR2 HR3 HR4 HR5 HR6 HR7 HR8 HR9 HR10 HR11 HR12 HR13 HR14 HR15 HR16 HR17 Hg]
        · isplitl [HS0 HS1 HR2 HR3 HR4 HR5 HR6 HR7 HR8 HR9 HR10 HR11 HR12 HR13 HR14 HR15 HR16 HR17]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexact HS1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H17
        ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 32 := lt_of_lt_of_eq t.isLt (show cfg0.N = 32 from N_0); omega
      · rw [Phi0S_castSucc V c t, Phi0S_pos V c _ _ hz]
        rw [outsAt0_B V c t h0 h1]
        unfold out0_B_15 out0_B_16 out0_B_17 sout0_B_0 sout0_B_1; (try dsimp only)
        iintro ⟨⟨⟨HS0, HS1, HR2, HR3, HR4, HR5, HR6, HR7, HR8, HR9, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [HS0]; · iexact HS0
        isplitl [HS1]; · iexact HS1
        iintro ⟨H0, H1, H2, H3, H4, H5, H6, H7, H8, H9, H10, H11, H12, H13, H14, ⟨%e15, H15⟩, ⟨%e16, H16⟩, ⟨%e17, H17⟩, HS0, HS1⟩
        isplitl [HS0 HS1 HR2 HR3 HR4 HR5 HR6 HR7 HR8 HR9 HR10 HR11 HR12 HR13 HR14 HR15 HR16 HR17 Hg]
        · isplitl [HS0 HS1 HR2 HR3 HR4 HR5 HR6 HR7 HR8 HR9 HR10 HR11 HR12 HR13 HR14 HR15 HR16 HR17]
          · isplitl [HS0]
            · unfold owns; iexists _; isplitr
              swap; · iexact HS0
              ipureintro; rfl
            isplitl [HS1]
            · iexact HS1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = Phi0S V c 0 (Nat.zero_le _) from rfl, Phi0S_zero V c 0 _ rfl]
  try exact Idealize.SL.BI.Entails.refl _

theorem Phi0_out (c : Dev nD) (t : Fin (cfg0.N + 1)) (ht : t.val ≠ 0) : (dat0 V c).Φ t ⊢ Pipeline.ΦA spec0 c := by
  rw [show (dat0 V c).Φ t = Phi0S V c t.val (Nat.le_of_lt_succ t.isLt) from rfl, Phi0S_pos V c _ _ ht, PhiA0_eq]
  iintro ⟨⟨HS0, HS1, HR2, HR3, HR4, HR5, HR6, HR7, HR8, HR9, HR10, HR11, HR12, HR13, HR14, HR15, HR16, HR17⟩, Hg⟩
  isplitl [HS0 HS1 HR2 HR3 HR4 HR5 HR6 HR7 HR8 HR9 HR10 HR11 HR12 HR13 HR14 HR15 HR16 HR17]
  · isplitl [HS0]
    · iexists _; iexact HS0
    isplitl [HS1]
    · iexists _; iexact HS1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    iexact HR17
  iexact Hg

theorem hout0 (c : Dev nD) : (dat0 V c).Φ (Fin.last cfg0.N) ⊢ Pipeline.ΦA spec0 c :=
  Phi0_out V c _ (by rw [Fin.val_last]; have : cfg0.N = 32 := N_0; omega)

end Regions

end Cert.KernelIdeal.Hand

end
-- ==== Proof.Match.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

/-! What the second launch runs at a grid point: its windows' blocks, its branch conditions, and what each branch leaves. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_stg3_0), ((c : Thread nD τ).loc cc0_stg3_0) ↦{fullShare} f) ∗ (∃ f : Buf Val ((c : Thread nD τ).loc cc0_stg3_1), ((c : Thread nD τ).loc cc0_stg3_1) ↦{fullShare} f) ∗ (∃ f : Buf Val ((c : Thread nD τ).loc cc0_stg4_0), ((c : Thread nD τ).loc cc0_stg4_0) ↦{fullShare} f) ∗ (∃ f : Buf Val ((c : Thread nD τ).loc cc0_stg5_0), ((c : Thread nD τ).loc cc0_stg5_0) ↦{fullShare} f) ∗ (∃ f : Buf Val ((c : Thread nD τ).loc cc0_stg6_0), ((c : Thread nD τ).loc cc0_stg6_0) ↦{fullShare} f) ∗ (∃ f : Buf Val ((c : Thread nD τ).loc cc0_stg7_0), ((c : Thread nD τ).loc cc0_stg7_0) ↦{fullShare} f) ∗ (∃ f : Buf Val ((c : Thread nD τ).loc cc0_stg8_0), ((c : Thread nD τ).loc cc0_stg8_0) ↦{fullShare} f) ∗ (∃ f : Buf Val ((c : Thread nD τ).loc cc0_stg9_0), ((c : Thread nD τ).loc cc0_stg9_0) ↦{fullShare} f) ∗ (∃ f : Buf Val ((c : Thread nD τ).loc cc0_stg10_0), ((c : Thread nD τ).loc cc0_stg10_0) ↦{fullShare} f) ∗ (∃ f : Buf Val ((c : Thread nD τ).loc cc0_stg11_0), ((c : Thread nD τ).loc cc0_stg11_0) ↦{fullShare} f) ∗ (∃ f : Buf Val ((c : Thread nD τ).loc cc0_stg12_0), ((c : Thread nD τ).loc cc0_stg12_0) ↦{fullShare} f) ∗ (∃ f : Buf Val ((c : Thread nD τ).loc cc0_stg13_0), ((c : Thread nD τ).loc cc0_stg13_0) ↦{fullShare} f) ∗ (∃ f : Buf Val ((c : Thread nD τ).loc cc0_stg14_0), ((c : Thread nD τ).loc cc0_stg14_0) ↦{fullShare} f) ∗ (∃ f : Buf Val ((c : Thread nD τ).loc cc0_stg15_0), ((c : Thread nD τ).loc cc0_stg15_0) ↦{fullShare} f) ∗ (∃ f : Buf Val ((c : Thread nD τ).loc cc0_stg15_1), ((c : Thread nD τ).loc cc0_stg15_1) ↦{fullShare} f) ∗ (∃ f : Buf Val ((c : Thread nD τ).loc cc0_stg16_0), ((c : Thread nD τ).loc cc0_stg16_0) ↦{fullShare} f) ∗ (∃ f : Buf Val ((c : Thread nD τ).loc cc0_stg16_1), ((c : Thread nD τ).loc cc0_stg16_1) ↦{fullShare} f) ∗ (∃ f : Buf Val ((c : Thread nD τ).loc cc0_stg17_0), ((c : Thread nD τ).loc cc0_stg17_0) ↦{fullShare} f) ∗ (∃ f : Buf Val ((c : Thread nD τ).loc cc0_stg17_1), ((c : Thread nD τ).loc cc0_stg17_1) ↦{fullShare} f) ∗ (∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc1_scratch0), ((c : Thread nD τ).loc cc1_scratch0) ↦{fullShare} f) ∗ (∃ f : Buf Val ((c : Thread nD τ).loc cc0_stg0_0), ((c : Thread nD τ).loc cc0_stg0_0) ↦{fullShare} f) ∗ (∃ f : Buf Val ((c : Thread nD τ).loc cc0_stg1_0), ((c : Thread nD τ).loc cc0_stg1_0) ↦{fullShare} f)) :=
  Pipeline.scopedRest_eq_of_list spec1 c [cc0_stg2_0, cc0_stg2_1, cc0_stg3_0, cc0_stg3_1, cc0_stg4_0, cc0_stg5_0, cc0_stg6_0, cc0_stg7_0, cc0_stg8_0, cc0_stg9_0, cc0_stg10_0, cc0_stg11_0, cc0_stg12_0, cc0_stg13_0, cc0_stg14_0, cc0_stg15_0, cc0_stg15_1, cc0_stg16_0, cc0_stg16_1, cc0_stg17_0, cc0_stg17_1, cc0_scratch0, cc0_scratch1, cc1_scratch0, cc0_stg0_0, cc0_stg1_0] (by decide) (by decide)

section Regions

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 16 = 0 :=
  (fun t => by
    have ht : t.val < 512 := Nat.lt_of_lt_of_eq t.isLt N_1
    have e0 : (grid1.coords t 0).val = t.val / 256 % 2 := Pipeline.Grid.coords_val t 0 (by decide) rfl
    have e1 : (grid1.coords t 1).val = t.val / 16 % 16 := Pipeline.Grid.coords_val t 1 (by decide) rfl
    have e2 : (grid1.coords t 2).val = t.val / 1 % 16 := Pipeline.Grid.coords_val t 2 (by decide) rfl
    simp only [cond1_0, e0, e1, e2]
    word_cmp
   : ∀ t : Fin grid1.N, cond1_0 (grid1.coords t) ↔ t.val % 16 = 0)

abbrev cond1_1 (i : grid1.Coords) : Prop := k1_cond2 i = 1#1

theorem hcond1_1 : ∀ t : Fin cfg1.N, cond1_1 (grid1.coords t) ↔ t.val % 16 = 15 :=
  (fun t => by
    have ht : t.val < 512 := Nat.lt_of_lt_of_eq t.isLt N_1
    have e0 : (grid1.coords t 0).val = t.val / 256 % 2 := Pipeline.Grid.coords_val t 0 (by decide) rfl
    have e1 : (grid1.coords t 1).val = t.val / 16 % 16 := Pipeline.Grid.coords_val t 1 (by decide) rfl
    have e2 : (grid1.coords t 2).val = t.val / 1 % 16 := Pipeline.Grid.coords_val t 2 (by decide) rfl
    simp only [cond1_1, k1_cond2, e0, e1, e2]
    word_cmp
   : ∀ t : Fin grid1.N, cond1_1 (grid1.coords t) ↔ t.val % 16 = 15)

theorem liveAt1_0 : ∀ t : Fin cfg1.N, cfg1.idle 0 (grid1.coords t) = false := fun _ => rfl

theorem liveAt1_1 : ∀ t : Fin cfg1.N, cfg1.idle 1 (grid1.coords t) = false := fun _ => rfl

theorem liveAt1_2 : ∀ t : Fin cfg1.N, cfg1.idle 2 (grid1.coords t) = false := fun _ => rfl

theorem liveAt1_3 : ∀ t : Fin cfg1.N, cfg1.idle 3 (grid1.coords t) = false := fun _ => rfl

theorem liveAt1_4 : ∀ t : Fin cfg1.N, cfg1.idle 4 (grid1.coords t) = false := fun _ => rfl

theorem liveAt1_5 : ∀ t : Fin cfg1.N, cfg1.idle 5 (grid1.coords t) = false := fun _ => rfl

theorem liveAt1_6 : ∀ t : Fin cfg1.N, cfg1.idle 6 (grid1.coords t) = false := fun _ => rfl

theorem idleAt1_7_A : ∀ t : Fin cfg1.N, cond1_0 (grid1.coords t) → ¬cond1_1 (grid1.coords t) → cfg1.idle 7 (grid1.coords t) = true := by decide +kernel

theorem noFlush1_7_A : ∀ t : Fin cfg1.N, cond1_0 (grid1.coords t) → ¬cond1_1 (grid1.coords t) → (cfg1.win 7).flush t = false := by decide +kernel

theorem idleAt1_7_B : ∀ t : Fin cfg1.N, ¬cond1_0 (grid1.coords t) → ¬cond1_1 (grid1.coords t) → cfg1.idle 7 (grid1.coords t) = true := by decide +kernel

theorem noFlush1_7_B : ∀ t : Fin cfg1.N, ¬cond1_0 (grid1.coords t) → ¬cond1_1 (grid1.coords t) → (cfg1.win 7).flush t = false := by decide +kernel

theorem liveAt1_7_C : ∀ t : Fin cfg1.N, ¬cond1_0 (grid1.coords t) → cond1_1 (grid1.coords t) → cfg1.idle 7 (grid1.coords t) = false := by decide +kernel

abbrev VO1_7 : View sig .tc .vmem S1x256x1024 .f32 := (Memref.whole cc1_stg7_0 : Memref sig .tc .vmem S1x256x1024 .f32).view

abbrev ms1_0 (t : Fin cfg1.N) : Memref sig .tc .vmem S1x256x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256x1024 .f32 := win1_7.stage (cfg1.slots t 7)
abbrev hs1_7 (t : Fin cfg1.N) : (ms1_7 t).IsWhole := hstage1_7 ((cfg1.slots t 7).cast nbuf1_7)

abbrev scM1_0 : Memref sig .tc .vmem S2x256x128 .f32 := Memref.whole cc1_scratch0

abbrev VS1_0 : View sig .tc .vmem S2x256x128 .f32 := scM1_0.view

theorem PhiA1_eq (c : Dev nD) :
    (Pipeline.ΦA spec1 c : sProp 𝕄)
      = iprop(iprop((∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg15_1), ((c : Thread nD τ).loc cc0_stg15_1) ↦{fullShare} f) ∗ (∃ f : Buf (Elt F) ((c : Thread nD τ).loc cc0_stg16_0), ((c : Thread nD τ).loc cc0_stg16_0) ↦{fullShare} f) ∗ (∃ f : Buf (Elt F) ((c : Thread nD τ).loc cc0_stg16_1), ((c : Thread nD τ).loc cc0_stg16_1) ↦{fullShare} f) ∗ (∃ f : Buf (Elt F) ((c : Thread nD τ).loc cc0_stg17_0), ((c : Thread nD τ).loc cc0_stg17_0) ↦{fullShare} f) ∗ (∃ f : Buf (Elt F) ((c : Thread nD τ).loc cc0_stg17_1), ((c : Thread nD τ).loc cc0_stg17_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)) ∗ (∃ r, prngReg c r)) := by
  unfold Pipeline.ΦA; rw [scopedRest1_eq]; simp only [scM1_0, owns_whole]; try rfl

set_option maxHeartbeats 1000000 in

noncomputable def kernelRun1_A (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : cond1_0 i) (hc1 : ¬cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) :
    Σ' (L7 : List (View.Piece (Elt F) S1x256x1024 .f32)), { LS0 : List (View.Piece (Elt F) S2x256x128 .f32) //
      ∀ (xi7 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc1__match_body i arg3 harg3 arg4 harg4 arg5 harg5 arg6 harg6 arg7 harg7 arg8 harg8 arg9 harg9 arg10 harg10 arg11 harg11) K } := by
  refine ⟨[], ?_, fun xi7 E K => ?run⟩
  case run =>
    simp only [cc1__match_body_eq_skeleton]; unfold cc1__match_body_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

def out1_A_7 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : cond1_0 i) (hc1 : ¬cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) : Vec F S1x256x1024 .f32 :=
  VO1_7.read (Elt F) (VO1_7.writes (Elt F) VO1_7.junk (kernelRun1_A c i arg3 harg3 arg4 harg4 arg5 harg5 arg6 harg6 arg7 harg7 arg8 harg8 arg9 harg9 arg10 harg10 arg11 harg11 hc0 hc1 x0 x1 x2 x3 x4 x5 x6).1)

theorem scover1_A_0 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : cond1_0 i) (hc1 : ¬cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (y : S2x256x128.Idx) :
    ∃ pc ∈ (kernelRun1_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_wholeMem (kernelRun1_A c i arg3 harg3 arg4 harg4 arg5 harg5 arg6 harg6 arg7 harg7 arg8 harg8 arg9 harg9 arg10 harg10 arg11 harg11 hc0 hc1 x0 x1 x2 x3 x4 x5 x6).2.1 (by sl_whole_mem) y

def sout1_A_0 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : cond1_0 i) (hc1 : ¬cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) : Vec F S2x256x128 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4 x5 x6).2.1)

set_option maxHeartbeats 1000000 in

noncomputable def kernelRun1_B (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : ¬cond1_0 i) (hc1 : ¬cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (xs0 : Vec F S2x256x128 .f32) :
    Σ' (L7 : List (View.Piece (Elt F) S1x256x1024 .f32)), { LS0 : List (View.Piece (Elt F) S2x256x128 .f32) //
      ∀ (xi7 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc1__match_body i arg3 harg3 arg4 harg4 arg5 harg5 arg6 harg6 arg7 harg7 arg8 harg8 arg9 harg9 arg10 harg10 arg11 harg11) K } := by
  refine ⟨[], ?_, fun xi7 E K => ?run⟩
  case run =>
    simp only [cc1__match_body_eq_skeleton]; unfold cc1__match_body_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

def out1_B_7 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : ¬cond1_0 i) (hc1 : ¬cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (xs0 : Vec F S2x256x128 .f32) : Vec F S1x256x1024 .f32 :=
  VO1_7.read (Elt F) (VO1_7.writes (Elt F) VO1_7.junk (kernelRun1_B c i arg3 harg3 arg4 harg4 arg5 harg5 arg6 harg6 arg7 harg7 arg8 harg8 arg9 harg9 arg10 harg10 arg11 harg11 hc0 hc1 x0 x1 x2 x3 x4 x5 x6 xs0).1)

theorem scover1_B_0 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : ¬cond1_0 i) (hc1 : ¬cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (xs0 : Vec F S2x256x128 .f32) (y : S2x256x128.Idx) :
    ∃ pc ∈ (kernelRun1_B c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 x5 x6 xs0).2.1 S1x256x128.size (by sl_kernel_rfl) y

def sout1_B_0 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : ¬cond1_0 i) (hc1 : ¬cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (xs0 : Vec F S2x256x128 .f32) : Vec F S2x256x128 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 x5 x6 xs0).2.1)

set_option maxHeartbeats 1000000 in

noncomputable def kernelRun1_C (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : ¬cond1_0 i) (hc1 : cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (xs0 : Vec F S2x256x128 .f32) :
    Σ' (L7 : List (View.Piece (Elt F) S1x256x1024 .f32)), { LS0 : List (View.Piece (Elt F) S2x256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc1__match_body i arg3 harg3 arg4 harg4 arg5 harg5 arg6 harg6 arg7 harg7 arg8 harg8 arg9 harg9 arg10 harg10 arg11 harg11) K } := by
  refine ⟨?_, ?_, fun E K => ?run⟩
  case run =>
    simp only [cc1__match_body_eq_skeleton]; unfold cc1__match_body_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS0

theorem cover1_C_7 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : ¬cond1_0 i) (hc1 : cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (xs0 : Vec F S2x256x128 .f32) (y : S1x256x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).1 S1x256x1024.size (by sl_kernel_rfl) y

def out1_C_7 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : ¬cond1_0 i) (hc1 : cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (xs0 : Vec F S2x256x128 .f32) : Vec F S1x256x1024 .f32 :=
  VO1_7.read (Elt F) (VO1_7.writes (Elt F) VO1_7.junk (kernelRun1_C c i arg3 harg3 arg4 harg4 arg5 harg5 arg6 harg6 arg7 harg7 arg8 harg8 arg9 harg9 arg10 harg10 arg11 harg11 hc0 hc1 x0 x1 x2 x3 x4 x5 x6 xs0).1)

theorem scover1_C_0 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : ¬cond1_0 i) (hc1 : cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (xs0 : Vec F S2x256x128 .f32) (y : S2x256x128.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).2.1 S1x256x128.size (by sl_kernel_rfl) y

def sout1_C_0 (c : Dev nD) (i : grid1.Coords) (arg3 : Memref sig .tc .vmem S1x256x64 .f32) (harg3 : arg3.IsWhole) (arg4 : Memref sig .tc .vmem S1x256x64 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1024x64 .bf16) (harg9 : arg9.IsWhole) (arg10 : Memref sig .tc .vmem S1x256x1024 .f32) (harg10 : arg10.IsWhole) (arg11 : Memref sig .tc .vmem S2x256x128 .f32) (harg11 : arg11.IsWhole) (hc0 : ¬cond1_0 i) (hc1 : cond1_1 i)
    (x0 : Vec F S1x256x64 .f32) (x1 : Vec F S1x256x64 .f32) (x2 : Vec F S1x256x128 .f32) (x3 : Vec F S1x256x128 .f32) (x4 : Vec F S1x256x1024 .f32) (x5 : Vec F S1x256x1024 .f32) (x6 : Vec F S1024x64 .bf16) (xs0 : Vec F S2x256x128 .f32) : Vec F S2x256x128 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 x5 x6 xs0).2.1)

end Regions

end Cert.KernelIdeal.Hand

end
-- ==== Proof.MatchRun.lean ====
module

public import proofs.«01_k».proof.Proof.Match

@[expose] public section

set_option maxRecDepth 16384

/-! The second launch's contents along its grid, and its body's obligation. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

def outsAt1 (c : Dev nD) : (n : ℕ) → n < cfg1.N → Vec F S1x256x1024 .f32 × Vec F S2x256x128 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 16 = 0 then
      if h1 : (n + 1) % 16 = 15 then
        False.elim (by have hN : n + 1 < 512 := lt_of_lt_of_eq hn (show cfg1.N = 512 from N_1); omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 16 = 15 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def Phi1S (c : Dev nD) : (n : ℕ) → n ≤ cfg1.N → sProp 𝕄
  | 0, _ => Pipeline.ΦA spec1 c
  | n + 1, hn => iprop(iprop((∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg15_1), ((c : Thread nD τ).loc cc0_stg15_1) ↦{fullShare} f) ∗ (∃ f : Buf (Elt F) ((c : Thread nD τ).loc cc0_stg16_0), ((c : Thread nD τ).loc cc0_stg16_0) ↦{fullShare} f) ∗ (∃ f : Buf (Elt F) ((c : Thread nD τ).loc cc0_stg16_1), ((c : Thread nD τ).loc cc0_stg16_1) ↦{fullShare} f) ∗ (∃ f : Buf (Elt F) ((c : Thread nD τ).loc cc0_stg17_0), ((c : Thread nD τ).loc cc0_stg17_0) ↦{fullShare} f) ∗ (∃ f : Buf (Elt F) ((c : Thread nD τ).loc cc0_stg17_1), ((c : Thread nD τ).loc cc0_stg17_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2) ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)) ∗ (∃ r, prngReg c r))

theorem Phi1S_zero (c : Dev nD) (n : ℕ) (h : n ≤ cfg1.N) (hz : n = 0) : Phi1S V c n h = Pipeline.ΦA spec1 c := by
  subst hz; rfl

theorem Phi1S_succ (c : Dev nD) (n : ℕ) (hn : n < cfg1.N) :
    Phi1S V c (n + 1) hn = iprop(iprop((∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg15_1), ((c : Thread nD τ).loc cc0_stg15_1) ↦{fullShare} f) ∗ (∃ f : Buf (Elt F) ((c : Thread nD τ).loc cc0_stg16_0), ((c : Thread nD τ).loc cc0_stg16_0) ↦{fullShare} f) ∗ (∃ f : Buf (Elt F) ((c : Thread nD τ).loc cc0_stg16_1), ((c : Thread nD τ).loc cc0_stg16_1) ↦{fullShare} f) ∗ (∃ f : Buf (Elt F) ((c : Thread nD τ).loc cc0_stg17_0), ((c : Thread nD τ).loc cc0_stg17_0) ↦{fullShare} f) ∗ (∃ f : Buf (Elt F) ((c : Thread nD τ).loc cc0_stg17_1), ((c : Thread nD τ).loc cc0_stg17_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2) ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)) ∗ (∃ r, prngReg c r)) := rfl

theorem Phi1S_pos (c : Dev nD) (n : ℕ) (h : n ≤ cfg1.N) (hz : n ≠ 0) :
    Phi1S V c n h = iprop(iprop((∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg15_1), ((c : Thread nD τ).loc cc0_stg15_1) ↦{fullShare} f) ∗ (∃ f : Buf (Elt F) ((c : Thread nD τ).loc cc0_stg16_0), ((c : Thread nD τ).loc cc0_stg16_0) ↦{fullShare} f) ∗ (∃ f : Buf (Elt F) ((c : Thread nD τ).loc cc0_stg16_1), ((c : Thread nD τ).loc cc0_stg16_1) ↦{fullShare} f) ∗ (∃ f : Buf (Elt F) ((c : Thread nD τ).loc cc0_stg17_0), ((c : Thread nD τ).loc cc0_stg17_0) ↦{fullShare} f) ∗ (∃ f : Buf (Elt F) ((c : Thread nD τ).loc cc0_stg17_1), ((c : Thread nD τ).loc cc0_stg17_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2) ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := Phi1S V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem Phi1S_castSucc (c : Dev nD) (t : Fin cfg1.N) :
    (dat1 V c).Φ t.castSucc = Phi1S V c t.val (Nat.le_of_lt t.isLt) := by
  dsimp only [dat1]; exact Pipeline.Dat.Φ_castSucc (Phi1S V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 9600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = Phi1S V c (t.val + 1) t.isLt from rfl, Phi1S_succ]
  have hN : t.val < 512 := lt_of_lt_of_eq t.isLt (show cfg1.N = 512 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      by_cases hz : t.val = 0
      · rw [Phi1S_castSucc V c t, Phi1S_zero V c _ _ hz, PhiA1_eq]
        rw [outsAt1_A V c t h0 h1]
        unfold sout1_A_0; (try dsimp only)
        iintro ⟨⟨⟨HR0, HR1, HR2, HR3, HR4, HR5, HR6, HR7, HR8, HR9, HR10, HR11, HR12, HR13, HR14, HR15, HR16, HR17, HR18, HR19, HR20, HR21, HR22, HS0, HR24, HR25⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HR6 HR7 HR8 HR9 HR10 HR11 HR12 HR13 HR14 HR15 HR16 HR17 HR18 HR19 HR20 HR21 HR22 HS0 HR24 HR25 Hg]
        · isplitl [HR0 HR1 HR2 HR3 HR4 HR5 HR6 HR7 HR8 HR9 HR10 HR11 HR12 HR13 HR14 HR15 HR16 HR17 HR18 HR19 HR20 HR21 HR22 HS0 HR24 HR25]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _)
            isplitl [HR24]
            · iexact HR24
            iexact HR25
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [Phi1S_castSucc V c t, Phi1S_pos V c _ _ hz]
        rw [outsAt1_A V c t h0 h1]
        unfold sout1_A_0; (try dsimp only)
        iintro ⟨⟨⟨HR0, HR1, HR2, HR3, HR4, HR5, HR6, HR7, HR8, HR9, HR10, HR11, HR12, HR13, HR14, HR15, HR16, HR17, HR18, HR19, HR20, HR21, HR22, HS0, HR24, HR25⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HR0 HR1 HR2 HR3 HR4 HR5 HR6 HR7 HR8 HR9 HR10 HR11 HR12 HR13 HR14 HR15 HR16 HR17 HR18 HR19 HR20 HR21 HR22 HS0 HR24 HR25 Hg]
        · isplitl [HR0 HR1 HR2 HR3 HR4 HR5 HR6 HR7 HR8 HR9 HR10 HR11 HR12 HR13 HR14 HR15 HR16 HR17 HR18 HR19 HR20 HR21 HR22 HS0 HR24 HR25]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _)
            isplitl [HR24]
            · iexact HR24
            iexact HR25
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 16 = 15
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1)], after1_7]
      by_cases hz : t.val = 0
      · exfalso; have hN : t.val < 512 := lt_of_lt_of_eq t.isLt (show cfg1.N = 512 from N_1); omega
      · rw [Phi1S_castSucc V c t, Phi1S_pos V c _ _ hz]
        rw [outsAt1_C V c t h0 h1]
        unfold out1_C_7 sout1_C_0; (try dsimp only)
        iintro ⟨⟨⟨HR0, HR1, HR2, HR3, HR4, HR5, HR6, HR7, HR8, HR9, HR10, HR11, HR12, HR13, HR14, HR15, HR16, HR17, HR18, HR19, HR20, HR21, HR22, HS0, HR24, HR25⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HR0 HR1 HR2 HR3 HR4 HR5 HR6 HR7 HR8 HR9 HR10 HR11 HR12 HR13 HR14 HR15 HR16 HR17 HR18 HR19 HR20 HR21 HR22 HS0 HR24 HR25 Hg]
        · isplitl [HR0 HR1 HR2 HR3 HR4 HR5 HR6 HR7 HR8 HR9 HR10 HR11 HR12 HR13 HR14 HR15 HR16 HR17 HR18 HR19 HR20 HR21 HR22 HS0 HR24 HR25]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _)
            isplitl [HR24]
            · iexact HR24
            iexact HR25
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      by_cases hz : t.val = 0
      · exfalso; have hN : t.val < 512 := lt_of_lt_of_eq t.isLt (show cfg1.N = 512 from N_1); omega
      · rw [Phi1S_castSucc V c t, Phi1S_pos V c _ _ hz]
        rw [outsAt1_B V c t h0 h1]
        unfold sout1_B_0; (try dsimp only)
        iintro ⟨⟨⟨HR0, HR1, HR2, HR3, HR4, HR5, HR6, HR7, HR8, HR9, HR10, HR11, HR12, HR13, HR14, HR15, HR16, HR17, HR18, HR19, HR20, HR21, HR22, HS0, HR24, HR25⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HR6 HR7 HR8 HR9 HR10 HR11 HR12 HR13 HR14 HR15 HR16 HR17 HR18 HR19 HR20 HR21 HR22 HS0 HR24 HR25 Hg]
        · isplitl [HR0 HR1 HR2 HR3 HR4 HR5 HR6 HR7 HR8 HR9 HR10 HR11 HR12 HR13 HR14 HR15 HR16 HR17 HR18 HR19 HR20 HR21 HR22 HS0 HR24 HR25]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _)
            isplitl [HR24]
            · iexact HR24
            iexact HR25
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = Phi1S V c 0 (Nat.zero_le _) from rfl, Phi1S_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = Phi1S V c t.val (Nat.le_of_lt_succ t.isLt) from rfl, Phi1S_pos V c _ _ ht, PhiA1_eq]
  iintro ⟨⟨HR0, HR1, HR2, HR3, HR4, HR5, HR6, HR7, HR8, HR9, HR10, HR11, HR12, HR13, HR14, HR15, HR16, HR17, HR18, HR19, HR20, HR21, HR22, HS0, HR24, HR25⟩, Hg⟩
  isplitl [HR0 HR1 HR2 HR3 HR4 HR5 HR6 HR7 HR8 HR9 HR10 HR11 HR12 HR13 HR14 HR15 HR16 HR17 HR18 HR19 HR20 HR21 HR22 HS0 HR24 HR25]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HS0]
    · iexists _; iexact HS0
    isplitl [HR24]
    · iexact HR24
    iexact HR25
  iexact Hg

theorem hout1 (c : Dev nD) : (dat1 V c).Φ (Fin.last cfg1.N) ⊢ Pipeline.ΦA spec1 c :=
  Phi1_out V c _ (by rw [Fin.val_last]; have : cfg1.N = 512 := N_1; omega)

end Regions

end Cert.KernelIdeal.Hand

end
-- ==== Proof.Hosts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

/-! The host stretches around the two launches. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem hostOps0_fresh : (hostOps0 : List (HloOp τ sig (Elt F))).Forall fun op => op.fresh = ∅ := by
  simp only [List.Forall]; repeat' constructor

abbrev hostOps0_W : List (Ref sig .tc) := [main_cst, main_v0, main_v1, main_c, main_v2, main_v3, main_cst_0, main_v4, main_c_1, main_v5, main_v6, main_c_2, main_v7, main_v8, main_c_3, main_v9, main_v10, main_v11, main_c_4, main_v12, main_v13, main_v14, main_c_5, main_v15, main_v16, main_v17, main_c_6, main_v18, main_v19, main_cst_7, main_v20, main_v21, main_c_8, main_v22, main_c_9, main_v23, main_v24, main_v25, main_v26, main_c_10, main_v27, main_c_11, main_v28, main_v29, main_v30, main_v31, main_c_12, main_v32, main_c_13, main_v33, main_v34, main_v35, main_v36, main_v37, main_cst_14, main_v38, main_v39, main_cst_15, main_v40, main_v41, main_v42, main_v43, main_v44, main_v45, main_v46, main_v47, main_v48, main_v49, main_v50]
theorem hostOps0_writes : (hostOps0 : List (HloOp τ sig (Elt F))).Forall fun op => op.writes ⊆ (hostOps0_W.map (Proc.devRef (τ := τ) .tc)).toFinset :=
  StableHlo.forall_writes_sub_of_map rfl

theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor

abbrev hostOps1_W : List (Ref sig .tc) := [main_v52]
theorem hostOps1_writes : (hostOps1 : List (HloOp τ sig (Elt F))).Forall fun op => op.writes ⊆ (hostOps1_W.map (Proc.devRef (τ := τ) .tc)).toFinset :=
  StableHlo.forall_writes_sub_of_map rfl

theorem hostOps1_args : ∀ a ∈ argRefs, a ∉ hostOps1_W := ListAll.forall_mem_of_all_decide (by decide +kernel)

end Cert.KernelIdeal.Hand

end
-- ==== Proof.Fold.lean ====
module

public import proofs.«01_k».proof.Proof.MainRun
public import proofs.«01_k».proof.Proof.MatchRun
public import proofs.«01_k».proof.Proof.Hosts

@[expose] public section

set_option maxRecDepth 16384

/-! The contents of the buffers at each boundary between host stretches and launches. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)
theorem W4_main_arg14 (c : Dev nD) : W4 m ρ c (Proc.devRef .tc main_arg14) = m ((c : Thread nD τ).loc main_arg14) :=
  W4_args m ρ c main_arg14 (by decide)
theorem W4_main_arg15 (c : Dev nD) : W4 m ρ c (Proc.devRef .tc main_arg15) = m ((c : Thread nD τ).loc main_arg15) :=
  W4_args m ρ c main_arg15 (by decide)
theorem W4_main_arg16 (c : Dev nD) : W4 m ρ c (Proc.devRef .tc main_arg16) = m ((c : Thread nD τ).loc main_arg16) :=
  W4_args m ρ c main_arg16 (by decide)
theorem W4_main_arg17 (c : Dev nD) : W4 m ρ c (Proc.devRef .tc main_arg17) = m ((c : Thread nD τ).loc main_arg17) :=
  W4_args m ρ c main_arg17 (by decide)
theorem W4_main_arg18 (c : Dev nD) : W4 m ρ c (Proc.devRef .tc main_arg18) = m ((c : Thread nD τ).loc main_arg18) :=
  W4_args m ρ c main_arg18 (by decide)
theorem W4_main_arg19 (c : Dev nD) : W4 m ρ c (Proc.devRef .tc main_arg19) = m ((c : Thread nD τ).loc main_arg19) :=
  W4_args m ρ c main_arg19 (by decide)
theorem W4_main_arg20 (c : Dev nD) : W4 m ρ c (Proc.devRef .tc main_arg20) = m ((c : Thread nD τ).loc main_arg20) :=
  W4_args m ρ c main_arg20 (by decide)

end Cert.KernelIdeal.Hand

end
-- ==== Proof.State.lean ====
module

public import proofs.«01_k».proof.Proof.Fold

@[expose] public section

set_option maxRecDepth 16384

/-! The state a core's thread carries between the segments. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

end Cert.KernelIdeal.Hand

end
-- ==== Proof.Record0.lean ====
module

public import proofs.«01_k».proof.Proof.State

@[expose] public section

set_option maxRecDepth 16384

/-! The first launch as a segment. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]; refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Record1.lean ====
module

public import proofs.«01_k».proof.Proof.State

@[expose] public section

set_option maxRecDepth 16384

/-! The second launch as a segment. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    rw [Pipeline.ownSems0_none]; refine BIBase.Entails.trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.Frame.lean ====
module

public import proofs.«01_k».proof.Proof.Record0
public import proofs.«01_k».proof.Proof.Record1

@[expose] public section

set_option maxRecDepth 16384

/-! The two launches and the host stretches run as one program: what every execution ends in. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in

theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Every execution ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
 ∧       r.2.mem ((c.tc : Thread nD τ).loc main_arg1) = m ((c.tc : Thread nD τ).loc main_arg1)
 ∧       r.2.mem ((c.tc : Thread nD τ).loc main_arg2) = m ((c.tc : Thread nD τ).loc main_arg2)
 ∧       r.2.mem ((c.tc : Thread nD τ).loc main_arg3) = m ((c.tc : Thread nD τ).loc main_arg3)
 ∧       r.2.mem ((c.tc : Thread nD τ).loc main_arg4) = m ((c.tc : Thread nD τ).loc main_arg4)
 ∧       r.2.mem ((c.tc : Thread nD τ).loc main_arg5) = m ((c.tc : Thread nD τ).loc main_arg5)
 ∧       r.2.mem ((c.tc : Thread nD τ).loc main_arg6) = m ((c.tc : Thread nD τ).loc main_arg6)
 ∧       r.2.mem ((c.tc : Thread nD τ).loc main_arg7) = m ((c.tc : Thread nD τ).loc main_arg7)
 ∧       r.2.mem ((c.tc : Thread nD τ).loc main_arg8) = m ((c.tc : Thread nD τ).loc main_arg8)
 ∧       r.2.mem ((c.tc : Thread nD τ).loc main_arg9) = m ((c.tc : Thread nD τ).loc main_arg9)
 ∧       r.2.mem ((c.tc : Thread nD τ).loc main_arg10) = m ((c.tc : Thread nD τ).loc main_arg10)
 ∧       r.2.mem ((c.tc : Thread nD τ).loc main_arg11) = m ((c.tc : Thread nD τ).loc main_arg11)
 ∧       r.2.mem ((c.tc : Thread nD τ).loc main_arg12) = m ((c.tc : Thread nD τ).loc main_arg12)
 ∧       r.2.mem ((c.tc : Thread nD τ).loc main_arg13) = m ((c.tc : Thread nD τ).loc main_arg13)
 ∧       r.2.mem ((c.tc : Thread nD τ).loc main_arg14) = m ((c.tc : Thread nD τ).loc main_arg14)
 ∧       r.2.mem ((c.tc : Thread nD τ).loc main_arg15) = m ((c.tc : Thread nD τ).loc main_arg15)
 ∧       r.2.mem ((c.tc : Thread nD τ).loc main_arg16) = m ((c.tc : Thread nD τ).loc main_arg16)
 ∧       r.2.mem ((c.tc : Thread nD τ).loc main_arg17) = m ((c.tc : Thread nD τ).loc main_arg17)
 ∧       r.2.mem ((c.tc : Thread nD τ).loc main_arg18) = m ((c.tc : Thread nD τ).loc main_arg18)
 ∧       r.2.mem ((c.tc : Thread nD τ).loc main_arg19) = m ((c.tc : Thread nD τ).loc main_arg19)
 ∧       r.2.mem ((c.tc : Thread nD τ).loc main_arg20) = m ((c.tc : Thread nD τ).loc main_arg20))
      ∧ r.2.sem = fun _ => 0) :=
  (θ_run defs _ _).mono (fun _ h => ⟨fun c =>
    ⟨(h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c),
     (h.1 c _ (mem_uc main_arg4 (by decide))).trans (W4_main_arg4 m ρ c),
     (h.1 c _ (mem_uc main_arg5 (by decide))).trans (W4_main_arg5 m ρ c),
     (h.1 c _ (mem_uc main_arg6 (by decide))).trans (W4_main_arg6 m ρ c),
     (h.1 c _ (mem_uc main_arg7 (by decide))).trans (W4_main_arg7 m ρ c),
     (h.1 c _ (mem_uc main_arg8 (by decide))).trans (W4_main_arg8 m ρ c),
     (h.1 c _ (mem_uc main_arg9 (by decide))).trans (W4_main_arg9 m ρ c),
     (h.1 c _ (mem_uc main_arg10 (by decide))).trans (W4_main_arg10 m ρ c),
     (h.1 c _ (mem_uc main_arg11 (by decide))).trans (W4_main_arg11 m ρ c),
     (h.1 c _ (mem_uc main_arg12 (by decide))).trans (W4_main_arg12 m ρ c),
     (h.1 c _ (mem_uc main_arg13 (by decide))).trans (W4_main_arg13 m ρ c),
     (h.1 c _ (mem_uc main_arg14 (by decide))).trans (W4_main_arg14 m ρ c),
     (h.1 c _ (mem_uc main_arg15 (by decide))).trans (W4_main_arg15 m ρ c),
     (h.1 c _ (mem_uc main_arg16 (by decide))).trans (W4_main_arg16 m ρ c),
     (h.1 c _ (mem_uc main_arg17 (by decide))).trans (W4_main_arg17 m ρ c),
     (h.1 c _ (mem_uc main_arg18 (by decide))).trans (W4_main_arg18 m ρ c),
     (h.1 c _ (mem_uc main_arg19 (by decide))).trans (W4_main_arg19 m ρ c),
     (h.1 c _ (mem_uc main_arg20 (by decide))).trans (W4_main_arg20 m ρ c)⟩, h.2⟩) (run_all m ρ)

end Cert.KernelIdeal.Hand

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4776

/-! The reference's operation lists: before the loop, one trip, and after it. -/

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
abbrev hostOps0 : List (HloOp τ sig (Elt F)) :=
  [ binary main_arg0 main_arg0 main_v0 (mulf : (⟨S2x4096x1024, .f32⟩ : BufTy).Contents (Elt F) → (⟨S2x4096x1024, .f32⟩ : BufTy).Contents (Elt F) → (⟨S2x4096x1024, .f32⟩ : BufTy).Contents (Elt F)),
    nullary main_cst (constant S_ .f32 0x00000000#32),
    binary main_v0 main_cst main_v1 ((fun x v => Host.reduceAdd x v reducesTo_S2x4096x1024_S2x4096_d2 h_S_) : (⟨S2x4096x1024, .f32⟩ : BufTy).Contents (Elt F) → (⟨S_, .f32⟩ : BufTy).Contents (Elt F) → (⟨S2x4096, .f32⟩ : BufTy).Contents (Elt F)),
    unary main_v1 main_v2 (broadcastInDim S2x4096x1 ![0, 1] bcast_S2x4096_S2x4096x1_0_1 : (⟨S2x4096, .f32⟩ : BufTy).Contents (Elt F) → (⟨S2x4096x1, .f32⟩ : BufTy).Contents (Elt F)),
    nullary main_cst_0 (constant S_ .f32 0x44800000#32),
    unary main_cst_0 main_v3 (broadcastInDim S2x4096x1 ![] bcast_S_S2x4096x1 : (⟨S_, .f32⟩ : BufTy).Contents (Elt F) → (⟨S2x4096x1, .f32⟩ : BufTy).Contents (Elt F)),
    binary main_v2 main_v3 main_v4 (Host.divf : (⟨S2x4096x1, .f32⟩ : BufTy).Contents (Elt F) → (⟨S2x4096x1, .f32⟩ : BufTy).Contents (Elt F) → (⟨S2x4096x1, .f32⟩ : BufTy).Contents (Elt F)),
    nullary main_cst_1 (constant S_ .f32 0x358637BD#32),
    unary main_cst_1 main_v5 (broadcastInDim S2x4096x1 ![] bcast_S_S2x4096x1 : (⟨S_, .f32⟩ : BufTy).Contents (Elt F) → (⟨S2x4096x1, .f32⟩ : BufTy).Contents (Elt F)),
    binary main_v4 main_v5 main_v6 (addf : (⟨S2x4096x1, .f32⟩ : BufTy).Contents (Elt F) → (⟨S2x4096x1, .f32⟩ : BufTy).Contents (Elt F) → (⟨S2x4096x1, .f32⟩ : BufTy).Contents (Elt F)),
    unary main_v6 main_v7 (Host.rsqrt : (⟨S2x4096x1, .f32⟩ : BufTy).Contents (Elt F) → (⟨S2x4096x1, .f32⟩ : BufTy).Contents (Elt F)),
    unary main_v7 main_v8 (broadcastInDim S2x4096x1024 ![0, 1, 2] bcast_S2x4096x1_S2x4096x1024_0_1_2 : (⟨S2x4096x1, .f32⟩ : BufTy).Contents (Elt F) → (⟨S2x4096x1024, .f32⟩ : BufTy).Contents (Elt F)),
    binary main_arg0 main_v8 main_v9 (mulf : (⟨S2x4096x1024, .f32⟩ : BufTy).Contents (Elt F) → (⟨S2x4096x1024, .f32⟩ : BufTy).Contents (Elt F) → (⟨S2x4096x1024, .f32⟩ : BufTy).Contents (Elt F)),
    nullary main_c (constantI S_ 32 0#32) ]
theorem hostOps0_sub : (hostOps0 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub ..⟩
abbrev hostOps0_1 : List (HloOp τ sig (Elt F)) :=
  [ TRef.unary (.of main_c : TRef sig ⟨S_, .i32⟩) (.of main_call0_v0 : TRef sig ⟨S_, .f32⟩) (sitofp .f32),
    TRef.binary (.of main_v9 : TRef sig ⟨S2x4096x1024, .f32⟩) (.of main_call0_v0 : TRef sig ⟨S_, .f32⟩) (.of main_v10 : TRef sig ⟨S2x4099x1024, .f32⟩) (fun x v => pad S2x4099x1024 ![0, 3, 0] ![0, 0, 0] ![0, 0, 0] x v pads_S2x4096x1024_S2x4099x1024_000_300_000 h_S_) ]
theorem hostOps0_1_sub : (hostOps0_1 : List (HloOp τ sig (Elt F))).Forall fun op => op.bufs ⊆ tcRefs τ sig :=
  ⟨unary_bufs_sub .., binary_bufs_sub ..⟩
set_option maxHeartbeats 40000000 in
abbrev hostOps0_2 : List (HloOp τ sig (Elt F)) :=
  ( nullary main_cst_2 (constant S_ .f32 0x00000000#32)
  :: unary main_cst_2 main_v11 (broadcastInDim S2x4096x1024 ![] bcast_S_S2x4096x1024 : (⟨S_, .f32⟩ : BufTy).Contents (Elt F) → (⟨S2x4096x1024, .f32⟩ : BufTy).Contents (Elt F))
  :: unary main_v10 main_v12 ((extractStridedSlice S2x4096x1024 ![0, 0, 0] · slices_S2x4099x1024_S2x4096x1024_0_0_0) : (⟨S2x4099x1024, .f32⟩ : BufTy).Contents (Elt F) → (⟨S2x4096x1024, .f32⟩ : BufTy).Contents (Elt F))
  :: unary main_arg1 main_v13 ((extractStridedSlice S1024x1 ![0, 0] · slices_S1024x4_S1024x1_0_0) : (⟨S1024x4, .f32⟩ : BufTy).Contents (Elt F) → (⟨S1024x1, .f32⟩ : BufTy).Contents (Elt F))
  :: reshape main_v13 main_v14 (rfl : (.f32 : EltTy) = .f32) shapeCasts_S1024x1_S1024
  :: unary main_v14 main_v15 (broadcastInDim S1x1x1024 ![2] bcast_S1024_S1x1x1024_2 : (⟨S1024, .f32⟩ : BufTy).Contents (Elt F) → (⟨S1x1x1024, .f32⟩ : BufTy).Contents (Elt F))
  :: unary main_v15 main_v16 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v12 main_v16 main_v17 (mulf : (⟨S2x4096x1024, .f32⟩ : BufTy).Contents (Elt F) → (⟨S2x4096x1024, .f32⟩ : BufTy).Contents (Elt F) → (⟨S2x4096x1024, .f32⟩ : BufTy).Contents (Elt F))
  :: binary main_v11 main_v17 main_v18 (addf : (⟨S2x4096x1024, .f32⟩ : BufTy).Contents (Elt F) → (⟨S2x4096x1024, .f32⟩ : BufTy).Contents (Elt F) → (⟨S2x4096x1024, .f32⟩ : BufTy).Contents (Elt F))
  :: unary main_v10 main_v19 ((extractStridedSlice S2x4096x1024 ![0, 1, 0] · slices_S2x4099x1024_S2x4096x1024_0_1_0) : (⟨S2x4099x1024, .f32⟩ : BufTy).Contents (Elt F) → (⟨S2x4096x1024, .f32⟩ : BufTy).Contents (Elt F))
  :: unary main_arg1 main_v20 ((extractStridedSlice S1024x1 ![0, 1] · slices_S1024x4_S1024x1_0_1) : (⟨S1024x4, .f32⟩ : BufTy).Contents (Elt F) → (⟨S1024x1, .f32⟩ : BufTy).Contents (Elt F))
  :: reshape main_v20 main_v21 (rfl : (.f32 : EltTy) = .f32) shapeCasts_S1024x1_S1024
  :: unary main_v21 main_v22 (broadcastInDim S1x1x1024 ![2] bcast_S1024_S1x1x1024_2 : (⟨S1024, .f32⟩ : BufTy).Contents (Elt F) → (⟨S1x1x1024, .f32⟩ : BufTy).Contents (Elt F))
  :: unary main_v22 main_v23 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v19 main_v23 main_v24 (mulf : (⟨S2x4096x1024, .f32⟩ : BufTy).Contents (Elt F) → (⟨S2x4096x1024, .f32⟩ : BufTy).Contents (Elt F) → (⟨S2x4096x1024, .f32⟩ : BufTy).Contents (Elt F))
  :: binary main_v18 main_v24 main_v25 (addf : (⟨S2x4096x1024, .f32⟩ : BufTy).Contents (Elt F) → (⟨S2x4096x1024, .f32⟩ : BufTy).Contents (Elt F) → (⟨S2x4096x1024, .f32⟩ : BufTy).Contents (Elt F))
  :: unary main_v10 main_v26 ((extractStridedSlice S2x4096x1024 ![0, 2, 0] · slices_S2x4099x1024_S2x4096x1024_0_2_0) : (⟨S2x4099x1024, .f32⟩ : BufTy).Contents (Elt F) → (⟨S2x4096x1024, .f32⟩ : BufTy).Contents (Elt F))
  :: unary main_arg1 main_v27 ((extractStridedSlice S1024x1 ![0, 2] · slices_S1024x4_S1024x1_0_2) : (⟨S1024x4, .f32⟩ : BufTy).Contents (Elt F) → (⟨S1024x1, .f32⟩ : BufTy).Contents (Elt F))
  :: reshape main_v27 main_v28 (rfl : (.f32 : EltTy) = .f32) shapeCasts_S1024x1_S1024
  :: unary main_v28 main_v29 (broadcastInDim S1x1x1024 ![2] bcast_S1024_S1x1x1024_2 : (⟨S1024, .f32⟩ : BufTy).Contents (Elt F) → (⟨S1x1x1024, .f32⟩ : BufTy).Contents (Elt F))
  :: unary main_v29 main_v30 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v26 main_v30 main_v31 (mulf : (⟨S2x4096x1024, .f32⟩ : BufTy).Contents (Elt F) → (⟨S2x4096x1024, .f32⟩ : BufTy).Contents (Elt F) → (⟨S2x4096x1024, .f32⟩ : BufTy).Contents (Elt F))
  :: binary main_v25 main_v31 main_v32 (addf : (⟨S2x4096x1024, .f32⟩ : BufTy).Contents (Elt F) → (⟨S2x4096x1024, .f32⟩ : BufTy).Contents (Elt F) → (⟨S2x4096x1024, .f32⟩ : BufTy).Contents (Elt F))
  :: unary main_v10 main_v33 ((extractStridedSlice S2x4096x1024 ![0, 3, 0] · slices_S2x4099x1024_S2x4096x1024_0_3_0) : (⟨S2x4099x1024, .f32⟩ : BufTy).Contents (Elt F) → (⟨S2x4096x1024, .f32⟩ : BufTy).Contents (Elt F))
  :: unary main_arg1 main_v34 ((extractStridedSlice S1024x1 ![0, 3] · slices_S1024x4_S1024x1_0_3) : (⟨S1024x4, .f32⟩ : BufTy).Contents (Elt F) → (⟨S1024x1, .f32⟩ : BufTy).Contents (Elt F))
  :: reshape main_v34 main_v35 (rfl : (.f32 : EltTy) = .f32) shapeCasts_S1024x1_S1024
  :: unary main_v35 main_v36 (broadcastInDim S1x1x1024 ![2] bcast_S1024_S1x1x1024_2 : (⟨S1024, .f32⟩ : BufTy).Contents (Elt F) → (⟨S1x1x1024, .f32⟩ : BufTy).Contents (Elt F))
  :: unary main_v36 main_v37 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v33 main_v37 main_v38 (mulf : (⟨S2x4096x1024, .f32⟩ : BufTy).Contents (Elt F) → (⟨S2x4096x1024, .f32⟩ : BufTy).Contents (Elt F) → (⟨S2x4096x1024, .f32⟩ : BufTy).Contents (Elt F))
  :: binary main_v32 main_v38 main_v39 (addf : (⟨S2x4096x1024, .f32⟩ : BufTy).Contents (Elt F) → (⟨S2x4096x1024, .f32⟩ : BufTy).Contents (Elt F) → (⟨S2x4096x1024, .f32⟩ : BufTy).Contents (Elt F))
  :: unary main_arg2 main_v40 ((transpose S1024x1024 [1, 0] · transposes_S1024x1024_S1024x1024_1_0) : (⟨S1024x1024, .f32⟩ : BufTy).Contents (Elt F) → (⟨S1024x1024, .f32⟩ : BufTy).Contents (Elt F))
  :: binary main_v9 main_v40 main_v41 ((fun l r => Host.dotGeneral dot_S2x4096x1024_S1024x1024_S2x4096x1024_2_0_01_1_n_n none l r) : (⟨S2x4096x1024, .f32⟩ : BufTy).Contents (Elt F) → (⟨S1024x1024, .f32⟩ : BufTy).Contents (Elt F) → (⟨S2x4096x1024, .f32⟩ : BufTy).Contents (Elt F))
  :: unary main_arg3 main_v42 (broadcastInDim S1x1x1024 ![2] bcast_S1024_S1x1x1024_2 : (⟨S1024, .f32⟩ : BufTy).Contents (Elt F) → (⟨S1x1x1024, .f32⟩ : BufTy).Contents (Elt F))
  :: unary main_v42 main_v43 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v41 main_v43 main_v44 (addf : (⟨S2x4096x1024, .f32⟩ : BufTy).Contents (Elt F) → (⟨S2x4096x1024, .f32⟩ : BufTy).Contents (Elt F) → (⟨S2x4096x1024, .f32⟩ : BufTy).Contents (Elt F))
  :: unary main_v44 main_v45 (Host.negf : (⟨S2x4096x1024, .f32⟩ : BufTy).Contents (Elt F) → (⟨S2x4096x1024, .f32⟩ : BufTy).Contents (Elt F))
  :: unary main_v45 main_v46 (Host.exp : (⟨S2x4096x1024, .f32⟩ : BufTy).Contents (Elt F) → (⟨S2x4096x1024, .f32⟩ : BufTy).Contents (Elt F))
  :: nullary main_cst_3 (constant S_ .f32 0x3F800000#32)
  :: unary main_cst_3 main_v47 (broadcastInDim S2x4096x1024 ![] bcast_S_S2x4096x1024 : (⟨S_, .f32⟩ : BufTy).Contents (Elt F) → (⟨S2x4096x1024, .f32⟩ : BufTy).Contents (Elt F))
  :: binary main_v47 main_v46 main_v48 (addf : (⟨S2x4096x1024, .f32⟩ : BufTy).Contents (Elt F) → (⟨S2x4096x1024, .f32⟩ : BufTy).Contents (Elt F) → (⟨S2x4096x1024, .f32⟩ : BufTy).Contents (Elt F))
  :: nullary main_cst_4 (constant S_ .f32 0x3F800000#32)
  :: unary main_cst_4 main_v49 (broadcastInDim S2x4096x1024 ![] bcast_S_S2x4096x1024 : (⟨S_, .f32⟩ : BufTy).Contents (Elt F) → (⟨S2x4096x1024, .f32⟩ : BufTy).Contents (Elt F))
  :: binary main_v49 main_v48 main_v50 (Host.divf : (⟨S2x4096x1024, .f32⟩ : BufTy).Contents (Elt F) → (⟨S2x4096x1024, .f32⟩ : BufTy).Contents (Elt F) → (⟨S2x4096x1024, .f32⟩ : BufTy).Contents (Elt F))
  :: binary main_v39 main_v50 main_v51 (mulf : (⟨S2x4096x1024, .f32⟩ : BufTy).Contents (Elt F) → (⟨S2x4096x1024, .f32⟩ : BufTy).Contents (Elt F) → (⟨S2x4096x1024, .f32⟩ : BufTy).Contents (Elt F))
  :: unary main_arg8 main_v52 ((transpose S1024x4096 [1, 0] · transposes_S4096x1024_S1024x4096_1_0) : (⟨S4096x1024, .f32⟩ : BufTy).Contents (Elt F) → (⟨S1024x4096, .f32⟩ : BufTy).Contents (Elt F))
  :: binary main_v51 main_v52 main_v53 ((fun l r => Host.dotGeneral dot_S2x4096x1024_S1024x4096_S2x4096x4096_2_0_01_1_n_n none l r) : (⟨S2x4096x1024, .f32⟩ : BufTy).Contents (Elt F) → (⟨S1024x4096, .f32⟩ : BufTy).Contents (Elt F) → (⟨S2x4096x4096, .f32⟩ : BufTy).Contents (Elt F))
  :: reshape main_v53 main_v54 (rfl : (.f32 : EltTy) = .f32) shapeCasts_S2x4096x4096_S2x4096x4x1024
  :: unary main_arg10 main_v55 (Host.negf : (⟨S4, .f32⟩ : BufTy).Contents (Elt F) → (⟨S4, .f32⟩ : BufTy).Contents (Elt F))
  :: unary main_v55 main_v56 (Host.exp : (⟨S4, .f32⟩ : BufTy).Contents (Elt F) → (⟨S4, .f32⟩ : BufTy).Contents (Elt F))
  :: nullary main_cst_5 (constant S_ .f32 0x3F800000#32)
  :: unary main_cst_5 main_v57 (broadcastInDim S4 ![] bcast_S_S4 : (⟨S_, .f32⟩ : BufTy).Contents (Elt F) → (⟨S4, .f32⟩ : BufTy).Contents (Elt F))
  :: binary main_v57 main_v56 main_v58 (addf : (⟨S4, .f32⟩ : BufTy).Contents (Elt F) → (⟨S4, .f32⟩ : BufTy).Contents (Elt F) → (⟨S4, .f32⟩ : BufTy).Contents (Elt F))
  :: nullary main_cst_6 (constant S_ .f32 0x3F800000#32)
  :: unary main_cst_6 main_v59 (broadcastInDim S4 ![] bcast_S_S4 : (⟨S_, .f32⟩ : BufTy).Contents (Elt F) → (⟨S4, .f32⟩ : BufTy).Contents (Elt F))
  :: binary main_v59 main_v58 main_v60 (Host.divf : (⟨S4, .f32⟩ : BufTy).Contents (Elt F) → (⟨S4, .f32⟩ : BufTy).Contents (Elt F) → (⟨S4, .f32⟩ : BufTy).Contents (Elt F))
  :: nullary main_cst_7 (constant S_ .f32 0x00000000#32)
  :: unary main_cst_7 main_v61 (broadcastInDim S2x4x1024 ![] bcast_S_S2x4x1024 : (⟨S_, .f32⟩ : BufTy).Contents (Elt F) → (⟨S2x4x1024, .f32⟩ : BufTy).Contents (Elt F))
  :: unary main_v54 main_v62 ((transpose S4096x2x4x1024 [1, 0, 2, 3] · transposes_S2x4096x4x1024_S4096x2x4x1024_1_0_2_3) : (⟨S2x4096x4x1024, .f32⟩ : BufTy).Contents (Elt F) → (⟨S4096x2x4x1024, .f32⟩ : BufTy).Contents (Elt F))
  :: nullary main_cst_8 (constant S_ .f32 0x00000000#32)
  :: unary main_cst_8 main_v63 (broadcastInDim S4096x2x4x1024 ![] bcast_S_S4096x2x4x1024 : (⟨S_, .f32⟩ : BufTy).Contents (Elt F) → (⟨S4096x2x4x1024, .f32⟩ : BufTy).Contents (Elt F))
  :: nullary main_c_9 (constantI S_ 32 0#32)
  :: unary main_v62 main_v64_0 id
  :: unary main_v60 main_v64_1 id
  :: unary main_c_9 main_v64_2 id
  :: unary main_v61 main_v64_3 id
  :: unary main_v63 main_v64_4 id
  :: [] )
set_option maxHeartbeats 40000000 in
theorem hostOps0_2_sub : (hostOps0_2 : List (HloOp τ sig (Elt F))).Forall fun op => op.bufs ⊆ tcRefs τ sig :=
  ⟨nullary_bufs_sub .., unary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., nullary_bufs_sub .., unary_bufs_sub .., nullary_bufs_sub .., unary_bufs_sub .., unary_bufs_sub .., unary_bufs_sub .., unary_bufs_sub .., unary_bufs_sub ..⟩
abbrev hostOps0_3 : List (HloOp τ sig (Elt F)) :=
  [ unary main_v64_4 main_v65 ((transpose S2x4096x4x1024 [1, 0, 2, 3] · transposes_S4096x2x4x1024_S2x4096x4x1024_1_0_2_3) : (⟨S4096x2x4x1024, .f32⟩ : BufTy).Contents (Elt F) → (⟨S2x4096x4x1024, .f32⟩ : BufTy).Contents (Elt F)),
    reshape main_v65 main_v66 (rfl : (.f32 : EltTy) = .f32) shapeCasts_S2x4096x4x1024_S2x4096x4096,
    binary main_arg0 main_arg0 main_v67 (mulf : (⟨S2x4096x1024, .f32⟩ : BufTy).Contents (Elt F) → (⟨S2x4096x1024, .f32⟩ : BufTy).Contents (Elt F) → (⟨S2x4096x1024, .f32⟩ : BufTy).Contents (Elt F)),
    nullary main_cst_10 (constant S_ .f32 0x00000000#32),
    binary main_v67 main_cst_10 main_v68 ((fun x v => Host.reduceAdd x v reducesTo_S2x4096x1024_S2x4096_d2 h_S_) : (⟨S2x4096x1024, .f32⟩ : BufTy).Contents (Elt F) → (⟨S_, .f32⟩ : BufTy).Contents (Elt F) → (⟨S2x4096, .f32⟩ : BufTy).Contents (Elt F)),
    unary main_v68 main_v69 (broadcastInDim S2x4096x1 ![0, 1] bcast_S2x4096_S2x4096x1_0_1 : (⟨S2x4096, .f32⟩ : BufTy).Contents (Elt F) → (⟨S2x4096x1, .f32⟩ : BufTy).Contents (Elt F)),
    nullary main_cst_11 (constant S_ .f32 0x44800000#32),
    unary main_cst_11 main_v70 (broadcastInDim S2x4096x1 ![] bcast_S_S2x4096x1 : (⟨S_, .f32⟩ : BufTy).Contents (Elt F) → (⟨S2x4096x1, .f32⟩ : BufTy).Contents (Elt F)),
    binary main_v69 main_v70 main_v71 (Host.divf : (⟨S2x4096x1, .f32⟩ : BufTy).Contents (Elt F) → (⟨S2x4096x1, .f32⟩ : BufTy).Contents (Elt F) → (⟨S2x4096x1, .f32⟩ : BufTy).Contents (Elt F)),
    nullary main_cst_12 (constant S_ .f32 0x358637BD#32),
    unary main_cst_12 main_v72 (broadcastInDim S2x4096x1 ![] bcast_S_S2x4096x1 : (⟨S_, .f32⟩ : BufTy).Contents (Elt F) → (⟨S2x4096x1, .f32⟩ : BufTy).Contents (Elt F)),
    binary main_v71 main_v72 main_v73 (addf : (⟨S2x4096x1, .f32⟩ : BufTy).Contents (Elt F) → (⟨S2x4096x1, .f32⟩ : BufTy).Contents (Elt F) → (⟨S2x4096x1, .f32⟩ : BufTy).Contents (Elt F)),
    unary main_v73 main_v74 (Host.rsqrt : (⟨S2x4096x1, .f32⟩ : BufTy).Contents (Elt F) → (⟨S2x4096x1, .f32⟩ : BufTy).Contents (Elt F)),
    unary main_v74 main_v75 (broadcastInDim S2x4096x1024 ![0, 1, 2] bcast_S2x4096x1_S2x4096x1024_0_1_2 : (⟨S2x4096x1, .f32⟩ : BufTy).Contents (Elt F) → (⟨S2x4096x1024, .f32⟩ : BufTy).Contents (Elt F)),
    binary main_arg0 main_v75 main_v76 (mulf : (⟨S2x4096x1024, .f32⟩ : BufTy).Contents (Elt F) → (⟨S2x4096x1024, .f32⟩ : BufTy).Contents (Elt F) → (⟨S2x4096x1024, .f32⟩ : BufTy).Contents (Elt F)),
    nullary main_c_13 (constantI S_ 32 0#32) ]
theorem hostOps0_3_sub : (hostOps0_3 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub ..⟩
abbrev hostOps0_4 : List (HloOp τ sig (Elt F)) :=
  [ TRef.unary (.of main_c_13 : TRef sig ⟨S_, .i32⟩) (.of main_call3_v0 : TRef sig ⟨S_, .f32⟩) (sitofp .f32),
    TRef.binary (.of main_v76 : TRef sig ⟨S2x4096x1024, .f32⟩) (.of main_call3_v0 : TRef sig ⟨S_, .f32⟩) (.of main_v77 : TRef sig ⟨S2x4099x1024, .f32⟩) (fun x v => pad S2x4099x1024 ![0, 3, 0] ![0, 0, 0] ![0, 0, 0] x v pads_S2x4096x1024_S2x4099x1024_000_300_000 h_S_) ]
theorem hostOps0_4_sub : (hostOps0_4 : List (HloOp τ sig (Elt F))).Forall fun op => op.bufs ⊆ tcRefs τ sig :=
  ⟨unary_bufs_sub .., binary_bufs_sub ..⟩
set_option maxHeartbeats 40000000 in
abbrev hostOps0_5 : List (HloOp τ sig (Elt F)) :=
  ( nullary main_cst_14 (constant S_ .f32 0x00000000#32)
  :: unary main_cst_14 main_v78 (broadcastInDim S2x4096x1024 ![] bcast_S_S2x4096x1024 : (⟨S_, .f32⟩ : BufTy).Contents (Elt F) → (⟨S2x4096x1024, .f32⟩ : BufTy).Contents (Elt F))
  :: unary main_v77 main_v79 ((extractStridedSlice S2x4096x1024 ![0, 0, 0] · slices_S2x4099x1024_S2x4096x1024_0_0_0) : (⟨S2x4099x1024, .f32⟩ : BufTy).Contents (Elt F) → (⟨S2x4096x1024, .f32⟩ : BufTy).Contents (Elt F))
  :: unary main_arg1 main_v80 ((extractStridedSlice S1024x1 ![0, 0] · slices_S1024x4_S1024x1_0_0) : (⟨S1024x4, .f32⟩ : BufTy).Contents (Elt F) → (⟨S1024x1, .f32⟩ : BufTy).Contents (Elt F))
  :: reshape main_v80 main_v81 (rfl : (.f32 : EltTy) = .f32) shapeCasts_S1024x1_S1024
  :: unary main_v81 main_v82 (broadcastInDim S1x1x1024 ![2] bcast_S1024_S1x1x1024_2 : (⟨S1024, .f32⟩ : BufTy).Contents (Elt F) → (⟨S1x1x1024, .f32⟩ : BufTy).Contents (Elt F))
  :: unary main_v82 main_v83 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v79 main_v83 main_v84 (mulf : (⟨S2x4096x1024, .f32⟩ : BufTy).Contents (Elt F) → (⟨S2x4096x1024, .f32⟩ : BufTy).Contents (Elt F) → (⟨S2x4096x1024, .f32⟩ : BufTy).Contents (Elt F))
  :: binary main_v78 main_v84 main_v85 (addf : (⟨S2x4096x1024, .f32⟩ : BufTy).Contents (Elt F) → (⟨S2x4096x1024, .f32⟩ : BufTy).Contents (Elt F) → (⟨S2x4096x1024, .f32⟩ : BufTy).Contents (Elt F))
  :: unary main_v77 main_v86 ((extractStridedSlice S2x4096x1024 ![0, 1, 0] · slices_S2x4099x1024_S2x4096x1024_0_1_0) : (⟨S2x4099x1024, .f32⟩ : BufTy).Contents (Elt F) → (⟨S2x4096x1024, .f32⟩ : BufTy).Contents (Elt F))
  :: unary main_arg1 main_v87 ((extractStridedSlice S1024x1 ![0, 1] · slices_S1024x4_S1024x1_0_1) : (⟨S1024x4, .f32⟩ : BufTy).Contents (Elt F) → (⟨S1024x1, .f32⟩ : BufTy).Contents (Elt F))
  :: reshape main_v87 main_v88 (rfl : (.f32 : EltTy) = .f32) shapeCasts_S1024x1_S1024
  :: unary main_v88 main_v89 (broadcastInDim S1x1x1024 ![2] bcast_S1024_S1x1x1024_2 : (⟨S1024, .f32⟩ : BufTy).Contents (Elt F) → (⟨S1x1x1024, .f32⟩ : BufTy).Contents (Elt F))
  :: unary main_v89 main_v90 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v86 main_v90 main_v91 (mulf : (⟨S2x4096x1024, .f32⟩ : BufTy).Contents (Elt F) → (⟨S2x4096x1024, .f32⟩ : BufTy).Contents (Elt F) → (⟨S2x4096x1024, .f32⟩ : BufTy).Contents (Elt F))
  :: binary main_v85 main_v91 main_v92 (addf : (⟨S2x4096x1024, .f32⟩ : BufTy).Contents (Elt F) → (⟨S2x4096x1024, .f32⟩ : BufTy).Contents (Elt F) → (⟨S2x4096x1024, .f32⟩ : BufTy).Contents (Elt F))
  :: unary main_v77 main_v93 ((extractStridedSlice S2x4096x1024 ![0, 2, 0] · slices_S2x4099x1024_S2x4096x1024_0_2_0) : (⟨S2x4099x1024, .f32⟩ : BufTy).Contents (Elt F) → (⟨S2x4096x1024, .f32⟩ : BufTy).Contents (Elt F))
  :: unary main_arg1 main_v94 ((extractStridedSlice S1024x1 ![0, 2] · slices_S1024x4_S1024x1_0_2) : (⟨S1024x4, .f32⟩ : BufTy).Contents (Elt F) → (⟨S1024x1, .f32⟩ : BufTy).Contents (Elt F))
  :: reshape main_v94 main_v95 (rfl : (.f32 : EltTy) = .f32) shapeCasts_S1024x1_S1024
  :: unary main_v95 main_v96 (broadcastInDim S1x1x1024 ![2] bcast_S1024_S1x1x1024_2 : (⟨S1024, .f32⟩ : BufTy).Contents (Elt F) → (⟨S1x1x1024, .f32⟩ : BufTy).Contents (Elt F))
  :: unary main_v96 main_v97 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v93 main_v97 main_v98 (mulf : (⟨S2x4096x1024, .f32⟩ : BufTy).Contents (Elt F) → (⟨S2x4096x1024, .f32⟩ : BufTy).Contents (Elt F) → (⟨S2x4096x1024, .f32⟩ : BufTy).Contents (Elt F))
  :: binary main_v92 main_v98 main_v99 (addf : (⟨S2x4096x1024, .f32⟩ : BufTy).Contents (Elt F) → (⟨S2x4096x1024, .f32⟩ : BufTy).Contents (Elt F) → (⟨S2x4096x1024, .f32⟩ : BufTy).Contents (Elt F))
  :: unary main_v77 main_v100 ((extractStridedSlice S2x4096x1024 ![0, 3, 0] · slices_S2x4099x1024_S2x4096x1024_0_3_0) : (⟨S2x4099x1024, .f32⟩ : BufTy).Contents (Elt F) → (⟨S2x4096x1024, .f32⟩ : BufTy).Contents (Elt F))
  :: unary main_arg1 main_v101 ((extractStridedSlice S1024x1 ![0, 3] · slices_S1024x4_S1024x1_0_3) : (⟨S1024x4, .f32⟩ : BufTy).Contents (Elt F) → (⟨S1024x1, .f32⟩ : BufTy).Contents (Elt F))
  :: reshape main_v101 main_v102 (rfl : (.f32 : EltTy) = .f32) shapeCasts_S1024x1_S1024
  :: unary main_v102 main_v103 (broadcastInDim S1x1x1024 ![2] bcast_S1024_S1x1x1024_2 : (⟨S1024, .f32⟩ : BufTy).Contents (Elt F) → (⟨S1x1x1024, .f32⟩ : BufTy).Contents (Elt F))
  :: unary main_v103 main_v104 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v100 main_v104 main_v105 (mulf : (⟨S2x4096x1024, .f32⟩ : BufTy).Contents (Elt F) → (⟨S2x4096x1024, .f32⟩ : BufTy).Contents (Elt F) → (⟨S2x4096x1024, .f32⟩ : BufTy).Contents (Elt F))
  :: binary main_v99 main_v105 main_v106 (addf : (⟨S2x4096x1024, .f32⟩ : BufTy).Contents (Elt F) → (⟨S2x4096x1024, .f32⟩ : BufTy).Contents (Elt F) → (⟨S2x4096x1024, .f32⟩ : BufTy).Contents (Elt F))
  :: unary main_arg2 main_v107 ((transpose S1024x1024 [1, 0] · transposes_S1024x1024_S1024x1024_1_0) : (⟨S1024x1024, .f32⟩ : BufTy).Contents (Elt F) → (⟨S1024x1024, .f32⟩ : BufTy).Contents (Elt F))
  :: binary main_v76 main_v107 main_v108 ((fun l r => Host.dotGeneral dot_S2x4096x1024_S1024x1024_S2x4096x1024_2_0_01_1_n_n none l r) : (⟨S2x4096x1024, .f32⟩ : BufTy).Contents (Elt F) → (⟨S1024x1024, .f32⟩ : BufTy).Contents (Elt F) → (⟨S2x4096x1024, .f32⟩ : BufTy).Contents (Elt F))
  :: unary main_arg3 main_v109 (broadcastInDim S1x1x1024 ![2] bcast_S1024_S1x1x1024_2 : (⟨S1024, .f32⟩ : BufTy).Contents (Elt F) → (⟨S1x1x1024, .f32⟩ : BufTy).Contents (Elt F))
  :: unary main_v109 main_v110 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v108 main_v110 main_v111 (addf : (⟨S2x4096x1024, .f32⟩ : BufTy).Contents (Elt F) → (⟨S2x4096x1024, .f32⟩ : BufTy).Contents (Elt F) → (⟨S2x4096x1024, .f32⟩ : BufTy).Contents (Elt F))
  :: unary main_v111 main_v112 (Host.negf : (⟨S2x4096x1024, .f32⟩ : BufTy).Contents (Elt F) → (⟨S2x4096x1024, .f32⟩ : BufTy).Contents (Elt F))
  :: unary main_v112 main_v113 (Host.exp : (⟨S2x4096x1024, .f32⟩ : BufTy).Contents (Elt F) → (⟨S2x4096x1024, .f32⟩ : BufTy).Contents (Elt F))
  :: nullary main_cst_15 (constant S_ .f32 0x3F800000#32)
  :: unary main_cst_15 main_v114 (broadcastInDim S2x4096x1024 ![] bcast_S_S2x4096x1024 : (⟨S_, .f32⟩ : BufTy).Contents (Elt F) → (⟨S2x4096x1024, .f32⟩ : BufTy).Contents (Elt F))
  :: binary main_v114 main_v113 main_v115 (addf : (⟨S2x4096x1024, .f32⟩ : BufTy).Contents (Elt F) → (⟨S2x4096x1024, .f32⟩ : BufTy).Contents (Elt F) → (⟨S2x4096x1024, .f32⟩ : BufTy).Contents (Elt F))
  :: nullary main_cst_16 (constant S_ .f32 0x3F800000#32)
  :: unary main_cst_16 main_v116 (broadcastInDim S2x4096x1024 ![] bcast_S_S2x4096x1024 : (⟨S_, .f32⟩ : BufTy).Contents (Elt F) → (⟨S2x4096x1024, .f32⟩ : BufTy).Contents (Elt F))
  :: binary main_v116 main_v115 main_v117 (Host.divf : (⟨S2x4096x1024, .f32⟩ : BufTy).Contents (Elt F) → (⟨S2x4096x1024, .f32⟩ : BufTy).Contents (Elt F) → (⟨S2x4096x1024, .f32⟩ : BufTy).Contents (Elt F))
  :: binary main_v106 main_v117 main_v118 (mulf : (⟨S2x4096x1024, .f32⟩ : BufTy).Contents (Elt F) → (⟨S2x4096x1024, .f32⟩ : BufTy).Contents (Elt F) → (⟨S2x4096x1024, .f32⟩ : BufTy).Contents (Elt F))
  :: unary main_arg9 main_v119 ((transpose S4096x1024 [1, 0] · transposes_S1024x4096_S4096x1024_1_0) : (⟨S1024x4096, .f32⟩ : BufTy).Contents (Elt F) → (⟨S4096x1024, .f32⟩ : BufTy).Contents (Elt F))
  :: binary main_v66 main_v119 main_v120 ((fun l r => Host.dotGeneral dot_S2x4096x4096_S4096x1024_S2x4096x1024_2_0_01_1_n_n none l r) : (⟨S2x4096x4096, .f32⟩ : BufTy).Contents (Elt F) → (⟨S4096x1024, .f32⟩ : BufTy).Contents (Elt F) → (⟨S2x4096x1024, .f32⟩ : BufTy).Contents (Elt F))
  :: unary main_arg17 main_v121 ((transpose S1024x1 [1, 0] · transposes_S1x1024_S1024x1_1_0) : (⟨S1x1024, .f32⟩ : BufTy).Contents (Elt F) → (⟨S1024x1, .f32⟩ : BufTy).Contents (Elt F))
  :: binary main_v76 main_v121 main_v122 ((fun l r => Host.dotGeneral dot_S2x4096x1024_S1024x1_S2x4096x1_2_0_01_1_n_n none l r) : (⟨S2x4096x1024, .f32⟩ : BufTy).Contents (Elt F) → (⟨S1024x1, .f32⟩ : BufTy).Contents (Elt F) → (⟨S2x4096x1, .f32⟩ : BufTy).Contents (Elt F))
  :: unary main_arg18 main_v123 (broadcastInDim S1x1x1 ![2] bcast_S1_S1x1x1_2 : (⟨S1, .f32⟩ : BufTy).Contents (Elt F) → (⟨S1x1x1, .f32⟩ : BufTy).Contents (Elt F))
  :: unary main_v123 main_v124 (broadcastInDim S2x4096x1 ![0, 1, 2] bcast_S1x1x1_S2x4096x1_0_1_2 : (⟨S1x1x1, .f32⟩ : BufTy).Contents (Elt F) → (⟨S2x4096x1, .f32⟩ : BufTy).Contents (Elt F))
  :: binary main_v122 main_v124 main_v125 (addf : (⟨S2x4096x1, .f32⟩ : BufTy).Contents (Elt F) → (⟨S2x4096x1, .f32⟩ : BufTy).Contents (Elt F) → (⟨S2x4096x1, .f32⟩ : BufTy).Contents (Elt F))
  :: unary main_v125 main_v126 (Host.negf : (⟨S2x4096x1, .f32⟩ : BufTy).Contents (Elt F) → (⟨S2x4096x1, .f32⟩ : BufTy).Contents (Elt F))
  :: unary main_v126 main_v127 (Host.exp : (⟨S2x4096x1, .f32⟩ : BufTy).Contents (Elt F) → (⟨S2x4096x1, .f32⟩ : BufTy).Contents (Elt F))
  :: nullary main_cst_17 (constant S_ .f32 0x3F800000#32)
  :: unary main_cst_17 main_v128 (broadcastInDim S2x4096x1 ![] bcast_S_S2x4096x1 : (⟨S_, .f32⟩ : BufTy).Contents (Elt F) → (⟨S2x4096x1, .f32⟩ : BufTy).Contents (Elt F))
  :: binary main_v128 main_v127 main_v129 (addf : (⟨S2x4096x1, .f32⟩ : BufTy).Contents (Elt F) → (⟨S2x4096x1, .f32⟩ : BufTy).Contents (Elt F) → (⟨S2x4096x1, .f32⟩ : BufTy).Contents (Elt F))
  :: nullary main_cst_18 (constant S_ .f32 0x3F800000#32)
  :: unary main_cst_18 main_v130 (broadcastInDim S2x4096x1 ![] bcast_S_S2x4096x1 : (⟨S_, .f32⟩ : BufTy).Contents (Elt F) → (⟨S2x4096x1, .f32⟩ : BufTy).Contents (Elt F))
  :: binary main_v130 main_v129 main_v131 (Host.divf : (⟨S2x4096x1, .f32⟩ : BufTy).Contents (Elt F) → (⟨S2x4096x1, .f32⟩ : BufTy).Contents (Elt F) → (⟨S2x4096x1, .f32⟩ : BufTy).Contents (Elt F))
  :: unary main_v131 main_v132 (broadcastInDim S2x4096x1024 ![0, 1, 2] bcast_S2x4096x1_S2x4096x1024_0_1_2 : (⟨S2x4096x1, .f32⟩ : BufTy).Contents (Elt F) → (⟨S2x4096x1024, .f32⟩ : BufTy).Contents (Elt F))
  :: binary main_v120 main_v132 main_v133 (mulf : (⟨S2x4096x1024, .f32⟩ : BufTy).Contents (Elt F) → (⟨S2x4096x1024, .f32⟩ : BufTy).Contents (Elt F) → (⟨S2x4096x1024, .f32⟩ : BufTy).Contents (Elt F))
  :: unary main_arg12 main_v134 ((transpose S1024x32 [1, 0] · transposes_S32x1024_S1024x32_1_0) : (⟨S32x1024, .f32⟩ : BufTy).Contents (Elt F) → (⟨S1024x32, .f32⟩ : BufTy).Contents (Elt F))
  :: binary main_v76 main_v134 main_v135 ((fun l r => Host.dotGeneral dot_S2x4096x1024_S1024x32_S2x4096x32_2_0_01_1_n_n none l r) : (⟨S2x4096x1024, .f32⟩ : BufTy).Contents (Elt F) → (⟨S1024x32, .f32⟩ : BufTy).Contents (Elt F) → (⟨S2x4096x32, .f32⟩ : BufTy).Contents (Elt F))
  :: nullary main_cst_19 (constant S_ .f32 0x00000000#32)
  :: unary main_cst_19 main_v136 (broadcastInDim S2x4096x32 ![] bcast_S_S2x4096x32 : (⟨S_, .f32⟩ : BufTy).Contents (Elt F) → (⟨S2x4096x32, .f32⟩ : BufTy).Contents (Elt F))
  :: binary main_v135 main_v136 main_v137 (cmpf .ogt : (⟨S2x4096x32, .f32⟩ : BufTy).Contents (Elt F) → (⟨S2x4096x32, .f32⟩ : BufTy).Contents (Elt F) → (⟨S2x4096x32, .i1⟩ : BufTy).Contents (Elt F))
  :: unary main_v137 main_v138 ((extui 32 · natLt_1_32) : (⟨S2x4096x32, .i1⟩ : BufTy).Contents (Elt F) → (⟨S2x4096x32, .i32⟩ : BufTy).Contents (Elt F))
  :: reshape main_v138 main_v139 (rfl : (.i32 : EltTy) = .i32) shapeCasts_S2x4096x32_S2x4096x2x16
  :: nullary main_v140 (iotaInDim S16 32 0)
  :: nullary main_c_20 (constantI S_ 32 1#32)
  :: unary main_c_20 main_v141 (broadcastInDim S16 ![] bcast_S_S16 : (⟨S_, .i32⟩ : BufTy).Contents (Elt F) → (⟨S16, .i32⟩ : BufTy).Contents (Elt F))
  :: binary main_v141 main_v140 main_v142 (Host.shli : (⟨S16, .i32⟩ : BufTy).Contents (Elt F) → (⟨S16, .i32⟩ : BufTy).Contents (Elt F) → (⟨S16, .i32⟩ : BufTy).Contents (Elt F))
  :: unary main_v142 main_v143 (broadcastInDim S1x1x1x16 ![3] bcast_S16_S1x1x1x16_3 : (⟨S16, .i32⟩ : BufTy).Contents (Elt F) → (⟨S1x1x1x16, .i32⟩ : BufTy).Contents (Elt F))
  :: unary main_v143 main_v144 (broadcastInDim S2x4096x2x16 ![0, 1, 2, 3] bcast_S1x1x1x16_S2x4096x2x16_0_1_2_3 : (⟨S1x1x1x16, .i32⟩ : BufTy).Contents (Elt F) → (⟨S2x4096x2x16, .i32⟩ : BufTy).Contents (Elt F))
  :: binary main_v139 main_v144 main_v145 (muli : (⟨S2x4096x2x16, .i32⟩ : BufTy).Contents (Elt F) → (⟨S2x4096x2x16, .i32⟩ : BufTy).Contents (Elt F) → (⟨S2x4096x2x16, .i32⟩ : BufTy).Contents (Elt F))
  :: nullary main_c_21 (constantI S_ 32 0#32)
  :: binary main_v145 main_c_21 main_v146 ((fun x v => Host.reduce IntOp.addi x v reducesTo_S2x4096x2x16_S2x4096x2_d3 h_S_) : (⟨S2x4096x2x16, .i32⟩ : BufTy).Contents (Elt F) → (⟨S_, .i32⟩ : BufTy).Contents (Elt F) → (⟨S2x4096x2, .i32⟩ : BufTy).Contents (Elt F))
  :: nullary main_c_22 (constantI S_ 32 65536#32)
  :: unary main_c_22 main_v147 (broadcastInDim S2x4096x2 ![] bcast_S_S2x4096x2 : (⟨S_, .i32⟩ : BufTy).Contents (Elt F) → (⟨S2x4096x2, .i32⟩ : BufTy).Contents (Elt F))
  :: binary main_v146 main_v147 main_v148 (Host.remsi : (⟨S2x4096x2, .i32⟩ : BufTy).Contents (Elt F) → (⟨S2x4096x2, .i32⟩ : BufTy).Contents (Elt F) → (⟨S2x4096x2, .i32⟩ : BufTy).Contents (Elt F))
  :: unary main_arg11 main_v149 ((transpose S1024x32 [1, 0] · transposes_S32x1024_S1024x32_1_0) : (⟨S32x1024, .f32⟩ : BufTy).Contents (Elt F) → (⟨S1024x32, .f32⟩ : BufTy).Contents (Elt F))
  :: binary main_v76 main_v149 main_v150 ((fun l r => Host.dotGeneral dot_S2x4096x1024_S1024x32_S2x4096x32_2_0_01_1_n_n none l r) : (⟨S2x4096x1024, .f32⟩ : BufTy).Contents (Elt F) → (⟨S1024x32, .f32⟩ : BufTy).Contents (Elt F) → (⟨S2x4096x32, .f32⟩ : BufTy).Contents (Elt F))
  :: nullary main_cst_23 (constant S_ .f32 0x00000000#32)
  :: unary main_cst_23 main_v151 (broadcastInDim S2x4096x32 ![] bcast_S_S2x4096x32 : (⟨S_, .f32⟩ : BufTy).Contents (Elt F) → (⟨S2x4096x32, .f32⟩ : BufTy).Contents (Elt F))
  :: binary main_v150 main_v151 main_v152 (cmpf .ogt : (⟨S2x4096x32, .f32⟩ : BufTy).Contents (Elt F) → (⟨S2x4096x32, .f32⟩ : BufTy).Contents (Elt F) → (⟨S2x4096x32, .i1⟩ : BufTy).Contents (Elt F))
  :: unary main_v152 main_v153 ((extui 32 · natLt_1_32) : (⟨S2x4096x32, .i1⟩ : BufTy).Contents (Elt F) → (⟨S2x4096x32, .i32⟩ : BufTy).Contents (Elt F))
  :: reshape main_v153 main_v154 (rfl : (.i32 : EltTy) = .i32) shapeCasts_S2x4096x32_S2x4096x2x16
  :: nullary main_v155 (iotaInDim S16 32 0)
  :: nullary main_c_24 (constantI S_ 32 1#32)
  :: unary main_c_24 main_v156 (broadcastInDim S16 ![] bcast_S_S16 : (⟨S_, .i32⟩ : BufTy).Contents (Elt F) → (⟨S16, .i32⟩ : BufTy).Contents (Elt F))
  :: binary main_v156 main_v155 main_v157 (Host.shli : (⟨S16, .i32⟩ : BufTy).Contents (Elt F) → (⟨S16, .i32⟩ : BufTy).Contents (Elt F) → (⟨S16, .i32⟩ : BufTy).Contents (Elt F))
  :: unary main_v157 main_v158 (broadcastInDim S1x1x1x16 ![3] bcast_S16_S1x1x1x16_3 : (⟨S16, .i32⟩ : BufTy).Contents (Elt F) → (⟨S1x1x1x16, .i32⟩ : BufTy).Contents (Elt F))
  :: unary main_v158 main_v159 (broadcastInDim S2x4096x2x16 ![0, 1, 2, 3] bcast_S1x1x1x16_S2x4096x2x16_0_1_2_3 : (⟨S1x1x1x16, .i32⟩ : BufTy).Contents (Elt F) → (⟨S2x4096x2x16, .i32⟩ : BufTy).Contents (Elt F))
  :: binary main_v154 main_v159 main_v160 (muli : (⟨S2x4096x2x16, .i32⟩ : BufTy).Contents (Elt F) → (⟨S2x4096x2x16, .i32⟩ : BufTy).Contents (Elt F) → (⟨S2x4096x2x16, .i32⟩ : BufTy).Contents (Elt F))
  :: nullary main_c_25 (constantI S_ 32 0#32)
  :: binary main_v160 main_c_25 main_v161 ((fun x v => Host.reduce IntOp.addi x v reducesTo_S2x4096x2x16_S2x4096x2_d3 h_S_) : (⟨S2x4096x2x16, .i32⟩ : BufTy).Contents (Elt F) → (⟨S_, .i32⟩ : BufTy).Contents (Elt F) → (⟨S2x4096x2, .i32⟩ : BufTy).Contents (Elt F))
  :: nullary main_c_26 (constantI S_ 32 65536#32)
  :: unary main_c_26 main_v162 (broadcastInDim S2x4096x2 ![] bcast_S_S2x4096x2 : (⟨S_, .i32⟩ : BufTy).Contents (Elt F) → (⟨S2x4096x2, .i32⟩ : BufTy).Contents (Elt F))
  :: binary main_v161 main_v162 main_v163 (Host.remsi : (⟨S2x4096x2, .i32⟩ : BufTy).Contents (Elt F) → (⟨S2x4096x2, .i32⟩ : BufTy).Contents (Elt F) → (⟨S2x4096x2, .i32⟩ : BufTy).Contents (Elt F))
  :: unary main_arg13 main_v164 ((transpose S1024x64 [1, 0] · transposes_S64x1024_S1024x64_1_0) : (⟨S64x1024, .f32⟩ : BufTy).Contents (Elt F) → (⟨S1024x64, .f32⟩ : BufTy).Contents (Elt F))
  :: binary main_v76 main_v164 main_v165 ((fun l r => Host.dotGeneral dot_S2x4096x1024_S1024x64_S2x4096x64_2_0_01_1_n_n none l r) : (⟨S2x4096x1024, .f32⟩ : BufTy).Contents (Elt F) → (⟨S1024x64, .f32⟩ : BufTy).Contents (Elt F) → (⟨S2x4096x64, .f32⟩ : BufTy).Contents (Elt F))
  :: unary main_arg15 main_v166 ((transpose S1024x1 [1, 0] · transposes_S1x1024_S1024x1_1_0) : (⟨S1x1024, .f32⟩ : BufTy).Contents (Elt F) → (⟨S1024x1, .f32⟩ : BufTy).Contents (Elt F))
  :: binary main_v76 main_v166 main_v167 ((fun l r => Host.dotGeneral dot_S2x4096x1024_S1024x1_S2x4096x1_2_0_01_1_n_n none l r) : (⟨S2x4096x1024, .f32⟩ : BufTy).Contents (Elt F) → (⟨S1024x1, .f32⟩ : BufTy).Contents (Elt F) → (⟨S2x4096x1, .f32⟩ : BufTy).Contents (Elt F))
  :: unary main_arg16 main_v168 (broadcastInDim S1x1x1 ![2] bcast_S1_S1x1x1_2 : (⟨S1, .f32⟩ : BufTy).Contents (Elt F) → (⟨S1x1x1, .f32⟩ : BufTy).Contents (Elt F))
  :: unary main_v168 main_v169 (broadcastInDim S2x4096x1 ![0, 1, 2] bcast_S1x1x1_S2x4096x1_0_1_2 : (⟨S1x1x1, .f32⟩ : BufTy).Contents (Elt F) → (⟨S2x4096x1, .f32⟩ : BufTy).Contents (Elt F))
  :: binary main_v167 main_v169 main_v170 (addf : (⟨S2x4096x1, .f32⟩ : BufTy).Contents (Elt F) → (⟨S2x4096x1, .f32⟩ : BufTy).Contents (Elt F) → (⟨S2x4096x1, .f32⟩ : BufTy).Contents (Elt F))
  :: unary main_v170 main_v171 (Host.negf : (⟨S2x4096x1, .f32⟩ : BufTy).Contents (Elt F) → (⟨S2x4096x1, .f32⟩ : BufTy).Contents (Elt F))
  :: unary main_v171 main_v172 (Host.exp : (⟨S2x4096x1, .f32⟩ : BufTy).Contents (Elt F) → (⟨S2x4096x1, .f32⟩ : BufTy).Contents (Elt F))
  :: nullary main_cst_27 (constant S_ .f32 0x3F800000#32)
  :: unary main_cst_27 main_v173 (broadcastInDim S2x4096x1 ![] bcast_S_S2x4096x1 : (⟨S_, .f32⟩ : BufTy).Contents (Elt F) → (⟨S2x4096x1, .f32⟩ : BufTy).Contents (Elt F))
  :: binary main_v173 main_v172 main_v174 (addf : (⟨S2x4096x1, .f32⟩ : BufTy).Contents (Elt F) → (⟨S2x4096x1, .f32⟩ : BufTy).Contents (Elt F) → (⟨S2x4096x1, .f32⟩ : BufTy).Contents (Elt F))
  :: nullary main_cst_28 (constant S_ .f32 0x3F800000#32)
  :: unary main_cst_28 main_v175 (broadcastInDim S2x4096x1 ![] bcast_S_S2x4096x1 : (⟨S_, .f32⟩ : BufTy).Contents (Elt F) → (⟨S2x4096x1, .f32⟩ : BufTy).Contents (Elt F))
  :: binary main_v175 main_v174 main_v176 (Host.divf : (⟨S2x4096x1, .f32⟩ : BufTy).Contents (Elt F) → (⟨S2x4096x1, .f32⟩ : BufTy).Contents (Elt F) → (⟨S2x4096x1, .f32⟩ : BufTy).Contents (Elt F))
  :: unary main_v176 main_v177 (broadcastInDim S2x4096x64 ![0, 1, 2] bcast_S2x4096x1_S2x4096x64_0_1_2 : (⟨S2x4096x1, .f32⟩ : BufTy).Contents (Elt F) → (⟨S2x4096x64, .f32⟩ : BufTy).Contents (Elt F))
  :: binary main_v165 main_v177 main_v178 (mulf : (⟨S2x4096x64, .f32⟩ : BufTy).Contents (Elt F) → (⟨S2x4096x64, .f32⟩ : BufTy).Contents (Elt F) → (⟨S2x4096x64, .f32⟩ : BufTy).Contents (Elt F))
  :: nullary main_v179 (iotaInDim S2 32 0)
  :: unary main_v179 main_v180 (broadcastInDim S2x1 ![0] bcast_S2_S2x1_0 : (⟨S2, .i32⟩ : BufTy).Contents (Elt F) → (⟨S2x1, .i32⟩ : BufTy).Contents (Elt F))
  :: nullary main_cst_29 (constant S_ .f32 0x00000000#32)
  :: unary main_cst_29 main_v181 (broadcastInDim S2x65536x64 ![] bcast_S_S2x65536x64 : (⟨S_, .f32⟩ : BufTy).Contents (Elt F) → (⟨S2x65536x64, .f32⟩ : BufTy).Contents (Elt F))
  :: nullary main_cst_30 (constant S_ .f32 0x00000000#32)
  :: unary main_cst_30 main_v182 (broadcastInDim S2x65536x1 ![] bcast_S_S2x65536x1 : (⟨S_, .f32⟩ : BufTy).Contents (Elt F) → (⟨S2x65536x1, .f32⟩ : BufTy).Contents (Elt F))
  :: unary main_v148 main_v183 ((extractStridedSlice S2x4096x1 ![0, 0, 0] · slices_S2x4096x2_S2x4096x1_0_0_0) : (⟨S2x4096x2, .i32⟩ : BufTy).Contents (Elt F) → (⟨S2x4096x1, .i32⟩ : BufTy).Contents (Elt F))
  :: reshape main_v183 main_v184 (rfl : (.i32 : EltTy) = .i32) shapeCasts_S2x4096x1_S2x4096
  :: nullary main_c_31 (constantI S_ 32 0#32)
  :: unary main_c_31 main_v185 (broadcastInDim S2x1 ![] bcast_S_S2x1 : (⟨S_, .i32⟩ : BufTy).Contents (Elt F) → (⟨S2x1, .i32⟩ : BufTy).Contents (Elt F))
  :: binary main_v180 main_v185 main_v186 (cmpi .slt : (⟨S2x1, .i32⟩ : BufTy).Contents (Elt F) → (⟨S2x1, .i32⟩ : BufTy).Contents (Elt F) → (⟨S2x1, .i1⟩ : BufTy).Contents (Elt F))
  :: nullary main_c_32 (constantI S_ 32 2#32)
  :: unary main_c_32 main_v187 (broadcastInDim S2x1 ![] bcast_S_S2x1 : (⟨S_, .i32⟩ : BufTy).Contents (Elt F) → (⟨S2x1, .i32⟩ : BufTy).Contents (Elt F))
  :: binary main_v180 main_v187 main_v188 (addi : (⟨S2x1, .i32⟩ : BufTy).Contents (Elt F) → (⟨S2x1, .i32⟩ : BufTy).Contents (Elt F) → (⟨S2x1, .i32⟩ : BufTy).Contents (Elt F))
  :: ternary main_v186 main_v188 main_v180 main_v189 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F))
  :: nullary main_c_33 (constantI S_ 32 0#32)
  :: unary main_c_33 main_v190 (broadcastInDim S2x4096 ![] bcast_S_S2x4096 : (⟨S_, .i32⟩ : BufTy).Contents (Elt F) → (⟨S2x4096, .i32⟩ : BufTy).Contents (Elt F))
  :: binary main_v184 main_v190 main_v191 (cmpi .slt : (⟨S2x4096, .i32⟩ : BufTy).Contents (Elt F) → (⟨S2x4096, .i32⟩ : BufTy).Contents (Elt F) → (⟨S2x4096, .i1⟩ : BufTy).Contents (Elt F))
  :: nullary main_c_34 (constantI S_ 32 65536#32)
  :: unary main_c_34 main_v192 (broadcastInDim S2x4096 ![] bcast_S_S2x4096 : (⟨S_, .i32⟩ : BufTy).Contents (Elt F) → (⟨S2x4096, .i32⟩ : BufTy).Contents (Elt F))
  :: binary main_v184 main_v192 main_v193 (addi : (⟨S2x4096, .i32⟩ : BufTy).Contents (Elt F) → (⟨S2x4096, .i32⟩ : BufTy).Contents (Elt F) → (⟨S2x4096, .i32⟩ : BufTy).Contents (Elt F))
  :: ternary main_v191 main_v193 main_v184 main_v194 (select : (⟨S2x4096, .i1⟩ : BufTy).Contents (Elt F) → (⟨S2x4096, .i32⟩ : BufTy).Contents (Elt F) → (⟨S2x4096, .i32⟩ : BufTy).Contents (Elt F) → (⟨S2x4096, .i32⟩ : BufTy).Contents (Elt F))
  :: unary main_v189 main_v195 (broadcastInDim S2x4096 ![0, 1] bcast_S2x1_S2x4096_0_1 : (⟨S2x1, .i32⟩ : BufTy).Contents (Elt F) → (⟨S2x4096, .i32⟩ : BufTy).Contents (Elt F))
  :: unary main_v195 main_v196 (broadcastInDim S2x4096x1 ![0, 1] bcast_S2x4096_S2x4096x1_0_1 : (⟨S2x4096, .i32⟩ : BufTy).Contents (Elt F) → (⟨S2x4096x1, .i32⟩ : BufTy).Contents (Elt F))
  :: unary main_v194 main_v197 (broadcastInDim S2x4096x1 ![0, 1] bcast_S2x4096_S2x4096x1_0_1 : (⟨S2x4096, .i32⟩ : BufTy).Contents (Elt F) → (⟨S2x4096x1, .i32⟩ : BufTy).Contents (Elt F))
  :: binary main_v196 main_v197 main_v198 ((fun a b => concatenate S2x4096x2 2 [⟨S2x4096x1, a⟩, ⟨S2x4096x1, b⟩] concatenates_S2x4096x1_S2x4096x1_S2x4096x2_d2) : (⟨S2x4096x1, .i32⟩ : BufTy).Contents (Elt F) → (⟨S2x4096x1, .i32⟩ : BufTy).Contents (Elt F) → (⟨S2x4096x2, .i32⟩ : BufTy).Contents (Elt F))
  :: ternary main_v181 main_v198 main_v178 main_v199 ((fun x i u => Host.scatterAdd scatter_S2x65536x64_S2x4096x2_S2x4096x64_2_01_01_2 x i u) : (⟨S2x65536x64, .f32⟩ : BufTy).Contents (Elt F) → (⟨S2x4096x2, .i32⟩ : BufTy).Contents (Elt F) → (⟨S2x4096x64, .f32⟩ : BufTy).Contents (Elt F) → (⟨S2x65536x64, .f32⟩ : BufTy).Contents (Elt F))
  :: unary main_v148 main_v200 ((extractStridedSlice S2x4096x1 ![0, 0, 0] · slices_S2x4096x2_S2x4096x1_0_0_0) : (⟨S2x4096x2, .i32⟩ : BufTy).Contents (Elt F) → (⟨S2x4096x1, .i32⟩ : BufTy).Contents (Elt F))
  :: reshape main_v200 main_v201 (rfl : (.i32 : EltTy) = .i32) shapeCasts_S2x4096x1_S2x4096
  :: nullary main_c_35 (constantI S_ 32 0#32)
  :: unary main_c_35 main_v202 (broadcastInDim S2x1 ![] bcast_S_S2x1 : (⟨S_, .i32⟩ : BufTy).Contents (Elt F) → (⟨S2x1, .i32⟩ : BufTy).Contents (Elt F))
  :: binary main_v180 main_v202 main_v203 (cmpi .slt : (⟨S2x1, .i32⟩ : BufTy).Contents (Elt F) → (⟨S2x1, .i32⟩ : BufTy).Contents (Elt F) → (⟨S2x1, .i1⟩ : BufTy).Contents (Elt F))
  :: nullary main_c_36 (constantI S_ 32 2#32)
  :: unary main_c_36 main_v204 (broadcastInDim S2x1 ![] bcast_S_S2x1 : (⟨S_, .i32⟩ : BufTy).Contents (Elt F) → (⟨S2x1, .i32⟩ : BufTy).Contents (Elt F))
  :: binary main_v180 main_v204 main_v205 (addi : (⟨S2x1, .i32⟩ : BufTy).Contents (Elt F) → (⟨S2x1, .i32⟩ : BufTy).Contents (Elt F) → (⟨S2x1, .i32⟩ : BufTy).Contents (Elt F))
  :: ternary main_v203 main_v205 main_v180 main_v206 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F))
  :: nullary main_c_37 (constantI S_ 32 0#32)
  :: unary main_c_37 main_v207 (broadcastInDim S2x4096 ![] bcast_S_S2x4096 : (⟨S_, .i32⟩ : BufTy).Contents (Elt F) → (⟨S2x4096, .i32⟩ : BufTy).Contents (Elt F))
  :: binary main_v201 main_v207 main_v208 (cmpi .slt : (⟨S2x4096, .i32⟩ : BufTy).Contents (Elt F) → (⟨S2x4096, .i32⟩ : BufTy).Contents (Elt F) → (⟨S2x4096, .i1⟩ : BufTy).Contents (Elt F))
  :: nullary main_c_38 (constantI S_ 32 65536#32)
  :: unary main_c_38 main_v209 (broadcastInDim S2x4096 ![] bcast_S_S2x4096 : (⟨S_, .i32⟩ : BufTy).Contents (Elt F) → (⟨S2x4096, .i32⟩ : BufTy).Contents (Elt F))
  :: binary main_v201 main_v209 main_v210 (addi : (⟨S2x4096, .i32⟩ : BufTy).Contents (Elt F) → (⟨S2x4096, .i32⟩ : BufTy).Contents (Elt F) → (⟨S2x4096, .i32⟩ : BufTy).Contents (Elt F))
  :: ternary main_v208 main_v210 main_v201 main_v211 (select : (⟨S2x4096, .i1⟩ : BufTy).Contents (Elt F) → (⟨S2x4096, .i32⟩ : BufTy).Contents (Elt F) → (⟨S2x4096, .i32⟩ : BufTy).Contents (Elt F) → (⟨S2x4096, .i32⟩ : BufTy).Contents (Elt F))
  :: unary main_v206 main_v212 (broadcastInDim S2x4096 ![0, 1] bcast_S2x1_S2x4096_0_1 : (⟨S2x1, .i32⟩ : BufTy).Contents (Elt F) → (⟨S2x4096, .i32⟩ : BufTy).Contents (Elt F))
  :: unary main_v212 main_v213 (broadcastInDim S2x4096x1 ![0, 1] bcast_S2x4096_S2x4096x1_0_1 : (⟨S2x4096, .i32⟩ : BufTy).Contents (Elt F) → (⟨S2x4096x1, .i32⟩ : BufTy).Contents (Elt F))
  :: unary main_v211 main_v214 (broadcastInDim S2x4096x1 ![0, 1] bcast_S2x4096_S2x4096x1_0_1 : (⟨S2x4096, .i32⟩ : BufTy).Contents (Elt F) → (⟨S2x4096x1, .i32⟩ : BufTy).Contents (Elt F))
  :: binary main_v213 main_v214 main_v215 ((fun a b => concatenate S2x4096x2 2 [⟨S2x4096x1, a⟩, ⟨S2x4096x1, b⟩] concatenates_S2x4096x1_S2x4096x1_S2x4096x2_d2) : (⟨S2x4096x1, .i32⟩ : BufTy).Contents (Elt F) → (⟨S2x4096x1, .i32⟩ : BufTy).Contents (Elt F) → (⟨S2x4096x2, .i32⟩ : BufTy).Contents (Elt F))
  :: ternary main_v182 main_v215 main_v176 main_v216 ((fun x i u => Host.scatterAdd scatter_S2x65536x1_S2x4096x2_S2x4096x1_2_01_01_2 x i u) : (⟨S2x65536x1, .f32⟩ : BufTy).Contents (Elt F) → (⟨S2x4096x2, .i32⟩ : BufTy).Contents (Elt F) → (⟨S2x4096x1, .f32⟩ : BufTy).Contents (Elt F) → (⟨S2x65536x1, .f32⟩ : BufTy).Contents (Elt F))
  :: unary main_v148 main_v217 ((extractStridedSlice S2x4096x1 ![0, 0, 1] · slices_S2x4096x2_S2x4096x1_0_0_1) : (⟨S2x4096x2, .i32⟩ : BufTy).Contents (Elt F) → (⟨S2x4096x1, .i32⟩ : BufTy).Contents (Elt F))
  :: reshape main_v217 main_v218 (rfl : (.i32 : EltTy) = .i32) shapeCasts_S2x4096x1_S2x4096
  :: nullary main_c_39 (constantI S_ 32 0#32)
  :: unary main_c_39 main_v219 (broadcastInDim S2x1 ![] bcast_S_S2x1 : (⟨S_, .i32⟩ : BufTy).Contents (Elt F) → (⟨S2x1, .i32⟩ : BufTy).Contents (Elt F))
  :: binary main_v180 main_v219 main_v220 (cmpi .slt : (⟨S2x1, .i32⟩ : BufTy).Contents (Elt F) → (⟨S2x1, .i32⟩ : BufTy).Contents (Elt F) → (⟨S2x1, .i1⟩ : BufTy).Contents (Elt F))
  :: nullary main_c_40 (constantI S_ 32 2#32)
  :: unary main_c_40 main_v221 (broadcastInDim S2x1 ![] bcast_S_S2x1 : (⟨S_, .i32⟩ : BufTy).Contents (Elt F) → (⟨S2x1, .i32⟩ : BufTy).Contents (Elt F))
  :: binary main_v180 main_v221 main_v222 (addi : (⟨S2x1, .i32⟩ : BufTy).Contents (Elt F) → (⟨S2x1, .i32⟩ : BufTy).Contents (Elt F) → (⟨S2x1, .i32⟩ : BufTy).Contents (Elt F))
  :: ternary main_v220 main_v222 main_v180 main_v223 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F))
  :: nullary main_c_41 (constantI S_ 32 0#32)
  :: unary main_c_41 main_v224 (broadcastInDim S2x4096 ![] bcast_S_S2x4096 : (⟨S_, .i32⟩ : BufTy).Contents (Elt F) → (⟨S2x4096, .i32⟩ : BufTy).Contents (Elt F))
  :: binary main_v218 main_v224 main_v225 (cmpi .slt : (⟨S2x4096, .i32⟩ : BufTy).Contents (Elt F) → (⟨S2x4096, .i32⟩ : BufTy).Contents (Elt F) → (⟨S2x4096, .i1⟩ : BufTy).Contents (Elt F))
  :: nullary main_c_42 (constantI S_ 32 65536#32)
  :: unary main_c_42 main_v226 (broadcastInDim S2x4096 ![] bcast_S_S2x4096 : (⟨S_, .i32⟩ : BufTy).Contents (Elt F) → (⟨S2x4096, .i32⟩ : BufTy).Contents (Elt F))
  :: binary main_v218 main_v226 main_v227 (addi : (⟨S2x4096, .i32⟩ : BufTy).Contents (Elt F) → (⟨S2x4096, .i32⟩ : BufTy).Contents (Elt F) → (⟨S2x4096, .i32⟩ : BufTy).Contents (Elt F))
  :: ternary main_v225 main_v227 main_v218 main_v228 (select : (⟨S2x4096, .i1⟩ : BufTy).Contents (Elt F) → (⟨S2x4096, .i32⟩ : BufTy).Contents (Elt F) → (⟨S2x4096, .i32⟩ : BufTy).Contents (Elt F) → (⟨S2x4096, .i32⟩ : BufTy).Contents (Elt F))
  :: unary main_v223 main_v229 (broadcastInDim S2x4096 ![0, 1] bcast_S2x1_S2x4096_0_1 : (⟨S2x1, .i32⟩ : BufTy).Contents (Elt F) → (⟨S2x4096, .i32⟩ : BufTy).Contents (Elt F))
  :: unary main_v229 main_v230 (broadcastInDim S2x4096x1 ![0, 1] bcast_S2x4096_S2x4096x1_0_1 : (⟨S2x4096, .i32⟩ : BufTy).Contents (Elt F) → (⟨S2x4096x1, .i32⟩ : BufTy).Contents (Elt F))
  :: unary main_v228 main_v231 (broadcastInDim S2x4096x1 ![0, 1] bcast_S2x4096_S2x4096x1_0_1 : (⟨S2x4096, .i32⟩ : BufTy).Contents (Elt F) → (⟨S2x4096x1, .i32⟩ : BufTy).Contents (Elt F))
  :: binary main_v230 main_v231 main_v232 ((fun a b => concatenate S2x4096x2 2 [⟨S2x4096x1, a⟩, ⟨S2x4096x1, b⟩] concatenates_S2x4096x1_S2x4096x1_S2x4096x2_d2) : (⟨S2x4096x1, .i32⟩ : BufTy).Contents (Elt F) → (⟨S2x4096x1, .i32⟩ : BufTy).Contents (Elt F) → (⟨S2x4096x2, .i32⟩ : BufTy).Contents (Elt F))
  :: ternary main_v199 main_v232 main_v178 main_v233 ((fun x i u => Host.scatterAdd scatter_S2x65536x64_S2x4096x2_S2x4096x64_2_01_01_2 x i u) : (⟨S2x65536x64, .f32⟩ : BufTy).Contents (Elt F) → (⟨S2x4096x2, .i32⟩ : BufTy).Contents (Elt F) → (⟨S2x4096x64, .f32⟩ : BufTy).Contents (Elt F) → (⟨S2x65536x64, .f32⟩ : BufTy).Contents (Elt F))
  :: unary main_v148 main_v234 ((extractStridedSlice S2x4096x1 ![0, 0, 1] · slices_S2x4096x2_S2x4096x1_0_0_1) : (⟨S2x4096x2, .i32⟩ : BufTy).Contents (Elt F) → (⟨S2x4096x1, .i32⟩ : BufTy).Contents (Elt F))
  :: reshape main_v234 main_v235 (rfl : (.i32 : EltTy) = .i32) shapeCasts_S2x4096x1_S2x4096
  :: nullary main_c_43 (constantI S_ 32 0#32)
  :: unary main_c_43 main_v236 (broadcastInDim S2x1 ![] bcast_S_S2x1 : (⟨S_, .i32⟩ : BufTy).Contents (Elt F) → (⟨S2x1, .i32⟩ : BufTy).Contents (Elt F))
  :: binary main_v180 main_v236 main_v237 (cmpi .slt : (⟨S2x1, .i32⟩ : BufTy).Contents (Elt F) → (⟨S2x1, .i32⟩ : BufTy).Contents (Elt F) → (⟨S2x1, .i1⟩ : BufTy).Contents (Elt F))
  :: nullary main_c_44 (constantI S_ 32 2#32)
  :: unary main_c_44 main_v238 (broadcastInDim S2x1 ![] bcast_S_S2x1 : (⟨S_, .i32⟩ : BufTy).Contents (Elt F) → (⟨S2x1, .i32⟩ : BufTy).Contents (Elt F))
  :: binary main_v180 main_v238 main_v239 (addi : (⟨S2x1, .i32⟩ : BufTy).Contents (Elt F) → (⟨S2x1, .i32⟩ : BufTy).Contents (Elt F) → (⟨S2x1, .i32⟩ : BufTy).Contents (Elt F))
  :: ternary main_v237 main_v239 main_v180 main_v240 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F))
  :: nullary main_c_45 (constantI S_ 32 0#32)
  :: unary main_c_45 main_v241 (broadcastInDim S2x4096 ![] bcast_S_S2x4096 : (⟨S_, .i32⟩ : BufTy).Contents (Elt F) → (⟨S2x4096, .i32⟩ : BufTy).Contents (Elt F))
  :: binary main_v235 main_v241 main_v242 (cmpi .slt : (⟨S2x4096, .i32⟩ : BufTy).Contents (Elt F) → (⟨S2x4096, .i32⟩ : BufTy).Contents (Elt F) → (⟨S2x4096, .i1⟩ : BufTy).Contents (Elt F))
  :: nullary main_c_46 (constantI S_ 32 65536#32)
  :: unary main_c_46 main_v243 (broadcastInDim S2x4096 ![] bcast_S_S2x4096 : (⟨S_, .i32⟩ : BufTy).Contents (Elt F) → (⟨S2x4096, .i32⟩ : BufTy).Contents (Elt F))
  :: binary main_v235 main_v243 main_v244 (addi : (⟨S2x4096, .i32⟩ : BufTy).Contents (Elt F) → (⟨S2x4096, .i32⟩ : BufTy).Contents (Elt F) → (⟨S2x4096, .i32⟩ : BufTy).Contents (Elt F))
  :: ternary main_v242 main_v244 main_v235 main_v245 (select : (⟨S2x4096, .i1⟩ : BufTy).Contents (Elt F) → (⟨S2x4096, .i32⟩ : BufTy).Contents (Elt F) → (⟨S2x4096, .i32⟩ : BufTy).Contents (Elt F) → (⟨S2x4096, .i32⟩ : BufTy).Contents (Elt F))
  :: unary main_v240 main_v246 (broadcastInDim S2x4096 ![0, 1] bcast_S2x1_S2x4096_0_1 : (⟨S2x1, .i32⟩ : BufTy).Contents (Elt F) → (⟨S2x4096, .i32⟩ : BufTy).Contents (Elt F))
  :: unary main_v246 main_v247 (broadcastInDim S2x4096x1 ![0, 1] bcast_S2x4096_S2x4096x1_0_1 : (⟨S2x4096, .i32⟩ : BufTy).Contents (Elt F) → (⟨S2x4096x1, .i32⟩ : BufTy).Contents (Elt F))
  :: unary main_v245 main_v248 (broadcastInDim S2x4096x1 ![0, 1] bcast_S2x4096_S2x4096x1_0_1 : (⟨S2x4096, .i32⟩ : BufTy).Contents (Elt F) → (⟨S2x4096x1, .i32⟩ : BufTy).Contents (Elt F))
  :: binary main_v247 main_v248 main_v249 ((fun a b => concatenate S2x4096x2 2 [⟨S2x4096x1, a⟩, ⟨S2x4096x1, b⟩] concatenates_S2x4096x1_S2x4096x1_S2x4096x2_d2) : (⟨S2x4096x1, .i32⟩ : BufTy).Contents (Elt F) → (⟨S2x4096x1, .i32⟩ : BufTy).Contents (Elt F) → (⟨S2x4096x2, .i32⟩ : BufTy).Contents (Elt F))
  :: ternary main_v216 main_v249 main_v176 main_v250 ((fun x i u => Host.scatterAdd scatter_S2x65536x1_S2x4096x2_S2x4096x1_2_01_01_2 x i u) : (⟨S2x65536x1, .f32⟩ : BufTy).Contents (Elt F) → (⟨S2x4096x2, .i32⟩ : BufTy).Contents (Elt F) → (⟨S2x4096x1, .f32⟩ : BufTy).Contents (Elt F) → (⟨S2x65536x1, .f32⟩ : BufTy).Contents (Elt F))
  :: nullary main_cst_47 (constant S_ .f32 0x358637BD#32)
  :: unary main_cst_47 main_v251 (broadcastInDim S2x65536x1 ![] bcast_S_S2x65536x1 : (⟨S_, .f32⟩ : BufTy).Contents (Elt F) → (⟨S2x65536x1, .f32⟩ : BufTy).Contents (Elt F))
  :: binary main_v250 main_v251 main_v252 (addf : (⟨S2x65536x1, .f32⟩ : BufTy).Contents (Elt F) → (⟨S2x65536x1, .f32⟩ : BufTy).Contents (Elt F) → (⟨S2x65536x1, .f32⟩ : BufTy).Contents (Elt F))
  :: unary main_v252 main_v253 (broadcastInDim S2x65536x64 ![0, 1, 2] bcast_S2x65536x1_S2x65536x64_0_1_2 : (⟨S2x65536x1, .f32⟩ : BufTy).Contents (Elt F) → (⟨S2x65536x64, .f32⟩ : BufTy).Contents (Elt F))
  :: binary main_v233 main_v253 main_v254 (Host.divf : (⟨S2x65536x64, .f32⟩ : BufTy).Contents (Elt F) → (⟨S2x65536x64, .f32⟩ : BufTy).Contents (Elt F) → (⟨S2x65536x64, .f32⟩ : BufTy).Contents (Elt F))
  :: nullary main_cst_48 (constant S_ .f32 0x00000000#32)
  :: unary main_cst_48 main_v255 (broadcastInDim S2x4096x64 ![] bcast_S_S2x4096x64 : (⟨S_, .f32⟩ : BufTy).Contents (Elt F) → (⟨S2x4096x64, .f32⟩ : BufTy).Contents (Elt F))
  :: unary main_v163 main_v256 ((extractStridedSlice S2x4096x1 ![0, 0, 0] · slices_S2x4096x2_S2x4096x1_0_0_0) : (⟨S2x4096x2, .i32⟩ : BufTy).Contents (Elt F) → (⟨S2x4096x1, .i32⟩ : BufTy).Contents (Elt F))
  :: reshape main_v256 main_v257 (rfl : (.i32 : EltTy) = .i32) shapeCasts_S2x4096x1_S2x4096
  :: nullary main_c_49 (constantI S_ 32 0#32)
  :: unary main_c_49 main_v258 (broadcastInDim S2x1 ![] bcast_S_S2x1 : (⟨S_, .i32⟩ : BufTy).Contents (Elt F) → (⟨S2x1, .i32⟩ : BufTy).Contents (Elt F))
  :: binary main_v180 main_v258 main_v259 (cmpi .slt : (⟨S2x1, .i32⟩ : BufTy).Contents (Elt F) → (⟨S2x1, .i32⟩ : BufTy).Contents (Elt F) → (⟨S2x1, .i1⟩ : BufTy).Contents (Elt F))
  :: nullary main_c_50 (constantI S_ 32 2#32)
  :: unary main_c_50 main_v260 (broadcastInDim S2x1 ![] bcast_S_S2x1 : (⟨S_, .i32⟩ : BufTy).Contents (Elt F) → (⟨S2x1, .i32⟩ : BufTy).Contents (Elt F))
  :: binary main_v180 main_v260 main_v261 (addi : (⟨S2x1, .i32⟩ : BufTy).Contents (Elt F) → (⟨S2x1, .i32⟩ : BufTy).Contents (Elt F) → (⟨S2x1, .i32⟩ : BufTy).Contents (Elt F))
  :: ternary main_v259 main_v261 main_v180 main_v262 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F))
  :: nullary main_c_51 (constantI S_ 32 0#32)
  :: unary main_c_51 main_v263 (broadcastInDim S2x4096 ![] bcast_S_S2x4096 : (⟨S_, .i32⟩ : BufTy).Contents (Elt F) → (⟨S2x4096, .i32⟩ : BufTy).Contents (Elt F))
  :: binary main_v257 main_v263 main_v264 (cmpi .slt : (⟨S2x4096, .i32⟩ : BufTy).Contents (Elt F) → (⟨S2x4096, .i32⟩ : BufTy).Contents (Elt F) → (⟨S2x4096, .i1⟩ : BufTy).Contents (Elt F))
  :: nullary main_c_52 (constantI S_ 32 65536#32)
  :: unary main_c_52 main_v265 (broadcastInDim S2x4096 ![] bcast_S_S2x4096 : (⟨S_, .i32⟩ : BufTy).Contents (Elt F) → (⟨S2x4096, .i32⟩ : BufTy).Contents (Elt F))
  :: binary main_v257 main_v265 main_v266 (addi : (⟨S2x4096, .i32⟩ : BufTy).Contents (Elt F) → (⟨S2x4096, .i32⟩ : BufTy).Contents (Elt F) → (⟨S2x4096, .i32⟩ : BufTy).Contents (Elt F))
  :: ternary main_v264 main_v266 main_v257 main_v267 (select : (⟨S2x4096, .i1⟩ : BufTy).Contents (Elt F) → (⟨S2x4096, .i32⟩ : BufTy).Contents (Elt F) → (⟨S2x4096, .i32⟩ : BufTy).Contents (Elt F) → (⟨S2x4096, .i32⟩ : BufTy).Contents (Elt F))
  :: unary main_v262 main_v268 (broadcastInDim S2x4096 ![0, 1] bcast_S2x1_S2x4096_0_1 : (⟨S2x1, .i32⟩ : BufTy).Contents (Elt F) → (⟨S2x4096, .i32⟩ : BufTy).Contents (Elt F))
  :: unary main_v268 main_v269 (broadcastInDim S2x4096x1 ![0, 1] bcast_S2x4096_S2x4096x1_0_1 : (⟨S2x4096, .i32⟩ : BufTy).Contents (Elt F) → (⟨S2x4096x1, .i32⟩ : BufTy).Contents (Elt F))
  :: unary main_v267 main_v270 (broadcastInDim S2x4096x1 ![0, 1] bcast_S2x4096_S2x4096x1_0_1 : (⟨S2x4096, .i32⟩ : BufTy).Contents (Elt F) → (⟨S2x4096x1, .i32⟩ : BufTy).Contents (Elt F))
  :: binary main_v269 main_v270 main_v271 ((fun a b => concatenate S2x4096x2 2 [⟨S2x4096x1, a⟩, ⟨S2x4096x1, b⟩] concatenates_S2x4096x1_S2x4096x1_S2x4096x2_d2) : (⟨S2x4096x1, .i32⟩ : BufTy).Contents (Elt F) → (⟨S2x4096x1, .i32⟩ : BufTy).Contents (Elt F) → (⟨S2x4096x2, .i32⟩ : BufTy).Contents (Elt F))
  :: binary main_v254 main_v271 main_v272 ((fun x i => Host.gather gather_S2x65536x64_S2x4096x2_S2x4096x64_2_01_n_n_01_2_1164 x i) : (⟨S2x65536x64, .f32⟩ : BufTy).Contents (Elt F) → (⟨S2x4096x2, .i32⟩ : BufTy).Contents (Elt F) → (⟨S2x4096x64, .f32⟩ : BufTy).Contents (Elt F))
  :: binary main_v255 main_v272 main_v273 (addf : (⟨S2x4096x64, .f32⟩ : BufTy).Contents (Elt F) → (⟨S2x4096x64, .f32⟩ : BufTy).Contents (Elt F) → (⟨S2x4096x64, .f32⟩ : BufTy).Contents (Elt F))
  :: unary main_v163 main_v274 ((extractStridedSlice S2x4096x1 ![0, 0, 1] · slices_S2x4096x2_S2x4096x1_0_0_1) : (⟨S2x4096x2, .i32⟩ : BufTy).Contents (Elt F) → (⟨S2x4096x1, .i32⟩ : BufTy).Contents (Elt F))
  :: reshape main_v274 main_v275 (rfl : (.i32 : EltTy) = .i32) shapeCasts_S2x4096x1_S2x4096
  :: nullary main_c_53 (constantI S_ 32 0#32)
  :: unary main_c_53 main_v276 (broadcastInDim S2x1 ![] bcast_S_S2x1 : (⟨S_, .i32⟩ : BufTy).Contents (Elt F) → (⟨S2x1, .i32⟩ : BufTy).Contents (Elt F))
  :: binary main_v180 main_v276 main_v277 (cmpi .slt : (⟨S2x1, .i32⟩ : BufTy).Contents (Elt F) → (⟨S2x1, .i32⟩ : BufTy).Contents (Elt F) → (⟨S2x1, .i1⟩ : BufTy).Contents (Elt F))
  :: nullary main_c_54 (constantI S_ 32 2#32)
  :: unary main_c_54 main_v278 (broadcastInDim S2x1 ![] bcast_S_S2x1 : (⟨S_, .i32⟩ : BufTy).Contents (Elt F) → (⟨S2x1, .i32⟩ : BufTy).Contents (Elt F))
  :: binary main_v180 main_v278 main_v279 (addi : (⟨S2x1, .i32⟩ : BufTy).Contents (Elt F) → (⟨S2x1, .i32⟩ : BufTy).Contents (Elt F) → (⟨S2x1, .i32⟩ : BufTy).Contents (Elt F))
  :: ternary main_v277 main_v279 main_v180 main_v280 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F))
  :: nullary main_c_55 (constantI S_ 32 0#32)
  :: unary main_c_55 main_v281 (broadcastInDim S2x4096 ![] bcast_S_S2x4096 : (⟨S_, .i32⟩ : BufTy).Contents (Elt F) → (⟨S2x4096, .i32⟩ : BufTy).Contents (Elt F))
  :: binary main_v275 main_v281 main_v282 (cmpi .slt : (⟨S2x4096, .i32⟩ : BufTy).Contents (Elt F) → (⟨S2x4096, .i32⟩ : BufTy).Contents (Elt F) → (⟨S2x4096, .i1⟩ : BufTy).Contents (Elt F))
  :: nullary main_c_56 (constantI S_ 32 65536#32)
  :: unary main_c_56 main_v283 (broadcastInDim S2x4096 ![] bcast_S_S2x4096 : (⟨S_, .i32⟩ : BufTy).Contents (Elt F) → (⟨S2x4096, .i32⟩ : BufTy).Contents (Elt F))
  :: binary main_v275 main_v283 main_v284 (addi : (⟨S2x4096, .i32⟩ : BufTy).Contents (Elt F) → (⟨S2x4096, .i32⟩ : BufTy).Contents (Elt F) → (⟨S2x4096, .i32⟩ : BufTy).Contents (Elt F))
  :: ternary main_v282 main_v284 main_v275 main_v285 (select : (⟨S2x4096, .i1⟩ : BufTy).Contents (Elt F) → (⟨S2x4096, .i32⟩ : BufTy).Contents (Elt F) → (⟨S2x4096, .i32⟩ : BufTy).Contents (Elt F) → (⟨S2x4096, .i32⟩ : BufTy).Contents (Elt F))
  :: unary main_v280 main_v286 (broadcastInDim S2x4096 ![0, 1] bcast_S2x1_S2x4096_0_1 : (⟨S2x1, .i32⟩ : BufTy).Contents (Elt F) → (⟨S2x4096, .i32⟩ : BufTy).Contents (Elt F))
  :: unary main_v286 main_v287 (broadcastInDim S2x4096x1 ![0, 1] bcast_S2x4096_S2x4096x1_0_1 : (⟨S2x4096, .i32⟩ : BufTy).Contents (Elt F) → (⟨S2x4096x1, .i32⟩ : BufTy).Contents (Elt F))
  :: unary main_v285 main_v288 (broadcastInDim S2x4096x1 ![0, 1] bcast_S2x4096_S2x4096x1_0_1 : (⟨S2x4096, .i32⟩ : BufTy).Contents (Elt F) → (⟨S2x4096x1, .i32⟩ : BufTy).Contents (Elt F))
  :: binary main_v287 main_v288 main_v289 ((fun a b => concatenate S2x4096x2 2 [⟨S2x4096x1, a⟩, ⟨S2x4096x1, b⟩] concatenates_S2x4096x1_S2x4096x1_S2x4096x2_d2) : (⟨S2x4096x1, .i32⟩ : BufTy).Contents (Elt F) → (⟨S2x4096x1, .i32⟩ : BufTy).Contents (Elt F) → (⟨S2x4096x2, .i32⟩ : BufTy).Contents (Elt F))
  :: binary main_v254 main_v289 main_v290 ((fun x i => Host.gather gather_S2x65536x64_S2x4096x2_S2x4096x64_2_01_n_n_01_2_1164 x i) : (⟨S2x65536x64, .f32⟩ : BufTy).Contents (Elt F) → (⟨S2x4096x2, .i32⟩ : BufTy).Contents (Elt F) → (⟨S2x4096x64, .f32⟩ : BufTy).Contents (Elt F))
  :: binary main_v273 main_v290 main_v291 (addf : (⟨S2x4096x64, .f32⟩ : BufTy).Contents (Elt F) → (⟨S2x4096x64, .f32⟩ : BufTy).Contents (Elt F) → (⟨S2x4096x64, .f32⟩ : BufTy).Contents (Elt F))
  :: nullary main_cst_57 (constant S_ .f32 0x40000000#32)
  :: unary main_cst_57 main_v292 (broadcastInDim S2x4096x64 ![] bcast_S_S2x4096x64 : (⟨S_, .f32⟩ : BufTy).Contents (Elt F) → (⟨S2x4096x64, .f32⟩ : BufTy).Contents (Elt F))
  :: binary main_v291 main_v292 main_v293 (Host.divf : (⟨S2x4096x64, .f32⟩ : BufTy).Contents (Elt F) → (⟨S2x4096x64, .f32⟩ : BufTy).Contents (Elt F) → (⟨S2x4096x64, .f32⟩ : BufTy).Contents (Elt F))
  :: unary main_arg14 main_v294 ((transpose S64x1024 [1, 0] · transposes_S1024x64_S64x1024_1_0) : (⟨S1024x64, .f32⟩ : BufTy).Contents (Elt F) → (⟨S64x1024, .f32⟩ : BufTy).Contents (Elt F))
  :: binary main_v293 main_v294 main_v295 ((fun l r => Host.dotGeneral dot_S2x4096x64_S64x1024_S2x4096x1024_2_0_01_1_n_n none l r) : (⟨S2x4096x64, .f32⟩ : BufTy).Contents (Elt F) → (⟨S64x1024, .f32⟩ : BufTy).Contents (Elt F) → (⟨S2x4096x1024, .f32⟩ : BufTy).Contents (Elt F))
  :: unary main_arg19 main_v296 ((transpose S1024x1 [1, 0] · transposes_S1x1024_S1024x1_1_0) : (⟨S1x1024, .f32⟩ : BufTy).Contents (Elt F) → (⟨S1024x1, .f32⟩ : BufTy).Contents (Elt F))
  :: binary main_v76 main_v296 main_v297 ((fun l r => Host.dotGeneral dot_S2x4096x1024_S1024x1_S2x4096x1_2_0_01_1_n_n none l r) : (⟨S2x4096x1024, .f32⟩ : BufTy).Contents (Elt F) → (⟨S1024x1, .f32⟩ : BufTy).Contents (Elt F) → (⟨S2x4096x1, .f32⟩ : BufTy).Contents (Elt F))
  :: unary main_arg20 main_v298 (broadcastInDim S1x1x1 ![2] bcast_S1_S1x1x1_2 : (⟨S1, .f32⟩ : BufTy).Contents (Elt F) → (⟨S1x1x1, .f32⟩ : BufTy).Contents (Elt F))
  :: unary main_v298 main_v299 (broadcastInDim S2x4096x1 ![0, 1, 2] bcast_S1x1x1_S2x4096x1_0_1_2 : (⟨S1x1x1, .f32⟩ : BufTy).Contents (Elt F) → (⟨S2x4096x1, .f32⟩ : BufTy).Contents (Elt F))
  :: binary main_v297 main_v299 main_v300 (addf : (⟨S2x4096x1, .f32⟩ : BufTy).Contents (Elt F) → (⟨S2x4096x1, .f32⟩ : BufTy).Contents (Elt F) → (⟨S2x4096x1, .f32⟩ : BufTy).Contents (Elt F))
  :: unary main_v300 main_v301 (Host.negf : (⟨S2x4096x1, .f32⟩ : BufTy).Contents (Elt F) → (⟨S2x4096x1, .f32⟩ : BufTy).Contents (Elt F))
  :: unary main_v301 main_v302 (Host.exp : (⟨S2x4096x1, .f32⟩ : BufTy).Contents (Elt F) → (⟨S2x4096x1, .f32⟩ : BufTy).Contents (Elt F))
  :: nullary main_cst_58 (constant S_ .f32 0x3F800000#32)
  :: unary main_cst_58 main_v303 (broadcastInDim S2x4096x1 ![] bcast_S_S2x4096x1 : (⟨S_, .f32⟩ : BufTy).Contents (Elt F) → (⟨S2x4096x1, .f32⟩ : BufTy).Contents (Elt F))
  :: binary main_v303 main_v302 main_v304 (addf : (⟨S2x4096x1, .f32⟩ : BufTy).Contents (Elt F) → (⟨S2x4096x1, .f32⟩ : BufTy).Contents (Elt F) → (⟨S2x4096x1, .f32⟩ : BufTy).Contents (Elt F))
  :: nullary main_cst_59 (constant S_ .f32 0x3F800000#32)
  :: unary main_cst_59 main_v305 (broadcastInDim S2x4096x1 ![] bcast_S_S2x4096x1 : (⟨S_, .f32⟩ : BufTy).Contents (Elt F) → (⟨S2x4096x1, .f32⟩ : BufTy).Contents (Elt F))
  :: binary main_v305 main_v304 main_v306 (Host.divf : (⟨S2x4096x1, .f32⟩ : BufTy).Contents (Elt F) → (⟨S2x4096x1, .f32⟩ : BufTy).Contents (Elt F) → (⟨S2x4096x1, .f32⟩ : BufTy).Contents (Elt F))
  :: unary main_v306 main_v307 (broadcastInDim S2x4096x1024 ![0, 1, 2] bcast_S2x4096x1_S2x4096x1024_0_1_2 : (⟨S2x4096x1, .f32⟩ : BufTy).Contents (Elt F) → (⟨S2x4096x1024, .f32⟩ : BufTy).Contents (Elt F))
  :: binary main_v295 main_v307 main_v308 (mulf : (⟨S2x4096x1024, .f32⟩ : BufTy).Contents (Elt F) → (⟨S2x4096x1024, .f32⟩ : BufTy).Contents (Elt F) → (⟨S2x4096x1024, .f32⟩ : BufTy).Contents (Elt F))
  :: unary main_arg4 main_v309 ((transpose S1024x2048 [1, 0] · transposes_S2048x1024_S1024x2048_1_0) : (⟨S2048x1024, .f32⟩ : BufTy).Contents (Elt F) → (⟨S1024x2048, .f32⟩ : BufTy).Contents (Elt F))
  :: binary main_v118 main_v309 main_v310 ((fun l r => Host.dotGeneral dot_S2x4096x1024_S1024x2048_S2x4096x2048_2_0_01_1_n_n none l r) : (⟨S2x4096x1024, .f32⟩ : BufTy).Contents (Elt F) → (⟨S1024x2048, .f32⟩ : BufTy).Contents (Elt F) → (⟨S2x4096x2048, .f32⟩ : BufTy).Contents (Elt F))
  :: unary main_arg5 main_v311 (broadcastInDim S1x1x2048 ![2] bcast_S2048_S1x1x2048_2 : (⟨S2048, .f32⟩ : BufTy).Contents (Elt F) → (⟨S1x1x2048, .f32⟩ : BufTy).Contents (Elt F))
  :: unary main_v311 main_v312 (broadcastInDim S2x4096x2048 ![0, 1, 2] bcast_S1x1x2048_S2x4096x2048_0_1_2 : (⟨S1x1x2048, .f32⟩ : BufTy).Contents (Elt F) → (⟨S2x4096x2048, .f32⟩ : BufTy).Contents (Elt F))
  :: binary main_v310 main_v312 main_v313 (addf : (⟨S2x4096x2048, .f32⟩ : BufTy).Contents (Elt F) → (⟨S2x4096x2048, .f32⟩ : BufTy).Contents (Elt F) → (⟨S2x4096x2048, .f32⟩ : BufTy).Contents (Elt F))
  :: binary main_v313 main_v313 main_v314 (mulf : (⟨S2x4096x2048, .f32⟩ : BufTy).Contents (Elt F) → (⟨S2x4096x2048, .f32⟩ : BufTy).Contents (Elt F) → (⟨S2x4096x2048, .f32⟩ : BufTy).Contents (Elt F))
  :: binary main_v314 main_v313 main_v315 (mulf : (⟨S2x4096x2048, .f32⟩ : BufTy).Contents (Elt F) → (⟨S2x4096x2048, .f32⟩ : BufTy).Contents (Elt F) → (⟨S2x4096x2048, .f32⟩ : BufTy).Contents (Elt F))
  :: nullary main_cst_60 (constant S_ .f32 0x3D372713#32)
  :: unary main_cst_60 main_v316 (broadcastInDim S2x4096x2048 ![] bcast_S_S2x4096x2048 : (⟨S_, .f32⟩ : BufTy).Contents (Elt F) → (⟨S2x4096x2048, .f32⟩ : BufTy).Contents (Elt F))
  :: binary main_v316 main_v315 main_v317 (mulf : (⟨S2x4096x2048, .f32⟩ : BufTy).Contents (Elt F) → (⟨S2x4096x2048, .f32⟩ : BufTy).Contents (Elt F) → (⟨S2x4096x2048, .f32⟩ : BufTy).Contents (Elt F))
  :: binary main_v313 main_v317 main_v318 (addf : (⟨S2x4096x2048, .f32⟩ : BufTy).Contents (Elt F) → (⟨S2x4096x2048, .f32⟩ : BufTy).Contents (Elt F) → (⟨S2x4096x2048, .f32⟩ : BufTy).Contents (Elt F))
  :: nullary main_cst_61 (constant S_ .f32 0x3F4C422A#32)
  :: unary main_cst_61 main_v319 (broadcastInDim S2x4096x2048 ![] bcast_S_S2x4096x2048 : (⟨S_, .f32⟩ : BufTy).Contents (Elt F) → (⟨S2x4096x2048, .f32⟩ : BufTy).Contents (Elt F))
  :: binary main_v319 main_v318 main_v320 (mulf : (⟨S2x4096x2048, .f32⟩ : BufTy).Contents (Elt F) → (⟨S2x4096x2048, .f32⟩ : BufTy).Contents (Elt F) → (⟨S2x4096x2048, .f32⟩ : BufTy).Contents (Elt F))
  :: unary main_v320 main_v321 (Host.tanh : (⟨S2x4096x2048, .f32⟩ : BufTy).Contents (Elt F) → (⟨S2x4096x2048, .f32⟩ : BufTy).Contents (Elt F))
  :: nullary main_cst_62 (constant S_ .f32 0x3F800000#32)
  :: unary main_cst_62 main_v322 (broadcastInDim S2x4096x2048 ![] bcast_S_S2x4096x2048 : (⟨S_, .f32⟩ : BufTy).Contents (Elt F) → (⟨S2x4096x2048, .f32⟩ : BufTy).Contents (Elt F))
  :: binary main_v322 main_v321 main_v323 (addf : (⟨S2x4096x2048, .f32⟩ : BufTy).Contents (Elt F) → (⟨S2x4096x2048, .f32⟩ : BufTy).Contents (Elt F) → (⟨S2x4096x2048, .f32⟩ : BufTy).Contents (Elt F))
  :: nullary main_cst_63 (constant S_ .f32 0x3F000000#32)
  :: unary main_cst_63 main_v324 (broadcastInDim S2x4096x2048 ![] bcast_S_S2x4096x2048 : (⟨S_, .f32⟩ : BufTy).Contents (Elt F) → (⟨S2x4096x2048, .f32⟩ : BufTy).Contents (Elt F))
  :: binary main_v324 main_v323 main_v325 (mulf : (⟨S2x4096x2048, .f32⟩ : BufTy).Contents (Elt F) → (⟨S2x4096x2048, .f32⟩ : BufTy).Contents (Elt F) → (⟨S2x4096x2048, .f32⟩ : BufTy).Contents (Elt F))
  :: binary main_v313 main_v325 main_v326 (mulf : (⟨S2x4096x2048, .f32⟩ : BufTy).Contents (Elt F) → (⟨S2x4096x2048, .f32⟩ : BufTy).Contents (Elt F) → (⟨S2x4096x2048, .f32⟩ : BufTy).Contents (Elt F))
  :: unary main_arg6 main_v327 ((transpose S2048x1024 [1, 0] · transposes_S1024x2048_S2048x1024_1_0) : (⟨S1024x2048, .f32⟩ : BufTy).Contents (Elt F) → (⟨S2048x1024, .f32⟩ : BufTy).Contents (Elt F))
  :: binary main_v326 main_v327 main_v328 ((fun l r => Host.dotGeneral dot_S2x4096x2048_S2048x1024_S2x4096x1024_2_0_01_1_n_n none l r) : (⟨S2x4096x2048, .f32⟩ : BufTy).Contents (Elt F) → (⟨S2048x1024, .f32⟩ : BufTy).Contents (Elt F) → (⟨S2x4096x1024, .f32⟩ : BufTy).Contents (Elt F))
  :: unary main_arg7 main_v329 (broadcastInDim S1x1x1024 ![2] bcast_S1024_S1x1x1024_2 : (⟨S1024, .f32⟩ : BufTy).Contents (Elt F) → (⟨S1x1x1024, .f32⟩ : BufTy).Contents (Elt F))
  :: unary main_v329 main_v330 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
  :: binary main_v328 main_v330 main_v331 (addf : (⟨S2x4096x1024, .f32⟩ : BufTy).Contents (Elt F) → (⟨S2x4096x1024, .f32⟩ : BufTy).Contents (Elt F) → (⟨S2x4096x1024, .f32⟩ : BufTy).Contents (Elt F))
  :: binary main_arg0 main_v133 main_v332 (addf : (⟨S2x4096x1024, .f32⟩ : BufTy).Contents (Elt F) → (⟨S2x4096x1024, .f32⟩ : BufTy).Contents (Elt F) → (⟨S2x4096x1024, .f32⟩ : BufTy).Contents (Elt F))
  :: binary main_v332 main_v308 main_v333 (addf : (⟨S2x4096x1024, .f32⟩ : BufTy).Contents (Elt F) → (⟨S2x4096x1024, .f32⟩ : BufTy).Contents (Elt F) → (⟨S2x4096x1024, .f32⟩ : BufTy).Contents (Elt F))
  :: binary main_v333 main_v331 main_v334 (addf : (⟨S2x4096x1024, .f32⟩ : BufTy).Contents (Elt F) → (⟨S2x4096x1024, .f32⟩ : BufTy).Contents (Elt F) → (⟨S2x4096x1024, .f32⟩ : BufTy).Contents (Elt F))
  :: [] )
set_option maxHeartbeats 40000000 in
theorem hostOps0_5_sub : (hostOps0_5 : List (HloOp τ sig (Elt F))).Forall fun op => op.bufs ⊆ tcRefs τ sig :=
  ⟨nullary_bufs_sub .., unary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., reshape_bufs_sub .., nullary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., binary_bufs_sub .., nullary_bufs_sub .., unary_bufs_sub .., binary_bufs_sub .., unary_bufs_sub .., reshape_bufs_sub .., nullary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., nullary_bufs_sub .., unary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., binary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., binary_bufs_sub .., binary_bufs_sub ..⟩
end Cert.ReferenceIdeal.Hand

end
-- ==== Proof.RefRun.lean ====
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4776

/-! The reference as a chain of its operation lists round one loop of 4096 trips, and its run at the fold of them. -/

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
abbrev main_part0_ops0 : List (HloOp τ sig (Elt F)) := hostOps0
abbrev main_part0_ops1 : List (HloOp τ sig (Elt F)) := hostOps0_1
abbrev main_part0_ops2 : List (HloOp τ sig (Elt F)) := hostOps0_2.take 45
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

abbrev main_part1_ops0 : List (HloOp τ sig (Elt F)) := hostOps0_2.drop 45
abbrev main_part1_ops1 : List (HloOp τ sig (Elt F)) := hostOps0_3
abbrev main_part1_ops2 : List (HloOp τ sig (Elt F)) := hostOps0_4
abbrev main_part1_ops3 : List (HloOp τ sig (Elt F)) := hostOps0_5.take 21
theorem main_part1_chain (c : Dev nD) : main_part1 (F := F) c = (Pipeline.chainK
  [ StableHlo.seq main_part1_ops0,
    HostLoop.enter 0,
    StableHlo.seq main_part1_ops1,
    StableHlo.seq main_part1_ops2 ]
  (StableHlo.seq main_part1_ops3) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

abbrev main_part2_ops0 : List (HloOp τ sig (Elt F)) := (hostOps0_5.drop 21).take 60
theorem main_part2_chain (c : Dev nD) : main_part2 (F := F) c = (Pipeline.chainK
  [  ]
  (StableHlo.seq main_part2_ops0) : Prog (TpuEff nD τ sig (Elt F) (HostLoop.Sig (Pipeline.Sig Λ₀ (Fin 0) fun p => (pcfgs (F := F) p).Adm) 1) .tc) PUnit) := by
  chain_rfl

abbrev main_part3_ops0 : List (HloOp τ sig (Elt F)) := (hostOps0_5.drop 81).take 60
theorem main_part3_chain (c : Dev nD) : main_part3 (F := F) c = (Pipeline.chainK
  [  ]
  (StableHlo.seq main_part3_ops0) : Prog (TpuEff nD τ sig (Elt F) (HostLoop.Sig (Pipeline.Sig Λ₀ (Fin 0) fun p => (pcfgs (F := F) p).Adm) 1) .tc) PUnit) := by
  chain_rfl

abbrev main_part4_ops0 : List (HloOp τ sig (Elt F)) := (hostOps0_5.drop 141).take 60
theorem main_part4_chain (c : Dev nD) : main_part4 (F := F) c = (Pipeline.chainK
  [  ]
  (StableHlo.seq main_part4_ops0) : Prog (TpuEff nD τ sig (Elt F) (HostLoop.Sig (Pipeline.Sig Λ₀ (Fin 0) fun p => (pcfgs (F := F) p).Adm) 1) .tc) PUnit) := by
  chain_rfl

abbrev main_part5_ops0 : List (HloOp τ sig (Elt F)) := (hostOps0_5.drop 201).take 60
theorem main_part5_chain (c : Dev nD) : main_part5 (F := F) c = (Pipeline.chainK
  [  ]
  (StableHlo.seq main_part5_ops0) : Prog (TpuEff nD τ sig (Elt F) (HostLoop.Sig (Pipeline.Sig Λ₀ (Fin 0) fun p => (pcfgs (F := F) p).Adm) 1) .tc) PUnit) := by
  chain_rfl

abbrev main_part6_ops0 : List (HloOp τ sig (Elt F)) := hostOps0_5.drop 261
theorem main_part6_chain (c : Dev nD) : main_part6 (F := F) c = (Pipeline.chain
  [ StableHlo.seq main_part6_ops0 ] : Prog (TpuEff nD τ sig (Elt F) (HostLoop.Sig (Pipeline.Sig Λ₀ (Fin 0) fun p => (pcfgs (F := F) p).Adm) 1) .tc) PUnit) := by
  rewrite [StableHlo.chain_seq_cons]
  chain_rfl

theorem main_chain_windows (c : Dev nD) : main (F := F) c = (Pipeline.chain
  [ StableHlo.seq main_part0_ops0,
    StableHlo.seq main_part0_ops1,
    StableHlo.seq main_part0_ops2,
    StableHlo.seq main_part1_ops0,
    HostLoop.enter 0,
    StableHlo.seq main_part1_ops1,
    StableHlo.seq main_part1_ops2,
    StableHlo.seq main_part1_ops3,
    StableHlo.seq main_part2_ops0,
    StableHlo.seq main_part3_ops0,
    StableHlo.seq main_part4_ops0,
    StableHlo.seq main_part5_ops0,
    StableHlo.seq main_part6_ops0 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c) = _
  rewrite [main_part6_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2, main_part1_ops0],
    .prog (HostLoop.enter 0),
    .ops [main_part1_ops1],
    .ops [main_part1_ops2],
    .ops [main_part1_ops3, main_part2_ops0, main_part3_ops0, main_part4_ops0, main_part5_ops0, main_part6_ops0] ]

theorem main_chain_cut (c : Dev nD) : (Pipeline.chain
  [ StableHlo.seq main_part0_ops0,
    StableHlo.seq main_part0_ops1,
    StableHlo.seq main_part0_ops2,
    StableHlo.seq main_part1_ops0,
    HostLoop.enter 0,
    StableHlo.seq main_part1_ops1,
    StableHlo.seq main_part1_ops2,
    StableHlo.seq main_part1_ops3,
    StableHlo.seq main_part2_ops0,
    StableHlo.seq main_part3_ops0,
    StableHlo.seq main_part4_ops0,
    StableHlo.seq main_part5_ops0,
    StableHlo.seq main_part6_ops0 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    StableHlo.seq hostOps0_1,
    StableHlo.seq hostOps0_2,
    HostLoop.enter 0,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) := by
  chain_rfl

theorem main_chain (c : Dev nD) : main (F := F) c = (Pipeline.chain
  [ StableHlo.seq hostOps0,
    StableHlo.seq hostOps0_1,
    StableHlo.seq hostOps0_2,
    HostLoop.enter 0,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

abbrev while0Ops0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v64_0 : StableHlo.TRef sig ⟨S4096x2x4x1024, .f32⟩) ![(.of main_v64_2 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x2x4x1024, .f32⟩) (fun x i => Host.dynamicSlice S1x2x4x1024 x (fun k => (i k (Shape.Idx.first h_S_)).toInt) sliceFits_S4096x2x4x1024_S1x2x4x1024),
    StableHlo.TRef.reshape (.of main_while0b_call1_v0 : StableHlo.TRef sig ⟨S1x2x4x1024, .f32⟩) (.of main_while0b_v335 : StableHlo.TRef sig ⟨S2x4x1024, .f32⟩) (rfl : (.f32 : EltTy) = .f32) shapeCasts_S1x2x4x1024_S2x4x1024 ]
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
abbrev while0Ops0_1 : List (HloOp τ sig (Elt F)) :=
  [ StableHlo.unary main_v64_1 main_while0b_v336 (broadcastInDim S1x4x1 ![1] bcast_S4_S1x4x1_1 : (⟨S4, .f32⟩ : BufTy).Contents (Elt F) → (⟨S1x4x1, .f32⟩ : BufTy).Contents (Elt F)),
    StableHlo.unary main_while0b_v336 main_while0b_v337 (broadcastInDim S2x4x1024 ![0, 1, 2] bcast_S1x4x1_S2x4x1024_0_1_2 : (⟨S1x4x1, .f32⟩ : BufTy).Contents (Elt F) → (⟨S2x4x1024, .f32⟩ : BufTy).Contents (Elt F)),
    StableHlo.binary main_while0b_v337 main_v64_3 main_while0b_v338 (mulf : (⟨S2x4x1024, .f32⟩ : BufTy).Contents (Elt F) → (⟨S2x4x1024, .f32⟩ : BufTy).Contents (Elt F) → (⟨S2x4x1024, .f32⟩ : BufTy).Contents (Elt F)),
    StableHlo.unary main_v64_1 main_while0b_v339 (broadcastInDim S1x4x1 ![1] bcast_S4_S1x4x1_1 : (⟨S4, .f32⟩ : BufTy).Contents (Elt F) → (⟨S1x4x1, .f32⟩ : BufTy).Contents (Elt F)),
    StableHlo.nullary main_while0b_cst_68 (constant S_ .f32 0x3F800000#32),
    StableHlo.unary main_while0b_cst_68 main_while0b_v340 (broadcastInDim S1x4x1 ![] bcast_S_S1x4x1 : (⟨S_, .f32⟩ : BufTy).Contents (Elt F) → (⟨S1x4x1, .f32⟩ : BufTy).Contents (Elt F)),
    StableHlo.binary main_while0b_v340 main_while0b_v339 main_while0b_v341 (subf : (⟨S1x4x1, .f32⟩ : BufTy).Contents (Elt F) → (⟨S1x4x1, .f32⟩ : BufTy).Contents (Elt F) → (⟨S1x4x1, .f32⟩ : BufTy).Contents (Elt F)),
    StableHlo.unary main_while0b_v341 main_while0b_v342 (broadcastInDim S2x4x1024 ![0, 1, 2] bcast_S1x4x1_S2x4x1024_0_1_2 : (⟨S1x4x1, .f32⟩ : BufTy).Contents (Elt F) → (⟨S2x4x1024, .f32⟩ : BufTy).Contents (Elt F)),
    StableHlo.binary main_while0b_v342 main_while0b_v335 main_while0b_v343 (mulf : (⟨S2x4x1024, .f32⟩ : BufTy).Contents (Elt F) → (⟨S2x4x1024, .f32⟩ : BufTy).Contents (Elt F) → (⟨S2x4x1024, .f32⟩ : BufTy).Contents (Elt F)),
    StableHlo.binary main_while0b_v338 main_while0b_v343 main_while0b_v344 (addf : (⟨S2x4x1024, .f32⟩ : BufTy).Contents (Elt F) → (⟨S2x4x1024, .f32⟩ : BufTy).Contents (Elt F) → (⟨S2x4x1024, .f32⟩ : BufTy).Contents (Elt F)) ]
theorem while0Ops0_1_sub : (while0Ops0_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub ..⟩
abbrev while0Ops0_2 : List (HloOp τ sig (Elt F)) :=
  [ StableHlo.TRef.unary (.of main_while0b_v344 : StableHlo.TRef sig ⟨S2x4x1024, .f32⟩) (.of main_while0b_call2_v0 : StableHlo.TRef sig ⟨S1x2x4x1024, .f32⟩) (broadcastInDim S1x2x4x1024 ![1, 2, 3] bcast_S2x4x1024_S1x2x4x1024_1_2_3),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.binaryIndexed (.of main_v64_4 : StableHlo.TRef sig ⟨S4096x2x4x1024, .f32⟩) (.of main_while0b_call2_v0 : StableHlo.TRef sig ⟨S1x2x4x1024, .f32⟩) ![(.of main_v64_2 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_v345 : StableHlo.TRef sig ⟨S4096x2x4x1024, .f32⟩) (fun x u i => Host.dynamicUpdateSlice x u (fun k => (i k (Shape.Idx.first h_S_)).toInt) updateFits_S4096x2x4x1024_S1x2x4x1024) ]
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
abbrev while0Ops0_3 : List (HloOp τ sig (Elt F)) :=
  [ StableHlo.nullary main_while0b_c_69 (constantI S_ 32 1#32),
    StableHlo.binary main_v64_2 main_while0b_c_69 main_while0b_v346 (addi : (⟨S_, .i32⟩ : BufTy).Contents (Elt F) → (⟨S_, .i32⟩ : BufTy).Contents (Elt F) → (⟨S_, .i32⟩ : BufTy).Contents (Elt F)),
    StableHlo.unary main_while0b_v346 main_v64_2 id,
    StableHlo.unary main_while0b_v344 main_v64_3 id,
    StableHlo.unary main_while0b_v345 main_v64_4 id ]
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons]
  chain_rfl

theorem hostOps0_fresh : (hostOps0 : List (HloOp τ sig (Elt F))).Forall fun op => op.fresh = ∅ :=
  StableHlo.forall_fresh_of_map rfl
abbrev hostOps0_W : List (Ref sig .tc) := [main_v0, main_cst, main_v1, main_v2, main_cst_0, main_v3, main_v4, main_cst_1, main_v5, main_v6, main_v7, main_v8, main_v9, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
abbrev hostOps0_1_W : List (Ref sig .tc) := [main_call0_v0, main_v10]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl
abbrev hostOps0_2_W : List (Ref sig .tc) := [main_cst_2, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_cst_3, main_v47, main_v48, main_cst_4, main_v49, main_v50, main_v51, main_v52, main_v53, main_v54, main_v55, main_v56, main_cst_5, main_v57, main_v58, main_cst_6, main_v59, main_v60, main_cst_7, main_v61, main_v62, main_cst_8, main_v63, main_c_9, main_v64_0, main_v64_1, main_v64_2, main_v64_3, main_v64_4]
theorem hostOps0_2_writes : (hostOps0_2 : List (HloOp τ sig (Elt F))).Forall fun op => op.writes ⊆ (hostOps0_2_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
abbrev while0Ops0_W : List (Ref sig .tc) := [main_while0b_call1_c, main_while0b_call1_c_0, main_while0b_call1_c_1, main_while0b_call1_v0, main_while0b_v335]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
abbrev while0Ops0_1_W : List (Ref sig .tc) := [main_while0b_v336, main_while0b_v337, main_while0b_v338, main_while0b_v339, main_while0b_cst_68, main_while0b_v340, main_while0b_v341, main_while0b_v342, main_while0b_v343, main_while0b_v344]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
abbrev while0Ops0_2_W : List (Ref sig .tc) := [main_while0b_call2_v0, main_while0b_call2_c, main_while0b_call2_c_0, main_while0b_call2_c_1, main_while0b_v345]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
abbrev while0Ops0_3_W : List (Ref sig .tc) := [main_while0b_c_69, main_while0b_v346, main_v64_2, main_v64_3, main_v64_4]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem hostOps0_3_fresh : (hostOps0_3 : List (HloOp τ sig (Elt F))).Forall fun op => op.fresh = ∅ :=
  StableHlo.forall_fresh_of_map rfl
theorem hostOps0_4_fresh : (hostOps0_4 : List (HloOp τ sig (Elt F))).Forall fun op => op.fresh = ∅ :=
  StableHlo.forall_fresh_of_map rfl
theorem hostOps0_5_fresh : (hostOps0_5 : List (HloOp τ sig (Elt F))).Forall fun op => op.fresh = ∅ :=
  StableHlo.forall_fresh_of_map rfl
abbrev hostOps0_3_W : List (Ref sig .tc) := [main_v65, main_v66, main_v67, main_cst_10, main_v68, main_v69, main_cst_11, main_v70, main_v71, main_cst_12, main_v72, main_v73, main_v74, main_v75, main_v76, main_c_13]
theorem hostOps0_3_writes : (hostOps0_3 : List (HloOp τ sig (Elt F))).Forall fun op => op.writes ⊆ (hostOps0_3_W.map (Proc.devRef (τ := τ) .tc)).toFinset :=
  StableHlo.forall_writes_sub_of_map rfl
abbrev hostOps0_4_W : List (Ref sig .tc) := [main_call3_v0, main_v77]
theorem hostOps0_4_writes : (hostOps0_4 : List (HloOp τ sig (Elt F))).Forall fun op => op.writes ⊆ (hostOps0_4_W.map (Proc.devRef (τ := τ) .tc)).toFinset :=
  StableHlo.forall_writes_sub_of_map rfl
abbrev hostOps0_5_W : List (Ref sig .tc) := [main_cst_14, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_cst_15, main_v114, main_v115, main_cst_16, main_v116, main_v117, main_v118, main_v119, main_v120, main_v121, main_v122, main_v123, main_v124, main_v125, main_v126, main_v127, main_cst_17, main_v128, main_v129, main_cst_18, main_v130, main_v131, main_v132, main_v133, main_v134, main_v135, main_cst_19, main_v136, main_v137, main_v138, main_v139, main_v140, main_c_20, main_v141, main_v142, main_v143, main_v144, main_v145, main_c_21, main_v146, main_c_22, main_v147, main_v148, main_v149, main_v150, main_cst_23, main_v151, main_v152, main_v153, main_v154, main_v155, main_c_24, main_v156, main_v157, main_v158, main_v159, main_v160, main_c_25, main_v161, main_c_26, main_v162, main_v163, main_v164, main_v165, main_v166, main_v167, main_v168, main_v169, main_v170, main_v171, main_v172, main_cst_27, main_v173, main_v174, main_cst_28, main_v175, main_v176, main_v177, main_v178, main_v179, main_v180, main_cst_29, main_v181, main_cst_30, main_v182, main_v183, main_v184, main_c_31, main_v185, main_v186, main_c_32, main_v187, main_v188, main_v189, main_c_33, main_v190, main_v191, main_c_34, main_v192, main_v193, main_v194, main_v195, main_v196, main_v197, main_v198, main_v199, main_v200, main_v201, main_c_35, main_v202, main_v203, main_c_36, main_v204, main_v205, main_v206, main_c_37, main_v207, main_v208, main_c_38, main_v209, main_v210, main_v211, main_v212, main_v213, main_v214, main_v215, main_v216, main_v217, main_v218, main_c_39, main_v219, main_v220, main_c_40, main_v221, main_v222, main_v223, main_c_41, main_v224, main_v225, main_c_42, main_v226, main_v227, main_v228, main_v229, main_v230, main_v231, main_v232, main_v233, main_v234, main_v235, main_c_43, main_v236, main_v237, main_c_44, main_v238, main_v239, main_v240, main_c_45, main_v241, main_v242, main_c_46, main_v243, main_v244, main_v245, main_v246, main_v247, main_v248, main_v249, main_v250, main_cst_47, main_v251, main_v252, main_v253, main_v254, main_cst_48, main_v255, main_v256, main_v257, main_c_49, main_v258, main_v259, main_c_50, main_v260, main_v261, main_v262, main_c_51, main_v263, main_v264, main_c_52, main_v265, main_v266, main_v267, main_v268, main_v269, main_v270, main_v271, main_v272, main_v273, main_v274, main_v275, main_c_53, main_v276, main_v277, main_c_54, main_v278, main_v279, main_v280, main_c_55, main_v281, main_v282, main_c_56, main_v283, main_v284, main_v285, main_v286, main_v287, main_v288, main_v289, main_v290, main_v291, main_cst_57, main_v292, main_v293, main_v294, main_v295, main_v296, main_v297, main_v298, main_v299, main_v300, main_v301, main_v302, main_cst_58, main_v303, main_v304, main_cst_59, main_v305, main_v306, main_v307, main_v308, main_v309, main_v310, main_v311, main_v312, main_v313, main_v314, main_v315, main_cst_60, main_v316, main_v317, main_v318, main_cst_61, main_v319, main_v320, main_v321, main_cst_62, main_v322, main_v323, main_cst_63, main_v324, main_v325, main_v326, main_v327, main_v328, main_v329, main_v330, main_v331, main_v332, main_v333, main_v334]
theorem hostOps0_5_writes : (hostOps0_5 : List (HloOp τ sig (Elt F))).Forall fun op => op.writes ⊆ (hostOps0_5_W.map (Proc.devRef (τ := τ) .tc)).toFinset :=
  StableHlo.forall_writes_sub_of_map rfl

abbrev condOps : List (HloOp τ sig (Elt F)) :=
  [ StableHlo.nullary main_while0c_c_68 (constantI S_ 32 4096#32),
    StableHlo.binary main_v64_2 main_while0c_c_68 main_while0c_v335 (cmpi .slt) ]

abbrev preI : List (List (HloOp τ sig (Elt F))) := [hostOps0, hostOps0_1, hostOps0_2]
abbrev bodyI : List (List (HloOp τ sig (Elt F))) := [while0Ops0, while0Ops0_1, while0Ops0_2, while0Ops0_3]
abbrev postI : List (List (HloOp τ sig (Elt F))) := [hostOps0_3, hostOps0_4, hostOps0_5]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.nil)))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.nil))))
theorem hpost : Plain (postI (F := F)) := .cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil)))

abbrev condOps_W : List (Ref sig .tc) := [main_while0c_c_68, main_while0c_v335]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

abbrev atK (k : ℕ) (c : Dev nD) : Valuation τ sig (Elt F) := atTrip condOps bodyI (entryContents preI m) k c

theorem ctr_cond (V : Valuation τ sig (Elt F)) : after condOps V (Proc.devRef .tc main_v64_2) = V (Proc.devRef .tc main_v64_2) :=
  after_of_writes_sub condOps V condOps_writes (by decide +kernel)
theorem ctr_while0Ops0 (V : Valuation τ sig (Elt F)) : after while0Ops0 V (Proc.devRef .tc main_v64_2) = V (Proc.devRef .tc main_v64_2) :=
  after_of_writes_sub while0Ops0 V while0Ops0_writes (by decide +kernel)
theorem ctr_while0Ops0_1 (V : Valuation τ sig (Elt F)) : after while0Ops0_1 V (Proc.devRef .tc main_v64_2) = V (Proc.devRef .tc main_v64_2) :=
  after_of_writes_sub while0Ops0_1 V while0Ops0_1_writes (by decide +kernel)
theorem ctr_while0Ops0_2 (V : Valuation τ sig (Elt F)) : after while0Ops0_2 V (Proc.devRef .tc main_v64_2) = V (Proc.devRef .tc main_v64_2) :=
  after_of_writes_sub while0Ops0_2 V while0Ops0_2_writes (by decide +kernel)

set_option maxRecDepth 100000 in
theorem ctr_step (X : Valuation τ sig (Elt F)) :
    after while0Ops0_3 X (Proc.devRef .tc main_v64_2) = addi (X (Proc.devRef .tc main_v64_2)) (constantI S_ 32 1#32) := by
  after_results
  rfl

theorem ctr_entry (c : Dev nD) : entryContents preI m c (Proc.devRef .tc main_v64_2) = fun _ => (0#32 : BitVec 32) := by
  simp only [entryContents, afterL_cons, afterL_nil]
  after_reads_simp
  rfl

theorem atK_ctr (c : Dev nD) : ∀ k, atK m k c (Proc.devRef .tc main_v64_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_2, ctr_while0Ops0_1, ctr_while0Ops0, ctr_cond, atK_ctr c k, Scf.iv_succ]
    rfl

set_option backward.isDefEq.respectTransparency.types false in
theorem cond_spec : CondSpec (pcfgs (F := F)) defs₀ loops (main_while0_cond (F := F)) condOps bodyI (entryContents preI m) 4096 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v64_2 HostLoop.idx0)
        (HloOp.result _ (atK m k c) main_while0c_c_68 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  rw [after_cons, after_cons, after_nil]; iexact Hh

set_option maxRecDepth 100000 in
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 4096 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 4096 m ρ (cond_spec m)
end Cert.ReferenceIdeal.Hand

end
-- ==== Proof.RefFrame.lean ====
module

public import proofs.«01_k».proof.Proof.RefRun

/-! The reference leaves its arguments as it found them, and declares no semaphore. -/

@[expose] public section

noncomputable section

namespace Cert.ReferenceIdeal.Hand

open Cert.ReferenceIdeal Cert.ReferenceIdeal.Gen
open Idealize.ShloMosaic Idealize.ShloMosaic.TcCoe Idealize.ShloMosaic.HostLoop Idealize.ShloMosaic.StableHlo Idealize.SL.Sem

variable {F : FTy → Type} [FloatOps F] (m : (ℓ : Loc nD τ sig) → Buf (Elt F) ℓ) (ρ : Dev nD → PrngReg)

theorem pre_keeps (V : Valuation τ sig (Elt F)) (b : Ref sig .tc) (h0 : b ∉ hostOps0_W) (h1 : b ∉ hostOps0_1_W) (h2 : b ∉ hostOps0_2_W) :
    afterL preI V (Proc.devRef .tc b) = V (Proc.devRef .tc b) := by
  simp only [preI, afterL_cons, afterL_nil]
  rw [after_of_writes_sub _ _ hostOps0_2_writes h2, after_of_writes_sub _ _ hostOps0_1_writes h1, after_of_writes_sub _ _ hostOps0_writes h0]

theorem trip_keeps (V : Valuation τ sig (Elt F)) (b : Ref sig .tc) (hc : b ∉ condOps_W) (h0 : b ∉ while0Ops0_W) (h1 : b ∉ while0Ops0_1_W)
    (h2 : b ∉ while0Ops0_2_W) (h3 : b ∉ while0Ops0_3_W) :
    afterL bodyI (after condOps V) (Proc.devRef .tc b) = V (Proc.devRef .tc b) := by
  simp only [bodyI, afterL_cons, afterL_nil]
  rw [after_of_writes_sub _ _ while0Ops0_3_writes h3, after_of_writes_sub _ _ while0Ops0_2_writes h2, after_of_writes_sub _ _ while0Ops0_1_writes h1,
    after_of_writes_sub _ _ while0Ops0_writes h0, after_of_writes_sub _ _ condOps_writes hc]

theorem loop_keeps (c : Dev nD) (b : Ref sig .tc) (hc : b ∉ condOps_W) (h0 : b ∉ while0Ops0_W) (h1 : b ∉ while0Ops0_1_W)
    (h2 : b ∉ while0Ops0_2_W) (h3 : b ∉ while0Ops0_3_W) :
    ∀ k, atK m k c (Proc.devRef .tc b) = entryContents preI m c (Proc.devRef .tc b)
  | 0 => rfl
  | k + 1 => (trip_keeps _ b hc h0 h1 h2 h3).trans (loop_keeps c b hc h0 h1 h2 h3 k)

theorem post_keeps (V : Valuation τ sig (Elt F)) (b : Ref sig .tc) (h3 : b ∉ hostOps0_3_W) (h4 : b ∉ hostOps0_4_W) (h5 : b ∉ hostOps0_5_W) :
    afterL postI V (Proc.devRef .tc b) = V (Proc.devRef .tc b) := by
  simp only [postI, afterL_cons, afterL_nil]
  rw [after_of_writes_sub _ _ hostOps0_5_writes h5, after_of_writes_sub _ _ hostOps0_4_writes h4, after_of_writes_sub _ _ hostOps0_3_writes h3]

/-- The arguments sit at the first 21 places; every operation writes at a later one. -/
def isArg (b : Ref sig .tc) : Prop := b ∈ ([main_arg0, main_arg1, main_arg2, main_arg3, main_arg4, main_arg5, main_arg6, main_arg7, main_arg8, main_arg9,
  main_arg10, main_arg11, main_arg12, main_arg13, main_arg14, main_arg15, main_arg16, main_arg17, main_arg18, main_arg19, main_arg20] : List (Ref sig .tc))

theorem arg_not_in {W : List (Ref sig .tc)} {b : Ref sig .tc} (hb : isArg b) (hW : ∀ w ∈ W, ¬ isArg w) : b ∉ W := fun h => hW b h hb

instance (b : Ref sig .tc) : Decidable (isArg b) := inferInstanceAs (Decidable (b ∈ _))

theorem entry_arg (c : Dev nD) (b : Ref sig .tc) (hb : isArg b) : entryContents preI m c (Proc.devRef .tc b) = m ((c.tc : Thread nD τ).loc b) :=
  pre_keeps _ b (arg_not_in hb (by decide +kernel)) (arg_not_in hb (by decide +kernel)) (arg_not_in hb (by decide +kernel))

theorem loop_arg (c : Dev nD) (b : Ref sig .tc) (hb : isArg b) (k : ℕ) : atK m k c (Proc.devRef .tc b) = m ((c.tc : Thread nD τ).loc b) :=
  (loop_keeps m c b (arg_not_in hb (by decide +kernel)) (arg_not_in hb (by decide +kernel)) (arg_not_in hb (by decide +kernel))
    (arg_not_in hb (by decide +kernel)) (arg_not_in hb (by decide +kernel)) k).trans (entry_arg m c b hb)

theorem final_arg (c : Dev nD) (b : Ref sig .tc) (hb : isArg b) :
    finalContents condOps preI bodyI postI 4096 m c (Proc.devRef .tc b) = m ((c.tc : Thread nD τ).loc b) := by
  refine (post_keeps _ b (arg_not_in hb (by decide +kernel)) (arg_not_in hb (by decide +kernel)) (arg_not_in hb (by decide +kernel))).trans ?_
  exact (after_of_writes_sub _ _ condOps_writes (arg_not_in hb (by decide +kernel))).trans (loop_arg m c b hb 4096)

theorem no_sem (f g : GSem nD τ sig → ℤ) : f = g := by
  funext s
  rcases s with ⟨t, s⟩
  cases s <;> rename_i i <;> exact i.elim0

end Cert.ReferenceIdeal.Hand

end
-- ==== Proof.Quiet.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.RefFrame

/-! The three frame claims: every program runs to its end, leaves its arguments as it found them, and every semaphore at zero. -/

@[expose] public section

set_option maxRecDepth 16384

noncomputable section

namespace Cert.Proof

open Idealize.ShloMosaic Idealize.ShloMosaic.Tactic Idealize.SL.Sem

attribute [local instance] Cert.Kernel.Gen.facts Cert.KernelIdeal.Gen.facts Cert.ReferenceIdeal.Gen.facts

theorem quiet_ideal : Cert.quiescent_KernelIdeal := fun m g _ => Cert.KernelIdeal.Hand.frame m g

theorem quiet_reference : Cert.quiescent_ReferenceIdeal := fun m g _ =>
  (θ_run _ _ _).mono (fun r hr => ⟨fun c => ⟨
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel)), (hr c _ rfl).trans (Cert.ReferenceIdeal.Hand.final_arg m c _ (by decide +kernel)),
    (hr c _ rfl).trans (Cert.ReferenceIdeal.Hand.final_arg m c _ (by decide +kernel))⟩, Cert.ReferenceIdeal.Hand.no_sem _ _⟩) (Cert.ReferenceIdeal.Hand.run_fold m g)

/-- The second program's frame claim, read at the machine's floats. -/
def quietBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

/-- The two kernel programs are one text under two names. -/
theorem quiet_same : Cert.quiescent_Kernel = quietBits := by sl_kernel_rfl

theorem quiet_kernel : Cert.quiescent_Kernel := quiet_same.mpr fun m g _ => Cert.KernelIdeal.Hand.frame (F := Bits) m g

end Cert.Proof

end
-- ==== Proof.Math.lean ====
module

public import Idealize.ShloMosaic.PureOps.Ideal
public import Idealize.ShloMosaic.Lib.IdealHost
public import Mathlib.Data.EReal.Operations
public import Mathlib.Algebra.BigOperators.Fin

/-! The problem's math over the extended reals, as functions of the launch's arguments, and the closed form of the
state recurrence. -/

@[expose] public section

noncomputable section

namespace Cert.Math

open Idealize.ShloMosaic

/-- The launch's arguments, each a function of its indices. -/
structure Args where
  x : Fin 2 → Fin 4096 → Fin 1024 → EReal
  convW : Fin 1024 → Fin 4 → EReal
  gateW : Fin 1024 → Fin 1024 → EReal
  gateB : Fin 1024 → EReal
  upW : Fin 2048 → Fin 1024 → EReal
  upB : Fin 2048 → EReal
  downW : Fin 1024 → Fin 2048 → EReal
  downB : Fin 1024 → EReal
  inW : Fin 4096 → Fin 1024 → EReal
  outW : Fin 1024 → Fin 4096 → EReal
  decay : Fin 4 → EReal
  readW : Fin 32 → Fin 1024 → EReal
  writeW : Fin 32 → Fin 1024 → EReal
  valW : Fin 64 → Fin 1024 → EReal
  memW : Fin 1024 → Fin 64 → EReal
  wgW : Fin 1024 → EReal
  wgB : EReal
  glW : Fin 1024 → EReal
  glB : EReal
  gmW : Fin 1024 → EReal
  gmB : EReal

/-- The added constant of the norm and of the memory's division. -/
abbrev eps : EReal := Ideal.ofBits .f32 897988541#32

/-- A row over the root of its mean square. -/
def rms (v : Fin 1024 → EReal) (d : Fin 1024) : EReal :=
  v d * Ideal.rsqrt (Ideal.div (∑ k, v k * v k) (Ideal.ofBits .f32 1149239296#32) + eps)

def dot {n : ℕ} (v w : Fin n → EReal) : EReal := ∑ k, v k * w k

/-- The tanh form of gelu. -/
def gelu (v : EReal) : EReal :=
  v * (Ideal.ofBits .f32 1056964608#32 * (1 + Ideal.tanh (Ideal.ofBits .f32 1061962282#32 *
    (v + Ideal.ofBits .f32 1027024659#32 * (v * (v * v))))))

variable (A : Args) (b : Fin 2)

def h (t : Fin 4096) : Fin 1024 → EReal := rms (A.x b t)

/-- The normed row three before position `n`, zero before the first. -/
def tap (n : ℕ) (d : Fin 1024) : EReal :=
  if hn : 3 ≤ n ∧ n - 3 < 4096 then h A b ⟨n - 3, hn.2⟩ d else 0

def u (t : Fin 4096) (d : Fin 1024) : EReal :=
  (tap A b (t + 3) d * A.convW d 3 + tap A b t d * A.convW d 0 + tap A b (t + 1) d * A.convW d 1
    + tap A b (t + 2) d * A.convW d 2) * Ideal.logistic (dot (h A b t) (A.gateW d) + A.gateB d)

/-- Column `d` of the `k`-th stretch of 1024. -/
def col (k : Fin 4) (d : Fin 1024) : Fin 4096 := ⟨k * 1024 + d, by omega⟩

def z (n : ℕ) (k : Fin 4) (d : Fin 1024) : EReal :=
  if hn : n < 4096 then dot (u A b ⟨n, hn⟩) (A.inW (col k d)) else 0

def alpha (k : Fin 4) : EReal := Ideal.logistic (A.decay k)

/-- The states after `n` positions. -/
def st : ℕ → Fin 4 → Fin 1024 → EReal
  | 0 => fun _ _ => 0
  | n + 1 => fun k d => alpha A k * st n k d + (1 - alpha A k) * z A b n k d

def gate (t : Fin 4096) (w : Fin 1024 → EReal) (c : EReal) : EReal := Ideal.logistic (dot (h A b t) w + c)

def long (t : Fin 4096) (d : Fin 1024) : EReal :=
  (∑ k : Fin 4, ∑ q : Fin 1024, st A b (t + 1) k q * A.outW d (col k q)) * gate A b t A.glW A.glB

def mlp (t : Fin 4096) (d : Fin 1024) : EReal :=
  dot (fun i => gelu (dot (u A b t) (A.upW i) + A.upB i)) (A.downW d) + A.downB d

def bit (k : Fin 2) (i : Fin 16) : Fin 32 := ⟨16 * k + i, by omega⟩

/-- The `k`-th read of position `t` and the `l`-th write of position `t'` name one bucket: their sixteen bits agree. -/
def Hit (t : Fin 4096) (k : Fin 2) (t' : Fin 4096) (l : Fin 2) : Prop :=
  ∀ i : Fin 16, (0 < dot (h A b t) (A.readW (bit k i))) ↔ (0 < dot (h A b t') (A.writeW (bit l i)))

open scoped Classical in
def hits (t : Fin 4096) (k : Fin 2) (t' : Fin 4096) : EReal :=
  (if Hit A b t k t' 0 then 1 else 0) + (if Hit A b t k t' 1 then 1 else 0)

def wg (t : Fin 4096) : EReal := gate A b t A.wgW A.wgB

def wv (t : Fin 4096) (e : Fin 64) : EReal := dot (h A b t) (A.valW e) * wg A b t

/-- What a bucket read by head `k` of position `t` holds of the written `f`. -/
def held (t : Fin 4096) (k : Fin 2) (f : Fin 4096 → EReal) : EReal := ∑ t', hits A b t k t' * f t'

def read (t : Fin 4096) (e : Fin 64) : EReal :=
  (Ideal.div (held A b t 0 fun t' => wv A b t' e) (held A b t 0 (wg A b) + eps)
    + Ideal.div (held A b t 1 fun t' => wv A b t' e) (held A b t 1 (wg A b) + eps)) * Ideal.ofBits .f32 1056964608#32

def out (t : Fin 4096) (d : Fin 1024) : EReal :=
  A.x b t d + (long A b t d + mlp A b t d) + dot (read A b t) (A.memW d) * gate A b t A.gmW A.gmB

/-! ## The literals -/

theorem lit_256 : Ideal.ofBits .f32 1132462080#32 = ((256 : ℝ) : EReal) := by
  simp [Ideal.ofBits, Ideal.ieee, -EReal.coe_mul]; norm_num

theorem lit_16 : Ideal.ofBits .f32 1098907648#32 = ((16 : ℝ) : EReal) := by
  simp [Ideal.ofBits, Ideal.ieee, -EReal.coe_mul]; norm_num

theorem lit_neg_one : Ideal.ofBits .f32 3212836864#32 = ((-1 : ℝ) : EReal) := by
  simp [Ideal.ofBits, Ideal.ieee, -EReal.coe_mul, -EReal.coe_neg]; norm_num

theorem lit_half : Ideal.ofBits .f32 1056964608#32 = ((1 / 2 : ℝ) : EReal) := by
  simp [Ideal.ofBits, Ideal.ieee, -EReal.coe_mul]; norm_num

theorem lit_two : Ideal.ofBits .f32 1073741824#32 = ((2 : ℝ) : EReal) := by
  simp [Ideal.ofBits, Ideal.ieee, -EReal.coe_mul]; norm_num

/-! ## The decay and its powers -/

theorem logistic_real (x : EReal) : ∃ a : ℝ, 0 ≤ a ∧ a ≤ 1 ∧ Ideal.logistic x = (a : EReal) := by
  induction x with
  | bot => exact ⟨0, le_rfl, zero_le_one, by simp⟩
  | top => exact ⟨1, zero_le_one, le_rfl, by simp⟩
  | coe r =>
    refine ⟨(1 + Real.exp (-r))⁻¹, by positivity, ?_, Ideal.logistic_coe r⟩
    exact inv_le_one_of_one_le₀ (by linarith [Real.exp_pos (-r)])

theorem exp_mul_log {a : ℝ} (ha : 0 ≤ a) (n : ℕ) :
    Ideal.exp (((n : ℝ) : EReal) * Ideal.log (a : EReal)) = ((a ^ n : ℝ) : EReal) := by
  rcases ha.eq_or_lt with rfl | h0
  · rw [Ideal.log_coe, if_pos le_rfl]
    rcases n with _ | n
    · simp only [Nat.cast_zero, EReal.coe_zero, zero_mul, pow_zero]
      exact (Ideal.exp_coe (r := 0)).trans (by rw [Real.exp_zero])
    · rw [EReal.coe_mul_bot_of_pos (by positivity), Ideal.exp_bot, zero_pow (Nat.succ_ne_zero n), EReal.coe_zero]
  · rw [Ideal.log_coe, if_neg (not_le.mpr h0), ← EReal.coe_mul, Ideal.exp_coe, mul_comm, Real.exp_mul, Real.exp_log h0,
      Real.rpow_natCast]

theorem coe_mul_sum {ι : Type*} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- The recurrence from any start: its start's share and each input's. -/
theorem scan_closed {a c : ℝ} (ha : 0 ≤ a) (s w : ℕ → EReal) (N : ℕ)
    (hs : ∀ n, n < N → s (n + 1) = (a : EReal) * s n + (c : EReal) * w n) :
    ∀ r, r < N → s (r + 1) = ((a ^ (r + 1) : ℝ) : EReal) * s 0
      + ∑ i ∈ Finset.range (r + 1), ((c * a ^ (r - i) : ℝ) : EReal) * w i
  | 0, h => by rw [hs 0 h]; simp
  | r + 1, h => by
    rw [hs (r + 1) h, scan_closed ha s w N hs r (by omega),
      EReal.left_distrib_of_nonneg_of_ne_top (EReal.coe_nonneg.mpr ha) (EReal.coe_ne_top a), coe_mul_sum _ ha,
      Finset.sum_range_succ _ (r + 1), Nat.sub_self, pow_zero, mul_one, ← mul_assoc, ← EReal.coe_mul, ← pow_succ', add_assoc]
    congr 2
    refine Finset.sum_congr rfl fun i hi => ?_
    have hi : i < r + 1 := Finset.mem_range.mp hi
    rw [← mul_assoc, ← EReal.coe_mul, show r + 1 - i = (r - i) + 1 by omega, pow_succ]
    congr 2; ring

/-- Row `r` of the table of powers: the start's share at column 0, then one column per input, zero past row `r`. -/
def powers (a : ℝ) (r : ℕ) (x : ℕ) : EReal :=
  if x = 0 then ((a ^ (r + 1) : ℝ) : EReal)
  else if x - 1 ≤ r ∧ x ≤ 256 then (((1 - a) * a ^ (r - (x - 1)) : ℝ) : EReal) else 0

/-- A row of the table against the start and the inputs is the state after position `r`. -/
theorem powers_row {a : ℝ} (ha : 0 ≤ a) (s w : ℕ → EReal)
    (hs : ∀ n, n < 256 → s (n + 1) = (a : EReal) * s n + ((1 - a : ℝ) : EReal) * w n) (r : ℕ) (hr : r < 256)
    (v : ℕ → EReal) (h0 : v 0 = s 0) (hv : ∀ n, n < 256 → v (n + 1) = w n) :
    ∑ x : Fin 264, powers a r x * v x = s (r + 1) := by
  rw [scan_closed ha s w 256 hs r hr, Fin.sum_univ_eq_sum_range (fun x => powers a r x * v x) 264, Finset.sum_range_succ',
    add_comm]
  congr 1
  · simp [powers, h0]
  · rw [← Finset.sum_subset (Finset.range_mono (show r + 1 ≤ 263 by omega))]
    · refine Finset.sum_congr rfl fun i hi => ?_
      have hi : i < r + 1 := Finset.mem_range.mp hi
      rw [hv i (by omega), powers, if_neg (by omega), if_pos (by omega), Nat.add_sub_cancel]
    · intro i _ hi
      have hi : ¬ i < r + 1 := fun h => hi (Finset.mem_range.mpr h)
      rw [powers, if_neg (by omega), if_neg (by omega), zero_mul]

theorem st_step {a : ℝ} (k : Fin 4) (ha : alpha A k = (a : EReal)) (d : Fin 1024) (n : ℕ) :
    st A b (n + 1) k d = (a : EReal) * st A b n k d + ((1 - a : ℝ) : EReal) * z A b n k d := by
  rw [← ha, EReal.coe_sub, EReal.coe_one, ← ha]; rfl

end Cert.Math

end
-- ==== Proof.PayMain.lean ====
module

public import proofs.«01_k».proof.Proof.Gen.KernelIdeal.Skeleton
public import proofs.«01_k».proof.Proof.Math
public import Idealize.ShloMosaic.Lib.Pipeline.ValueKit
public import Idealize.ShloMosaic.Lib.Pointwise

/-! What the first launch's body computes of one block of 256 positions, entry by entry, as the problem's math. -/

@[expose] public section

set_option maxRecDepth 16384

noncomputable section

namespace Cert.KernelIdeal.Hand

open Cert.KernelIdeal Cert.KernelIdeal.Gen Idealize.ShloMosaic Cert.Math

variable (A : Args) (b : Fin 2) (j : Fin 16)

/-- Position `r` of block `j`. -/
def pos (r : Fin 256) : Fin 4096 := ⟨256 * j + r, by omega⟩

theorem h_at (x : Vec Ideal S1x256x1024 .f32) (r : Fin 256) (t : Fin 4096) (hx : ∀ d, x (ix3 0 r d) = A.x b t d) (d : Fin 1024) :
    k0_pay14 (F := Ideal) x (ix2 r d) = h A b t d := by
  pointwise [k0_pay14]
  simp only [hx]; rfl

theorem tap_at (i : grid0.Coords) (hi : (i 1 : ℕ) = j) (x y : Vec Ideal S1x256x1024 .f32)
    (hx : ∀ r d, x (ix3 0 r d) = A.x b (pos j r) d)
    (hy : ∀ (hj : 0 < (j : ℕ)) r d, y (ix3 0 r d) = A.x b (pos ⟨j - 1, by omega⟩ r) d) (n : Fin 259) (d : Fin 1024) :
    k0_pay15 (F := Ideal) i x y (ix2 n d) = tap A b (256 * j + n) d := by
  have hz : Scalar.cmpi .eq (BitVec.ofNat 32 (i 1 : ℕ)) 0#32 = if (j : ℕ) = 0 then 1#1 else 0#1 := by
    rw [hi]; clear hx hy hi; revert j; decide
  pointwise [k0_pay15, k0_pay14]
  rw [hz, tap]
  by_cases hn : (n : ℕ) < 3
  · rw [dif_pos hn]
    by_cases hj : (j : ℕ) = 0
    · rw [if_pos hj, dif_neg (by omega)]; rfl
    · rw [if_neg hj, dif_pos (by omega)]
      simp only [hy (by omega)]
      have e : pos ⟨(j : ℕ) - 1, by omega⟩ ⟨253 + n, by omega⟩ = ⟨256 * j + n - 3, by omega⟩ := by
        ext; simp only [pos]; omega
      rw [e]; rfl
  · rw [dif_neg hn, dif_pos (by omega)]
    simp only [hx]
    have e : pos j ⟨n - 3, by omega⟩ = ⟨256 * j + n - 3, by omega⟩ := by
      ext; simp only [pos]; omega
    rw [e]; rfl

theorem u_at (r : Fin 256) (hr : FVec Ideal S256x1024 .f32) (tp : FVec Ideal S259x1024 .f32) (c3 c0 c1 c2 gB : Vec Ideal S1x1024 .f32)
    (gW : Vec Ideal S1024x1024 .bf16) (hh : ∀ d, hr (ix2 r d) = h A b (pos j r) d)
    (ht : ∀ (n : Fin 259) d, tp (ix2 n d) = tap A b (256 * j + n) d)
    (h3 : ∀ d, c3 (ix2 0 d) = A.convW d 3) (h0 : ∀ d, c0 (ix2 0 d) = A.convW d 0) (h1 : ∀ d, c1 (ix2 0 d) = A.convW d 1)
    (h2 : ∀ d, c2 (ix2 0 d) = A.convW d 2) (hW : ∀ d x, gW (ix2 d x) = A.gateW d x) (hB : ∀ d, gB (ix2 0 d) = A.gateB d) (d : Fin 1024) :
    k0_pay16 (F := Ideal) hr tp c3 c0 c1 c2 gW gB (ix2 r d) = u A b (pos j r) d := by
  pointwise [k0_pay16]
  simp only [hh, ht, h3, h0, h1, h2, hW, hB]
  rw [show 256 * (j : ℕ) + (3 + r) = (pos j r : ℕ) + 3 by simp only [pos]; omega,
    show 256 * (j : ℕ) + (1 + r) = (pos j r : ℕ) + 1 by simp only [pos]; omega,
    show 256 * (j : ℕ) + (2 + r) = (pos j r : ℕ) + 2 by simp only [pos]; omega]
  rfl

theorem pm_at (r : Fin 256) (t : Fin 4096) (hr : FVec Ideal S256x1024 .f32) (P : Vec Ideal S256x1024 .f32) (Pb : Vec Ideal S1x256 .f32)
    (hh : ∀ d, hr (ix2 r d) = h A b t d) (q : Fin 256) (w : Fin 1024 → EReal) (c : EReal) (hP : ∀ x, P (ix2 q x) = w x)
    (hPb : Pb (ix2 0 q) = c) : k0_pay17 (F := Ideal) hr P Pb (ix2 r q) = dot (h A b t) w + c := by
  pointwise [k0_pay17]
  simp only [hh, hP, hPb]; rfl

theorem rlog_at (r : Fin 256) (hr : FVec Ideal S256x1024 .f32) (P : Vec Ideal S256x1024 .f32) (Pb : Vec Ideal S1x256 .f32) (q : Fin 32) :
    k0_pay18 (F := Ideal) hr P Pb (ix2 r q) = k0_pay17 (F := Ideal) hr P Pb (ix2 r ⟨q, by omega⟩) := by
  pointwise [k0_pay18]

theorem wlog_at (r : Fin 256) (hr : FVec Ideal S256x1024 .f32) (P : Vec Ideal S256x1024 .f32) (Pb : Vec Ideal S1x256 .f32) (q : Fin 32) :
    k0_pay19 (F := Ideal) hr P Pb (ix2 r q) = k0_pay17 (F := Ideal) hr P Pb (ix2 r ⟨32 + q, by omega⟩) := by
  pointwise [k0_pay19]

theorem gl_at (r : Fin 256) (pm : FVec Ideal S256x256 .f32) :
    k0_pay20 (F := Ideal) pm (ix2 r 0) = Ideal.logistic (pm (ix2 r 129)) := by
  pointwise [k0_pay20]

theorem wv_at (r : Fin 256) (pm : FVec Ideal S256x256 .f32) (e : Fin 64) :
    k0_pay21 (F := Ideal) pm (ix3 0 r ⟨e, by omega⟩) = pm (ix2 r ⟨64 + e, by omega⟩) * Ideal.logistic (pm (ix2 r 128)) := by
  pointwise [k0_pay21]

theorem wg_at (r : Fin 256) (pm : FVec Ideal S256x256 .f32) :
    k0_pay21 (F := Ideal) pm (ix3 0 r 64) = Ideal.logistic (pm (ix2 r 128)) := by
  pointwise [k0_pay21]

theorem gm_at (r : Fin 256) (pm : FVec Ideal S256x256 .f32) :
    k0_pay21 (F := Ideal) pm (ix3 0 r 66) = Ideal.logistic (pm (ix2 r 130)) := by
  pointwise [k0_pay21]

/-- One for a set bit, minus one for a clear one. -/
def sgn (v : EReal) : EReal := if 0 < v then 1 else Ideal.ofBits .f32 3212836864#32

theorem rbit_at (r : Fin 256) (rl wl : FVec Ideal S256x32 .f32) (q : Fin 32) :
    k0_pay22 (F := Ideal) rl wl (ix3 0 r ⟨q, by omega⟩) = sgn (rl (ix2 r q)) := by
  pointwise [k0_pay22]
  rfl

theorem wbit_at (r : Fin 256) (rl wl : FVec Ideal S256x32 .f32) (q : Fin 32) :
    k0_pay22 (F := Ideal) rl wl (ix3 0 r ⟨32 + q, by omega⟩) = sgn (wl (ix2 r q)) := by
  pointwise [k0_pay22]
  rfl

section Folded

variable {F : FTy → Type} [FloatOps F] (U : FVec F S256x1024 .f32) (W : Vec F S1024x1024 .bf16) (c : Vec F S1x1x1024 .f32) (T : Vec F S1x256x264 .f32)

theorem pay28_eq : k0_pay28 (k0_pay23 U) k0_pay24 W c T = k0_pay26 (k0_pay25 U W c) T := rfl
theorem pay29_eq : k0_pay29 (k0_pay23 U) k0_pay24 W c T = k0_pay27 (k0_pay25 U W c) T := rfl
theorem pay32_eq : k0_pay32 (k0_pay23 U) k0_pay24 (k0_pay31 W) (constant S256x1024 .f32 0x00000000#32) c T = k0_pay26 (k0_pay25 U W c) T := rfl
theorem pay33_eq : k0_pay33 (k0_pay23 U) k0_pay24 (k0_pay31 W) (constant S256x1024 .f32 0x00000000#32) c T = k0_pay27 (k0_pay25 U W c) T := rfl
theorem pay35_eq : k0_pay35 (k0_pay23 U) k0_pay24 W c T = k0_pay26 (k0_pay25 U W c) T := rfl
theorem pay36_eq : k0_pay36 (k0_pay23 U) k0_pay24 W c T = k0_pay27 (k0_pay25 U W c) T := rfl

theorem pay6_eq (a l : Elt F .f32) : k0_pay6 k0_pay2 k0_pay3 a l k0_pay5 = k0_pay4 (F := F) a l := rfl
theorem pay8_eq (a l : Elt F .f32) : k0_pay8 k0_pay2 k0_pay3 a l (k0_pay7 k0_pay2 k0_pay3) (Scalar.ofBits .f32 0x00000000#32) = k0_pay4 (F := F) a l := rfl
theorem pay12_eq (a l : Elt F .f32) : k0_pay12 k0_pay2 k0_pay3 l (k0_pay9 k0_pay2 k0_pay3) (k0_pay10 k0_pay3 a) k0_pay11 = k0_pay4 (F := F) a l := rfl

end Folded

theorem sitofp_nat (n : ℕ) (hn : n < 2 ^ 31) : FloatOps.sitofp (F := Ideal) FTy.f32 (BitVec.ofNat 32 n) = ((n : ℝ) : EReal) := by
  show (((BitVec.ofNat 32 n).toInt : ℝ) : EReal) = _
  have e : (BitVec.ofNat 32 n).toInt = (n : ℤ) := by
    rw [BitVec.toInt_eq_toNat_cond, BitVec.toNat_ofNat, Nat.mod_eq_of_lt (by omega), if_pos (by omega)]
  rw [e, Int.cast_natCast]

/-- One slab of the table: the decay's powers. -/
theorem table_at (a : ℝ) (ha : 0 ≤ a) (r : Fin 256) (x : Fin 264) :
    k0_pay4 (F := Ideal) ((a : ℝ) : EReal) (Ideal.log (a : EReal)) (ix3 0 r x) = powers a r x := by
  pointwise [k0_pay4, k0_pay2, k0_pay3]
  rw [sitofp_nat x (by omega), sitofp_nat r (by omega), lit_256, ← EReal.coe_one, powers]
  simp only [EReal.coe_eq_zero, Nat.cast_eq_zero, ← EReal.coe_sub, ← EReal.coe_add, EReal.coe_le_coe_iff]
  by_cases hx : (x : ℕ) = 0
  · simp only [hx, if_true, decide_true]
    rw [show ((r : ℕ) : ℝ) + 1 = (((r : ℕ) + 1 : ℕ) : ℝ) by push_cast; rfl, exp_mul_log ha, EReal.coe_one, one_mul]
    have e : ∀ v w : BitVec 1, IntOp.ori (BitVec.ofBool true) (IntOp.andi v w) = 1#1 := by decide
    rw [e]; rfl
  · obtain ⟨n, hn⟩ := Nat.exists_eq_succ_of_ne_zero hx
    have h1 : ((x : ℕ) : ℝ) - 1 = (n : ℝ) := by rw [hn]; push_cast; ring
    simp only [hx, if_false, decide_false, h1, Nat.cast_le, show (x : ℕ) - 1 = n by omega]
    have h2 : (((x : ℕ) : ℝ) ≤ 256) ↔ (x : ℕ) ≤ 256 := by exact_mod_cast Iff.rfl
    simp only [h2]
    by_cases hc : n ≤ (r : ℕ) ∧ (x : ℕ) ≤ 256
    · rw [if_pos hc, decide_eq_true hc.1, decide_eq_true hc.2,
        show ((r : ℕ) : ℝ) - (n : ℝ) = (((r : ℕ) - n : ℕ) : ℝ) by rw [Nat.cast_sub hc.1], exp_mul_log ha, ← EReal.coe_mul]
      rfl
    · rw [if_neg hc]
      have e : IntOp.ori (BitVec.ofBool false) (IntOp.andi (BitVec.ofBool (decide (n ≤ (r : ℕ)))) (BitVec.ofBool (decide ((x : ℕ) ≤ 256)))) = 0#1 := by
        rcases not_and_or.mp hc with h | h <;> rw [decide_eq_false h] <;> [cases decide ((x : ℕ) ≤ 256); cases decide (n ≤ (r : ℕ))] <;> rfl
      rw [e]; rfl

/-- The block's first output: the states against the long weights, gated, and the two-layer part. -/
theorem acc_at (r : Fin 256) (t : Fin 4096) (g : FVec Ideal S256x1 .f32) (U : FVec Ideal S256x1024 .f32) (z0 z1 z2 z3 : FVec Ideal S264x1024 .f32)
    (T0 T1 T2 T3 : Vec Ideal S1x256x264 .f32) (W0 W1 W2 W3 : Vec Ideal S1024x1024 .bf16)
    (uW : Vec Ideal S2048x1024 .bf16) (uB : Vec Ideal S1x2048 .f32) (dW : Vec Ideal S1024x2048 .bf16) (dB : Vec Ideal S1x1024 .f32)
    (L01 L012 : FVec Ideal S256x1024 .f32)
    (hL01 : ∀ d, L01 (ix2 r d) = ∑ q, k0_pay26 (F := Ideal) z0 T0 (ix2 r q) * W0 (ix2 d q) + ∑ q, k0_pay26 (F := Ideal) z1 T1 (ix2 r q) * W1 (ix2 d q))
    (hL012 : ∀ d, L012 (ix2 r d) = L01 (ix2 r d) + ∑ q, k0_pay26 (F := Ideal) z2 T2 (ix2 r q) * W2 (ix2 d q))
    (hg : g (ix2 r 0) = gate A b t A.glW A.glB) (hU : ∀ d, U (ix2 r d) = u A b t d)
    (h0 : ∀ q, k0_pay26 (F := Ideal) z0 T0 (ix2 r q) = st A b (t + 1) 0 q) (h1 : ∀ q, k0_pay26 (F := Ideal) z1 T1 (ix2 r q) = st A b (t + 1) 1 q)
    (h2 : ∀ q, k0_pay26 (F := Ideal) z2 T2 (ix2 r q) = st A b (t + 1) 2 q) (h3 : ∀ q, k0_pay26 (F := Ideal) z3 T3 (ix2 r q) = st A b (t + 1) 3 q)
    (hW0 : ∀ d q, W0 (ix2 d q) = A.outW d (col 0 q)) (hW1 : ∀ d q, W1 (ix2 d q) = A.outW d (col 1 q))
    (hW2 : ∀ d q, W2 (ix2 d q) = A.outW d (col 2 q)) (hW3 : ∀ d q, W3 (ix2 d q) = A.outW d (col 3 q))
    (huW : ∀ i d, uW (ix2 i d) = A.upW i d) (huB : ∀ i, uB (ix2 0 i) = A.upB i)
    (hdW : ∀ d i, dW (ix2 d i) = A.downW d i) (hdB : ∀ d, dB (ix2 0 d) = A.downB d) (d : Fin 1024) :
    k0_pay38 (F := Ideal) g (k0_pay23 U) L012 (truncf .bf16 (k0_pay26 (F := Ideal) z3 T3) bitsLt_bf16_f32) W3 uW uB dW dB (ix2 r d)
      = long A b t d + mlp A b t d := by
  pointwise [k0_pay38, k0_pay23]
  simp only [hL012, hL01, hg, hU, h0, h1, h2, h3, hW0, hW1, hW2, hW3, huW, huB, hdW, hdB]
  rw [long, Fin.sum_univ_four]
  rfl

theorem pay30_at (r : Fin 256) (U : FVec Ideal S256x1024 .f32) (z0 : FVec Ideal S264x1024 .f32) (T0 T1 : Vec Ideal S1x256x264 .f32)
    (W : Vec Ideal S1024x1024 .bf16) (c : Vec Ideal S1x1x1024 .f32) (W0 W1 : Vec Ideal S1024x1024 .bf16) (d : Fin 1024) :
    k0_pay30 (F := Ideal) (k0_pay23 U) k0_pay24 z0 T0 W0 W c T1 W1 (ix2 r d)
      = ∑ q, k0_pay26 (F := Ideal) z0 T0 (ix2 r q) * W0 (ix2 d q) + ∑ q, k0_pay26 (F := Ideal) (k0_pay25 U W c) T1 (ix2 r q) * W1 (ix2 d q) := by
  rw [← pay28_eq]
  pointwise [k0_pay30]

theorem pay34_at (r : Fin 256) (U : FVec Ideal S256x1024 .f32) (L : FVec Ideal S256x1024 .f32) (T : Vec Ideal S1x256x264 .f32)
    (W : Vec Ideal S1024x1024 .bf16) (c : Vec Ideal S1x1x1024 .f32) (W2 : Vec Ideal S1024x1024 .bf16) (d : Fin 1024) :
    k0_pay34 (F := Ideal) (k0_pay23 U) k0_pay24 L (k0_pay31 W) (constant S256x1024 .f32 0x00000000#32) c T W2 (ix2 r d)
      = L (ix2 r d) + ∑ q, k0_pay26 (F := Ideal) (k0_pay25 U W c) T (ix2 r q) * W2 (ix2 d q) := by
  rw [← pay32_eq]
  pointwise [k0_pay34]

/-- The states of block `j` from the carried one, the table's slab and the block's gated rows. -/
theorem state_at (k : Fin 4) (a : ℝ) (ha0 : 0 ≤ a) (ha : alpha A k = (a : EReal)) (U : FVec Ideal S256x1024 .f32) (W : Vec Ideal S1024x1024 .bf16)
    (c : Vec Ideal S1x1x1024 .f32) (T : Vec Ideal S1x256x264 .f32) (hU : ∀ r d, U (ix2 r d) = u A b (pos j r) d)
    (hW : ∀ d x, W (ix2 d x) = A.inW (col k d) x) (hc : ∀ d, c (ix3 0 0 d) = st A b (256 * j) k d)
    (hT : ∀ r x, T (ix3 0 r x) = powers a r x) (r : Fin 256) (d : Fin 1024) :
    k0_pay26 (F := Ideal) (k0_pay25 U W c) T (ix2 r d) = st A b (256 * j + r + 1) k d := by
  pointwise [k0_pay26]
  simp only [hT]
  have hz : ∀ n : Fin 264, k0_pay25 (F := Ideal) U W c (ix2 n d) = if n.1 < 1 then st A b (256 * j) k d else if n.1 - 1 < 256 then z A b (256 * j + (n.1 - 1)) k d else 0 := by
    intro n
    pointwise [k0_pay25, k0_pay23, k0_pay24]
    by_cases h1 : (n : ℕ) < 1
    · rw [dif_pos h1, if_pos h1, hc]
    · rw [dif_neg h1, if_neg h1]
      by_cases h2 : (n : ℕ) - 1 < 256
      · rw [dif_pos h2, if_pos h2, z, dif_pos (by omega)]
        simp only [hU, hW]; rfl
      · rw [dif_neg h2, if_neg h2]
  simp only [hz]
  refine powers_row ha0 (fun n => st A b (256 * j + n) k d) (fun n => z A b (256 * j + n) k d) (fun n _ => ?_) r r.2
    (fun n => if n < 1 then st A b (256 * j) k d else if n - 1 < 256 then z A b (256 * j + (n - 1)) k d else 0) ?_ ?_
  · exact st_step A b k ha d (256 * j + n)
  · simp
  · intro n hn; simp [hn]

theorem last_at (v : FVec Ideal S264x1024 .f32) (T : Vec Ideal S1x256x264 .f32) (d : Fin 1024) :
    k0_pay27 (F := Ideal) v T (ix3 0 0 d) = k0_pay26 (F := Ideal) v T (ix2 255 d) := by
  pointwise [k0_pay27]

end Cert.KernelIdeal.Hand

end
-- ==== Proof.PayMatch.lean ====
module

public import proofs.«01_k».proof.Proof.PayMain

/-! What the second launch's body computes of one block of 256 reads against one block of 256 writes, entry by entry. -/

@[expose] public section

set_option maxRecDepth 16384

noncomputable section

namespace Cert.KernelIdeal.Hand

open Cert.KernelIdeal Cert.KernelIdeal.Gen Idealize.ShloMosaic Cert.Math

variable (A : Args) (b : Fin 2) (j : Fin 16)

theorem sgn_coe (v : EReal) : sgn v = (((if 0 < v then 1 else -1 : ℝ) : ℝ) : EReal) := by
  unfold sgn; split <;> simp [lit_neg_one]

theorem sign_mul (p q : Prop) [Decidable p] [Decidable q] :
    (if p then 1 else -1 : ℝ) * (if q then 1 else -1) = if (p ↔ q) then 1 else -1 := by
  by_cases hp : p <;> by_cases hq : q <;> simp [hp, hq]

theorem coe_sum16 (f : Fin 16 → ℝ) : (∑ i, ((f i : ℝ) : EReal)) = ((∑ i, f i : ℝ) : EReal) := by
  simp only [Fin.sum_univ_succ, EReal.coe_add, Finset.univ_eq_empty, Finset.sum_empty, EReal.coe_zero]

/-- Sixteen signs agree exactly when their products add up to sixteen. -/
theorem agree (f g : Fin 16 → EReal) :
    (∑ i, sgn (f i) * sgn (g i) = Ideal.ofBits .f32 1098907648#32) ↔ ∀ i, (0 < f i ↔ 0 < g i) := by
  simp only [sgn_coe, ← EReal.coe_mul, sign_mul, coe_sum16, lit_16, EReal.coe_eq_coe_iff]
  constructor
  · intro h i
    by_contra hi
    have h1 : ∑ i : Fin 16, (if (0 < f i ↔ 0 < g i) then 1 else -1 : ℝ) < ∑ _i : Fin 16, (1 : ℝ) := by
      refine Finset.sum_lt_sum (fun i _ => ?_) ⟨i, Finset.mem_univ i, ?_⟩
      · split <;> norm_num
      · rw [if_neg hi]; norm_num
    rw [h] at h1; norm_num at h1
  · intro h
    simp [h]

theorem sitofp_bool (p : Prop) [Decidable p] :
    FloatOps.sitofp (F := Ideal) FTy.f32 (BitVec.setWidth 32 (BitVec.ofBool (decide p))) = if p then 1 else 0 := by
  by_cases hp : p
  · rw [decide_eq_true hp, if_pos hp]
    exact (sitofp_nat 1 (by omega)).trans (by simp)
  · rw [decide_eq_false hp, if_neg hp]
    exact (sitofp_nat 0 (by omega)).trans (by simp)

theorem hit_iff (t t' : Fin 4096) (k l : Fin 2) (f g : Fin 16 → EReal) (hf : ∀ i, f i = sgn (dot (h A b t) (A.readW (bit k i))))
    (hg : ∀ i, g i = sgn (dot (h A b t') (A.writeW (bit l i)))) :
    (∑ i, f i * g i = Ideal.ofBits .f32 1098907648#32) ↔ Hit A b t k t' l := by
  simp only [hf, hg]
  exact agree _ _

open scoped Classical in
theorem num0_at (r : Fin 256) (t : Fin 4096) (v3 v7 : Vec Ideal S1x256x64 .f32) (v11 v28 : Vec Ideal S1x256x128 .f32) (e : Fin 128)
    (h3 : ∀ q : Fin 32, v3 (ix3 0 r ⟨q, by omega⟩) = sgn (dot (h A b t) (A.readW q)))
    (h7 : ∀ (x : Fin 256) (q : Fin 32), v7 (ix3 0 x ⟨32 + q, by omega⟩) = sgn (dot (h A b (pos j x)) (A.writeW q))) :
    k1_pay10 (F := Ideal) v3 v7 v11 v28 (ix2 r e) = v28 (ix3 0 r e) + ∑ x, hits A b t 0 (pos j x) * v11 (ix3 0 x e) := by
  pointwise [k1_pay10, k1_pay7, k1_pay8, k1_pay9]
  refine congrArg _ (Finset.sum_congr rfl fun x _ => congrArg (· * _) ?_)
  rw [sitofp_bool, sitofp_bool, hits]
  classical
  refine congrArg₂ (· + ·) (if_congr (hit_iff A b t (pos j x) 0 0 _ _ ?_ ?_) rfl rfl) (if_congr (hit_iff A b t (pos j x) 0 1 _ _ ?_ ?_) rfl rfl)
  · intro i; have := h3 (bit 0 i); simpa [bit] using this
  · intro i; have := h7 x (bit 0 i); simpa [bit] using this
  · intro i; have := h3 (bit 0 i); simpa [bit] using this
  · intro i; have := h7 x (bit 1 i); simpa [bit] using this

open scoped Classical in
theorem num1_at (r : Fin 256) (t : Fin 4096) (v3 v7 : Vec Ideal S1x256x64 .f32) (v11 v50 : Vec Ideal S1x256x128 .f32) (e : Fin 128)
    (h3 : ∀ q : Fin 32, v3 (ix3 0 r ⟨q, by omega⟩) = sgn (dot (h A b t) (A.readW q)))
    (h7 : ∀ (x : Fin 256) (q : Fin 32), v7 (ix3 0 x ⟨32 + q, by omega⟩) = sgn (dot (h A b (pos j x)) (A.writeW q))) :
    k1_pay2 (F := Ideal) (k1_pay7 v3) (k1_pay8 v7) (k1_pay9 v11) v50 (ix3 0 r e) = v50 (ix3 0 r e) + ∑ x, hits A b t 1 (pos j x) * v11 (ix3 0 x e) := by
  pointwise [k1_pay2, k1_pay7, k1_pay8, k1_pay9]
  refine congrArg _ (Finset.sum_congr rfl fun x _ => congrArg (· * _) ?_)
  rw [sitofp_bool, sitofp_bool, hits]
  classical
  refine congrArg₂ (· + ·) (if_congr (hit_iff A b t (pos j x) 1 0 _ _ ?_ ?_) rfl rfl) (if_congr (hit_iff A b t (pos j x) 1 1 _ _ ?_ ?_) rfl rfl)
  · intro i; have := h3 (bit 1 i); simpa [bit] using this
  · intro i; have := h7 x (bit 0 i); simpa [bit] using this
  · intro i; have := h3 (bit 1 i); simpa [bit] using this
  · intro i; have := h7 x (bit 1 i); simpa [bit] using this

theorem pay1_at (v : FVec Ideal S256x128 .f32) (r : Fin 256) (e : Fin 128) : k1_pay1 (F := Ideal) v (ix3 0 r e) = v (ix2 r e) := by
  pointwise [k1_pay1]

theorem pay6_at (k : Fin 2) (r : Fin 256) (e : Fin 128) : k1_pay6 (F := Ideal) (ix3 k r e) = 0 := by
  pointwise [k1_pay6]

/-- The last step's read: both heads' quotients, halved, against the memory weights, gated. -/
theorem out_at (r : Fin 256) (t : Fin 4096) (v61 : Vec Ideal S1x256x64 .f32) (v63 : Vec Ideal S1x256x1 .f32) (v69 : Vec Ideal S1x256x64 .f32)
    (v71 : Vec Ideal S1x256x1 .f32) (v81 : Vec Ideal S1024x64 .bf16) (v84 : Vec Ideal S1x256x128 .f32) (v87 v89 : Vec Ideal S1x256x1024 .f32)
    (h61 : ∀ e, v61 (ix3 0 r e) = held A b t 0 fun t' => wv A b t' e) (h63 : v63 (ix3 0 r 0) = held A b t 0 (wg A b))
    (h69 : ∀ e, v69 (ix3 0 r e) = held A b t 1 fun t' => wv A b t' e) (h71 : v71 (ix3 0 r 0) = held A b t 1 (wg A b))
    (h81 : ∀ d e, v81 (ix2 d e) = A.memW d e) (h84 : v84 (ix3 0 r 66) = gate A b t A.gmW A.gmB)
    (h87 : ∀ d, v87 (ix3 0 r d) = A.x b t d) (h89 : ∀ d, v89 (ix3 0 r d) = long A b t d + mlp A b t d) (d : Fin 1024) :
    k1_pay3 (F := Ideal) (k1_pay4 v87 v89) (k1_pay5 v61 v63 v69 v71 v81 v84) (ix3 0 r d) = out A b t d := by
  pointwise [k1_pay3, k1_pay4, k1_pay5]
  simp only [h61, h63, h69, h71, h81, h84, h87, h89]
  rfl

end Cert.KernelIdeal.Hand

end
-- ==== Proof.Blk.lean ====
module

public import proofs.«01_k».proof.Proof.MainRun
public import proofs.«01_k».proof.Proof.PayMain
public import Idealize.ShloMosaic.Lib.Pipeline.ReadBack

/-! What each block of the first launch holds, and the launch's state at each grid point, as the problem's math. -/

@[expose] public section

set_option maxRecDepth 16384
set_option maxHeartbeats 4000000

noncomputable section

namespace Cert.KernelIdeal.Hand

open Cert.KernelIdeal Cert.KernelIdeal.Gen Idealize.ShloMosaic Idealize.ShloMosaic.TcCoe Idealize.ShloMosaic.Tactic Cert.Math

/-- The batch row and the block of 256 positions a grid point of the first launch works on. -/
def bOf (t : Fin cfg0.N) : Fin 2 := ⟨t.val / 16, by have := lt_of_lt_of_eq t.isLt N_0; omega⟩
def jOf (t : Fin cfg0.N) : Fin 16 := ⟨t.val % 16, Nat.mod_lt _ (by decide)⟩

/-- What the first launch's operands hold. -/
structure In0 (A : Args) (V : (c : Dev nD) → (b : Ref Cert.KernelIdeal.sig .tc) → Buf (Elt Ideal) ((c : Thread nD τ).loc b)) (c : Dev nD) : Prop where
  al : ∀ k, V c main_v41 (ix1 k) = alpha A k
  ll : ∀ k, V c main_v42 (ix1 k) = Ideal.log (alpha A k)
  x : ∀ b t d, V c main_arg0 (ix3 b t d) = A.x b t d
  cw : ∀ (k : Fin 4) d, V c main_v3 (ix2 ⟨k, by omega⟩ d) = A.convW d k
  gateW : ∀ d k, V c main_v45 (ix2 d k) = A.gateW d k
  gateB : ∀ d, V c main_v46 (ix2 0 d) = A.gateB d
  pr : ∀ (q : Fin 32) d, V c main_v19 (ix2 ⟨q, by omega⟩ d) = A.readW q d
  pw : ∀ (q : Fin 32) d, V c main_v19 (ix2 ⟨32 + q, by omega⟩ d) = A.writeW q d
  pv : ∀ (q : Fin 64) d, V c main_v19 (ix2 ⟨64 + q, by omega⟩ d) = A.valW q d
  pwg : ∀ d, V c main_v19 (ix2 128 d) = A.wgW d
  pgl : ∀ d, V c main_v19 (ix2 129 d) = A.glW d
  pgm : ∀ d, V c main_v19 (ix2 130 d) = A.gmW d
  b0 : ∀ q : Fin 128, V c main_v35 (ix2 0 ⟨q, by omega⟩) = (0 : EReal)
  bwg : V c main_v35 (ix2 0 128) = A.wgB
  bgl : V c main_v35 (ix2 0 129) = A.glB
  bgm : V c main_v35 (ix2 0 130) = A.gmB
  inW : ∀ i d, V c main_v43 (ix2 i d) = A.inW i d
  outW : ∀ d i, V c main_v44 (ix2 d i) = A.outW d i
  upW : ∀ i d, V c main_v47 (ix2 i d) = A.upW i d
  upB : ∀ i, V c main_v48 (ix2 0 i) = A.upB i
  downW : ∀ d i, V c main_v49 (ix2 d i) = A.downW d i
  downB : ∀ d, V c main_v50 (ix2 0 d) = A.downB d

variable (A : Args) (V : (c : Dev nD) → (b : Ref Cert.KernelIdeal.sig .tc) → Buf (Elt Ideal) ((c : Thread nD τ).loc b)) (c : Dev nD) (t : Fin cfg0.N)

/-- The windows' block indices: the batch row and block of the point, the block before it, and zero for the whole ones. -/
theorem idx0_x : ∀ t : Fin cfg0.N, (win0_2.index t (0 : Fin 3) = t.val / 16 ∧ win0_2.index t (1 : Fin 3) = t.val % 16 ∧ win0_2.index t (2 : Fin 3) = 0)
    ∧ (win0_3.index t (0 : Fin 3) = t.val / 16 ∧ win0_3.index t (1 : Fin 3) = t.val % 16 - 1 ∧ win0_3.index t (2 : Fin 3) = 0) :=
  (by decide +kernel : ∀ t : Fin grid0.N, _)

theorem coord0 : ∀ t : Fin cfg0.N, ((grid0.coords t) 1 : ℕ) = t.val % 16 :=
  (by decide +kernel : ∀ t : Fin grid0.N, _)

theorem blk2 (r : Fin 256) (d : Fin 1024) : iblk0 V c 2 t (ix3 0 r d) = V c main_arg0 (ix3 (bOf t) (pos (jOf t) r) d) := by
  obtain ⟨⟨e0, e1, e2⟩, -⟩ := idx0_x t
  show V c main_arg0 (((cfg0.win 2).blk t).view.emb (ix3 0 r d)) = _
  congr 1; funext a; apply Fin.ext
  match a with
  | ⟨0, _⟩ => show win0_2.index t (0 : Fin 3) * 1 + 1 * 0 = t.val / 16; omega
  | ⟨1, _⟩ => show win0_2.index t (1 : Fin 3) * 256 + 1 * r.val = 256 * (t.val % 16) + r.val; omega
  | ⟨2, _⟩ => show win0_2.index t (2 : Fin 3) * 1024 + 1 * d.val = d.val; omega

theorem blk3 (hj : 0 < (jOf t : ℕ)) (r : Fin 256) (d : Fin 1024) :
    iblk0 V c 3 t (ix3 0 r d) = V c main_arg0 (ix3 (bOf t) (pos ⟨jOf t - 1, by omega⟩ r) d) := by
  obtain ⟨-, e0, e1, e2⟩ := idx0_x t
  have hj : 0 < t.val % 16 := hj
  show V c main_arg0 (((cfg0.win 3).blk t).view.emb (ix3 0 r d)) = _
  congr 1; funext a; apply Fin.ext
  match a with
  | ⟨0, _⟩ => show win0_3.index t (0 : Fin 3) * 1 + 1 * 0 = t.val / 16; omega
  | ⟨1, _⟩ => show win0_3.index t (1 : Fin 3) * 256 + 1 * r.val = 256 * (t.val % 16 - 1) + r.val; omega
  | ⟨2, _⟩ => show win0_3.index t (2 : Fin 3) * 1024 + 1 * d.val = d.val; omega

theorem idx0_whole : ∀ t : Fin cfg0.N, (∀ a, win0_0.index t a = 0) ∧ (∀ a, win0_1.index t a = 0) ∧ (∀ a, win0_4.index t a = 0) ∧ (∀ a, win0_5.index t a = 0) ∧ (∀ a, win0_6.index t a = 0) ∧ (∀ a, win0_7.index t a = 0) ∧ (∀ a, win0_8.index t a = 0) ∧ (∀ a, win0_9.index t a = 0) ∧ (∀ a, win0_10.index t a = 0) ∧ (∀ a, win0_11.index t a = 0) ∧ (∀ a, win0_12.index t a = 0) ∧ (∀ a, win0_13.index t a = 0) ∧ (∀ a, win0_14.index t a = 0) :=
  (by decide +kernel : ∀ t : Fin grid0.N, _)

/-- A whole window's block is its array. -/
theorem blk_whole : iblk0 V c 0 t = V c main_v41 ∧ iblk0 V c 1 t = V c main_v42 ∧ iblk0 V c 4 t = V c main_v3 ∧ iblk0 V c 5 t = V c main_v45 ∧ iblk0 V c 6 t = V c main_v46 ∧ iblk0 V c 7 t = V c main_v19 ∧ iblk0 V c 8 t = V c main_v35 ∧ iblk0 V c 9 t = V c main_v43 ∧ iblk0 V c 10 t = V c main_v44 ∧ iblk0 V c 11 t = V c main_v47 ∧ iblk0 V c 12 t = V c main_v48 ∧ iblk0 V c 13 t = V c main_v49 ∧ iblk0 V c 14 t = V c main_v50 := by
  obtain ⟨e0, e1, e4, e5, e6, e7, e8, e9, e10, e11, e12, e13, e14⟩ := idx0_whole t
  refine ⟨?_, ?_, ?_, ?_, ?_, ?_, ?_, ?_, ?_, ?_, ?_, ?_, ?_⟩ <;> (funext y; blk_simp [iblk0])
  · blk_ext [e0]
  · blk_ext [e1]
  · blk_ext [e4]
  · blk_ext [e5]
  · blk_ext [e6]
  · blk_ext [e7]
  · blk_ext [e8]
  · blk_ext [e9]
  · blk_ext [e10]
  · blk_ext [e11]
  · blk_ext [e12]
  · blk_ext [e13]
  · blk_ext [e14]

end Cert.KernelIdeal.Hand
-- ==== Proof.Point.lean ====
module

public import proofs.«01_k».proof.Proof.Blk

/-! The first launch's state at each grid point, as the problem's math. -/

@[expose] public section

set_option maxRecDepth 16384
set_option maxHeartbeats 4000000

noncomputable section

namespace Cert.KernelIdeal.Hand

open Cert.KernelIdeal Cert.KernelIdeal.Gen Idealize.ShloMosaic Idealize.ShloMosaic.TcCoe Idealize.ShloMosaic.Tactic Cert.Math

/-! ## Loads of parts and stores of slabs -/

theorem ld2 {e : EltTy} {m n p q o1 o2 : ℕ} (X : Vec Ideal ⟨2, ![m, n]⟩ e) (inb) (i : Fin p) (j : Fin q) (h1 : o1 + i < m) (h2 : o2 + j < n) :
    View.ld X (Rect.unit (s := ⟨2, ![m, n]⟩) ![o1, o2] ![p, q] inb) (ix2 i j) = X (ix2 ⟨o1 + i, h1⟩ ⟨o2 + j, h2⟩) :=
  View.ld_unit_apply_of X _ _ inb _ _ fun a => by match a with | ⟨0, _⟩ => rfl | ⟨1, _⟩ => rfl

theorem ld3 {e : EltTy} {m n k p q : ℕ} (X : Vec Ideal ⟨3, ![m, n, k]⟩ e) {o : ℕ} (inb) (i : Fin p) (j : Fin q) (h : o < m) (h1 : p ≤ n) (h2 : q ≤ k) :
    View.ld X (Rect.unit (s := ⟨3, ![m, n, k]⟩) ![o, 0, 0] ![1, p, q] inb) (ix3 0 i j) = X (ix3 ⟨o, h⟩ ⟨i, by omega⟩ ⟨j, by omega⟩) :=
  View.ld_unit_apply_of X _ _ inb _ _ fun a => by
    match a with | ⟨0, _⟩ => rfl | ⟨1, _⟩ => exact (Nat.zero_add _).symm | ⟨2, _⟩ => exact (Nat.zero_add _).symm

section Slabs

variable {e : EltTy} {m n k p q : ℕ}

theorem slab_hit {o : ℕ} (inb) (w : Vec Ideal ⟨3, ![1, p, q]⟩ e) (L : List (View.Piece (Elt Ideal) ⟨3, ![m, n, k]⟩ e)) (i : Fin p) (j : Fin q)
    (h : o < m) (h1 : p ≤ n) (h2 : q ≤ k) :
    View.canon ((⟨Rect.unit (s := ⟨3, ![m, n, k]⟩) ![o, 0, 0] ![1, p, q] inb, w⟩ : View.Piece (Elt Ideal) ⟨3, ![m, n, k]⟩ e) :: L)
      (ix3 ⟨o, h⟩ ⟨i, by omega⟩ ⟨j, by omega⟩) = w (ix3 0 i j) := by
  have hy : (Rect.unit (s := ⟨3, ![m, n, k]⟩) ![o, 0, 0] ![1, p, q] inb).emb (ix3 (0 : Fin 1) i j) = ix3 ⟨o, h⟩ ⟨i, by omega⟩ ⟨j, by omega⟩ := by
    funext a; apply Fin.ext
    match a with
    | ⟨0, _⟩ => show o + 1 * 0 = o; omega
    | ⟨1, _⟩ => show 0 + 1 * (i : ℕ) = i; omega
    | ⟨2, _⟩ => show 0 + 1 * (j : ℕ) = j; omega
  rw [← hy]; exact View.canon_cons_emb _ _ _ _

theorem slab_not_mem {o : ℕ} (inb) (i : Fin m) (y1 : Fin n) (y2 : Fin k) (h : (i : ℕ) ≠ o) :
    ix3 i y1 y2 ∉ (Rect.unit (s := ⟨3, ![m, n, k]⟩) ![o, 0, 0] ![1, p, q] inb).set := by
  rw [Rect.mem_set_unit]
  intro hall
  have h0 : o ≤ (i : ℕ) ∧ (i : ℕ) < o + 1 := hall 0
  omega

theorem slab_miss {o : ℕ} (inb) (w : Vec Ideal ⟨3, ![1, p, q]⟩ e) (L : List (View.Piece (Elt Ideal) ⟨3, ![m, n, k]⟩ e)) (i : Fin m) (y1 : Fin n) (y2 : Fin k)
    (h : (i : ℕ) ≠ o) :
    View.canon ((⟨Rect.unit (s := ⟨3, ![m, n, k]⟩) ![o, 0, 0] ![1, p, q] inb, w⟩ : View.Piece (Elt Ideal) ⟨3, ![m, n, k]⟩ e) :: L)
      (ix3 i y1 y2) = View.canon L (ix3 i y1 y2) :=
  View.canon_cons_of_not_mem _ _ (slab_not_mem inb i y1 y2 h)

/-- Four slabs written over anything: slab `s` reads its payload. -/
theorem slabs (inb3 inb2 inb1 inb0) (w0 w1 w2 w3 : Vec Ideal ⟨3, ![1, p, q]⟩ e) (L : List (View.Piece (Elt Ideal) ⟨3, ![4, n, k]⟩ e)) (s : Fin 4)
    (i : Fin p) (j : Fin q) (h1 : p ≤ n) (h2 : q ≤ k) :
    View.canon ((⟨Rect.unit (s := ⟨3, ![4, n, k]⟩) ![3, 0, 0] ![1, p, q] inb3, w3⟩ : View.Piece (Elt Ideal) ⟨3, ![4, n, k]⟩ e)
      :: ⟨Rect.unit (s := ⟨3, ![4, n, k]⟩) ![2, 0, 0] ![1, p, q] inb2, w2⟩ :: ⟨Rect.unit (s := ⟨3, ![4, n, k]⟩) ![1, 0, 0] ![1, p, q] inb1, w1⟩
      :: ⟨Rect.unit (s := ⟨3, ![4, n, k]⟩) ![0, 0, 0] ![1, p, q] inb0, w0⟩ :: L) (ix3 s ⟨i, by omega⟩ ⟨j, by omega⟩)
      = (![w0, w1, w2, w3] s) (ix3 0 i j) := by
  match s with
  | ⟨3, h⟩ => exact slab_hit inb3 w3 _ i j h h1 h2
  | ⟨2, h⟩ => rw [slab_miss _ _ _ _ _ _ (by simp)]; exact slab_hit inb2 w2 _ i j h h1 h2
  | ⟨1, h⟩ => rw [slab_miss _ _ _ _ _ _ (by simp), slab_miss _ _ _ _ _ _ (by simp)]; exact slab_hit inb1 w1 _ i j h h1 h2
  | ⟨0, h⟩ => rw [slab_miss _ _ _ _ _ _ (by simp), slab_miss _ _ _ _ _ _ (by simp), slab_miss _ _ _ _ _ _ (by simp)]; exact slab_hit inb0 w0 _ i j h h1 h2

end Slabs

variable (A : Args) (V : (c : Dev nD) → (b : Ref Cert.KernelIdeal.sig .tc) → Buf (Elt Ideal) ((c : Thread nD τ).loc b)) (c : Dev nD) (t : Fin cfg0.N)

/-! ## One point -/

/-- The block's gated rows. -/
def Ub : FVec Ideal S256x1024 .f32 :=
  k0_pay16 (F := Ideal) (k0_pay14 (iblk0 V c 2 t)) (k0_pay15 (grid0.coords t) (iblk0 V c 2 t) (iblk0 V c 3 t))
    (View.ld (iblk0 V c 4 t) (Rect.unit (s := S8x1024) ![3, 0] ![1, 1024] inb_S8x1024_S1x1024_3_0))
    (View.ld (iblk0 V c 4 t) (Rect.unit (s := S8x1024) ![0, 0] ![1, 1024] inb_S8x1024_S1x1024_0_0))
    (View.ld (iblk0 V c 4 t) (Rect.unit (s := S8x1024) ![1, 0] ![1, 1024] inb_S8x1024_S1x1024_1_0))
    (View.ld (iblk0 V c 4 t) (Rect.unit (s := S8x1024) ![2, 0] ![1, 1024] inb_S8x1024_S1x1024_2_0)) (iblk0 V c 5 t) (iblk0 V c 6 t)

variable {A V c}

theorem hb_at (hI : In0 A V c) (r : Fin 256) (d : Fin 1024) :
    k0_pay14 (F := Ideal) (iblk0 V c 2 t) (ix2 r d) = h A (bOf t) (pos (jOf t) r) d :=
  h_at A _ _ r _ (fun d => (blk2 V c t r d).trans (hI.x _ _ _)) d

theorem Ub_at (hI : In0 A V c) (r : Fin 256) (d : Fin 1024) : Ub V c t (ix2 r d) = u A (bOf t) (pos (jOf t) r) d := by
  obtain ⟨-, -, e4, e5, e6, -⟩ := blk_whole V c t
  refine u_at A (bOf t) (jOf t) r _ _ _ _ _ _ _ _ (hb_at t hI r) (fun n d => tap_at A _ _ _ (coord0 t) _ _
    (fun r d => (blk2 V c t r d).trans (hI.x _ _ _)) (fun hj r d => (blk3 V c t hj r d).trans (hI.x _ _ _)) n d) ?_ ?_ ?_ ?_ ?_ ?_ d
  · intro d; rw [e4]; exact (ld2 (V c main_v3) _ 0 d (by decide) (by omega)).trans (by simpa using hI.cw 3 d)
  · intro d; rw [e4]; exact (ld2 (V c main_v3) _ 0 d (by decide) (by omega)).trans (by simpa using hI.cw 0 d)
  · intro d; rw [e4]; exact (ld2 (V c main_v3) _ 0 d (by decide) (by omega)).trans (by simpa using hI.cw 1 d)
  · intro d; rw [e4]; exact (ld2 (V c main_v3) _ 0 d (by decide) (by omega)).trans (by simpa using hI.cw 2 d)
  · intro d x; rw [e5]; exact hI.gateW d x
  · intro d; rw [e6]; exact hI.gateB d

/-- One projected column of the block. -/
theorem pmb_at (hI : In0 A V c) (r : Fin 256) (q : Fin 256) (w : Fin 1024 → EReal) (x : EReal) (hw : ∀ d, V c main_v19 (ix2 q d) = w d)
    (hx : V c main_v35 (ix2 0 q) = x) :
    k0_pay17 (F := Ideal) (k0_pay14 (iblk0 V c 2 t)) (iblk0 V c 7 t) (iblk0 V c 8 t) (ix2 r q) = dot (h A (bOf t) (pos (jOf t) r)) w + x := by
  obtain ⟨-, -, -, -, -, e7, e8, -⟩ := blk_whole V c t
  exact pm_at A _ r _ _ _ _ (hb_at t hI r) q w x (fun d => by rw [e7]; exact hw d) (by rw [e8]; exact hx)

variable (c0 c1 c2 c3 : Vec Ideal S1x1x1024 .f32) (T0 T1 T2 T3 : Vec Ideal S1x256x264 .f32)

/-- One timescale's states, from the carried one and the slab of powers. -/
def zb (V : (c : Dev nD) → (b : Ref Cert.KernelIdeal.sig .tc) → Buf (Elt Ideal) ((c : Thread nD τ).loc b)) (c : Dev nD) (t : Fin cfg0.N) (x : Vec Ideal S1x1x1024 .f32) {o : ℕ}
    (inb : ∀ a, (![o, 0] : Fin 2 → ℕ) a + (![1024, 1024] : Fin 2 → ℕ) a ≤ S4096x1024.size a) : FVec Ideal S264x1024 .f32 :=
  k0_pay25 (F := Ideal) (Ub V c t) (View.ld (iblk0 V c 9 t) (Rect.unit (s := S4096x1024) ![o, 0] ![1024, 1024] inb)) x

theorem stb_at (hI : In0 A V c) (k : Fin 4) (x : Vec Ideal S1x1x1024 .f32) (T : Vec Ideal S1x256x264 .f32)
    (hx : ∀ d, x (ix3 0 0 d) = st A (bOf t) (256 * jOf t) k d) (hT : ∀ r y, T (ix3 0 r y) = powers (alpha A k).toReal r y) {o : ℕ} (ho : o = k * 1024)
    (inb : ∀ a, (![o, 0] : Fin 2 → ℕ) a + (![1024, 1024] : Fin 2 → ℕ) a ≤ S4096x1024.size a) (r : Fin 256) (d : Fin 1024) :
    k0_pay26 (F := Ideal) (zb V c t x inb) T (ix2 r d) = st A (bOf t) (256 * jOf t + r + 1) k d := by
  obtain ⟨a, ha0, -, ha⟩ := logistic_real (A.decay k)
  have ha : alpha A k = (a : EReal) := ha
  obtain ⟨-, -, -, -, -, -, -, e9, -⟩ := blk_whole V c t
  refine state_at A (bOf t) (jOf t) k a ha0 ha _ _ _ _ (Ub_at t hI) (fun d x => ?_) hx (fun r y => ?_) r d
  · subst ho
    rw [e9]
    exact (ld2 (V c main_v43) inb d x (by omega) (by omega)).trans ((by simpa [col] using hI.inW (col k d) x))
  · rw [hT, ha, EReal.toReal_coe]

/-- What the block's first output takes. -/
def accB (V : (c : Dev nD) → (b : Ref Cert.KernelIdeal.sig .tc) → Buf (Elt Ideal) ((c : Thread nD τ).loc b)) (c : Dev nD) (t : Fin cfg0.N) : FVec Ideal S256x1024 .f32 :=
  k0_pay38 (F := Ideal) (k0_pay20 (k0_pay17 (k0_pay14 (iblk0 V c 2 t)) (iblk0 V c 7 t) (iblk0 V c 8 t))) (k0_pay23 (Ub V c t))
    (k0_pay34 (k0_pay23 (Ub V c t)) k0_pay24
      (k0_pay30 (k0_pay23 (Ub V c t)) k0_pay24 (zb V c t c0 inb_S4096x1024_S1024x1024_0_0) T0
        (View.ld (iblk0 V c 10 t) (Rect.unit (s := S1024x4096) ![0, 0] ![1024, 1024] inb_S1024x4096_S1024x1024_0_0))
        (View.ld (iblk0 V c 9 t) (Rect.unit (s := S4096x1024) ![1024, 0] ![1024, 1024] inb_S4096x1024_S1024x1024_1024_0)) c1 T1
        (View.ld (iblk0 V c 10 t) (Rect.unit (s := S1024x4096) ![0, 1024] ![1024, 1024] inb_S1024x4096_S1024x1024_0_1024)))
      (k0_pay31 (View.ld (iblk0 V c 9 t) (Rect.unit (s := S4096x1024) ![2048, 0] ![1024, 1024] inb_S4096x1024_S1024x1024_2048_0)))
      (constant S256x1024 .f32 0x00000000#32) c2 T2
      (View.ld (iblk0 V c 10 t) (Rect.unit (s := S1024x4096) ![0, 2048] ![1024, 1024] inb_S1024x4096_S1024x1024_0_2048)))
    (k0_pay37 (k0_pay23 (Ub V c t)) k0_pay24
      (View.ld (iblk0 V c 9 t) (Rect.unit (s := S4096x1024) ![3072, 0] ![1024, 1024] inb_S4096x1024_S1024x1024_3072_0)) c3 T3)
    (View.ld (iblk0 V c 10 t) (Rect.unit (s := S1024x4096) ![0, 3072] ![1024, 1024] inb_S1024x4096_S1024x1024_0_3072))
    (iblk0 V c 11 t) (iblk0 V c 12 t) (iblk0 V c 13 t) (iblk0 V c 14 t)

/-- The carried states and the slabs of powers a point starts from. -/
def Start (A : Args) (t : Fin cfg0.N) (k : Fin 4) (x : Vec Ideal S1x1x1024 .f32) (T : Vec Ideal S1x256x264 .f32) : Prop :=
  (∀ d, x (ix3 0 0 d) = st A (bOf t) (256 * jOf t) k d) ∧ ∀ r y, T (ix3 0 r y) = powers (alpha A k).toReal r y

variable {c0 c1 c2 c3 T0 T1 T2 T3}

theorem accB_at (hI : In0 A V c) (s0 : Start A t 0 c0 T0) (s1 : Start A t 1 c1 T1) (s2 : Start A t 2 c2 T2) (s3 : Start A t 3 c3 T3)
    (r : Fin 256) (d : Fin 1024) :
    k0_pay1 (accB c0 c1 c2 c3 T0 T1 T2 T3 V c t) (ix3 0 r d) = long A (bOf t) (pos (jOf t) r) d + mlp A (bOf t) (pos (jOf t) r) d := by
  obtain ⟨-, -, -, -, -, -, -, e9, e10, e11, e12, e13, e14⟩ := blk_whole V c t
  have hO : ∀ (k : Fin 4) {o : ℕ} (ho : o = k * 1024) (inb) (d q : Fin 1024),
      View.ld (iblk0 V c 10 t) (Rect.unit (s := S1024x4096) ![0, o] ![1024, 1024] inb) (ix2 d q) = A.outW d (col k q) := by
    intro k o ho inb d q
    subst ho
    rw [e10]
    exact (ld2 (V c main_v44) inb d q (by omega) (by omega)).trans (by simpa [col] using hI.outW d (col k q))
  have hp : ((pos (jOf t) r : ℕ)) + 1 = 256 * jOf t + r + 1 := rfl
  have h1 : ∀ X : FVec Ideal S256x1024 .f32, k0_pay1 X (ix3 0 r d) = X (ix2 r d) := fun X => by unfold k0_pay1; pointwise
  rw [h1]
  refine acc_at A (bOf t) r (pos (jOf t) r) _ (Ub V c t) (zb V c t c0 inb_S4096x1024_S1024x1024_0_0) (zb V c t c1 inb_S4096x1024_S1024x1024_1024_0)
    (zb V c t c2 inb_S4096x1024_S1024x1024_2048_0) (zb V c t c3 inb_S4096x1024_S1024x1024_3072_0) T0 T1 T2 T3
    (View.ld (iblk0 V c 10 t) (Rect.unit (s := S1024x4096) ![0, 0] ![1024, 1024] inb_S1024x4096_S1024x1024_0_0))
    (View.ld (iblk0 V c 10 t) (Rect.unit (s := S1024x4096) ![0, 1024] ![1024, 1024] inb_S1024x4096_S1024x1024_0_1024))
    (View.ld (iblk0 V c 10 t) (Rect.unit (s := S1024x4096) ![0, 2048] ![1024, 1024] inb_S1024x4096_S1024x1024_0_2048))
    (View.ld (iblk0 V c 10 t) (Rect.unit (s := S1024x4096) ![0, 3072] ![1024, 1024] inb_S1024x4096_S1024x1024_0_3072)) _ _ _ _
    (k0_pay30 (k0_pay23 (Ub V c t)) k0_pay24 (zb V c t c0 inb_S4096x1024_S1024x1024_0_0) T0
        (View.ld (iblk0 V c 10 t) (Rect.unit (s := S1024x4096) ![0, 0] ![1024, 1024] inb_S1024x4096_S1024x1024_0_0))
        (View.ld (iblk0 V c 9 t) (Rect.unit (s := S4096x1024) ![1024, 0] ![1024, 1024] inb_S4096x1024_S1024x1024_1024_0)) c1 T1
        (View.ld (iblk0 V c 10 t) (Rect.unit (s := S1024x4096) ![0, 1024] ![1024, 1024] inb_S1024x4096_S1024x1024_0_1024))) _
    (fun d => pay30_at r (Ub V c t) _ _ _ _ _ _ _ d) (fun d => pay34_at r (Ub V c t) _ _ _ _ _ d) ?_ (Ub_at t hI r) ?_ ?_ ?_ ?_
    (hO 0 rfl _) (hO 1 rfl _) (hO 2 rfl _) (hO 3 rfl _) ?_ ?_ ?_ ?_ d
  · rw [gl_at, pmb_at t hI r 129 _ _ hI.pgl hI.bgl]; rfl
  · intro q; rw [hp]; exact stb_at t hI 0 _ _ s0.1 s0.2 rfl _ r q
  · intro q; rw [hp]; exact stb_at t hI 1 _ _ s1.1 s1.2 rfl _ r q
  · intro q; rw [hp]; exact stb_at t hI 2 _ _ s2.1 s2.2 rfl _ r q
  · intro q; rw [hp]; exact stb_at t hI 3 _ _ s3.1 s3.2 rfl _ r q
  · intro i d; rw [e11]; exact hI.upW i d
  · intro i; rw [e12]; exact hI.upB i
  · intro d i; rw [e13]; exact hI.downW d i
  · intro d; rw [e14]; exact hI.downB d

/-- The state a point leaves for the next. -/
theorem carry_at (hI : In0 A V c) (k : Fin 4) (x : Vec Ideal S1x1x1024 .f32) (T : Vec Ideal S1x256x264 .f32) (s : Start A t k x T) {o : ℕ} (ho : o = k * 1024)
    (inb : ∀ a, (![o, 0] : Fin 2 → ℕ) a + (![1024, 1024] : Fin 2 → ℕ) a ≤ S4096x1024.size a) (d : Fin 1024) :
    k0_pay27 (F := Ideal) (zb V c t x inb) T (ix3 0 0 d) = st A (bOf t) (256 * jOf t + 256) k d := by
  rw [last_at]; exact stb_at t hI k x T s.1 s.2 ho inb 255 d

theorem wv_pt (hI : In0 A V c) (r : Fin 256) (e : Fin 64) :
    k0_pay21 (F := Ideal) (k0_pay17 (k0_pay14 (iblk0 V c 2 t)) (iblk0 V c 7 t) (iblk0 V c 8 t)) (ix3 0 r ⟨e, by omega⟩) = wv A (bOf t) (pos (jOf t) r) e := by
  rw [wv_at, pmb_at t hI r ⟨64 + e, by omega⟩ _ _ (hI.pv e) (hI.b0 ⟨64 + e, by omega⟩), pmb_at t hI r 128 _ _ hI.pwg hI.bwg, add_zero]; rfl

theorem wg_pt (hI : In0 A V c) (r : Fin 256) :
    k0_pay21 (F := Ideal) (k0_pay17 (k0_pay14 (iblk0 V c 2 t)) (iblk0 V c 7 t) (iblk0 V c 8 t)) (ix3 0 r 64) = wg A (bOf t) (pos (jOf t) r) := by
  rw [wg_at, pmb_at t hI r 128 _ _ hI.pwg hI.bwg]; rfl

theorem gm_pt (hI : In0 A V c) (r : Fin 256) :
    k0_pay21 (F := Ideal) (k0_pay17 (k0_pay14 (iblk0 V c 2 t)) (iblk0 V c 7 t) (iblk0 V c 8 t)) (ix3 0 r 66) = gate A (bOf t) (pos (jOf t) r) A.gmW A.gmB := by
  rw [gm_at, pmb_at t hI r 130 _ _ hI.pgm hI.bgm]; rfl

theorem rb_pt (hI : In0 A V c) (r : Fin 256) (q : Fin 32) :
    k0_pay22 (F := Ideal) (k0_pay18 (k0_pay14 (iblk0 V c 2 t)) (iblk0 V c 7 t) (iblk0 V c 8 t)) (k0_pay19 (k0_pay14 (iblk0 V c 2 t)) (iblk0 V c 7 t) (iblk0 V c 8 t))
      (ix3 0 r ⟨q, by omega⟩) = sgn (dot (h A (bOf t) (pos (jOf t) r)) (A.readW q)) := by
  rw [rbit_at, rlog_at, pmb_at t hI r ⟨q, by omega⟩ _ _ (hI.pr q) (hI.b0 ⟨q, by omega⟩), add_zero]

theorem wb_pt (hI : In0 A V c) (r : Fin 256) (q : Fin 32) :
    k0_pay22 (F := Ideal) (k0_pay18 (k0_pay14 (iblk0 V c 2 t)) (iblk0 V c 7 t) (iblk0 V c 8 t)) (k0_pay19 (k0_pay14 (iblk0 V c 2 t)) (iblk0 V c 7 t) (iblk0 V c 8 t))
      (ix3 0 r ⟨32 + q, by omega⟩) = sgn (dot (h A (bOf t) (pos (jOf t) r)) (A.writeW q)) := by
  rw [wbit_at, wlog_at, pmb_at t hI r ⟨32 + q, by omega⟩ _ _ (hI.pw q) (hI.b0 ⟨32 + q, by omega⟩), add_zero]

end Cert.KernelIdeal.Hand

end
-- ==== Proof.Sweep.lean ====
module

public import proofs.«01_k».proof.Proof.Point

/-! The first launch's outputs and carried state after each grid point, by induction over the points. -/

@[expose] public section

set_option maxRecDepth 16384
set_option maxHeartbeats 1000000

noncomputable section

namespace Cert.KernelIdeal.Hand

open Cert.KernelIdeal Cert.KernelIdeal.Gen Idealize.ShloMosaic Idealize.ShloMosaic.TcCoe Idealize.ShloMosaic.Tactic Cert.Math

/-- What a point's outputs and state hold. -/
structure Pt (A : Args) (t : Fin cfg0.N) (o : Vec Ideal S1x256x1024 .f32 × Vec Ideal S1x256x128 .f32 × Vec Ideal S1x256x64 .f32 × Vec Ideal S4x8x1024 .f32 × Vec Ideal S4x256x264 .f32) : Prop where
  acc : ∀ r d, o.1 (ix3 0 r d) = long A (bOf t) (pos (jOf t) r) d + mlp A (bOf t) (pos (jOf t) r) d
  wv : ∀ r (e : Fin 64), o.2.1 (ix3 0 r ⟨e, by omega⟩) = wv A (bOf t) (pos (jOf t) r) e
  wg : ∀ r, o.2.1 (ix3 0 r 64) = wg A (bOf t) (pos (jOf t) r)
  gm : ∀ r, o.2.1 (ix3 0 r 66) = gate A (bOf t) (pos (jOf t) r) A.gmW A.gmB
  rb : ∀ r (q : Fin 32), o.2.2.1 (ix3 0 r ⟨q, by omega⟩) = sgn (dot (h A (bOf t) (pos (jOf t) r)) (A.readW q))
  wb : ∀ r (q : Fin 32), o.2.2.1 (ix3 0 r ⟨32 + q, by omega⟩) = sgn (dot (h A (bOf t) (pos (jOf t) r)) (A.writeW q))
  carry : ∀ k d, o.2.2.2.1 (ix3 k 0 d) = st A (bOf t) (256 * jOf t + 256) k d
  tab : ∀ k r x, o.2.2.2.2 (ix3 k r x) = powers (alpha A k).toReal r x

variable {A : Args} {V : (c : Dev nD) → (b : Ref Cert.KernelIdeal.sig .tc) → Buf (Elt Ideal) ((c : Thread nD τ).loc b)} {c : Dev nD} (t : Fin cfg0.N)

theorem ld_carry (X : Vec Ideal S4x8x1024 .f32) {o : ℕ} (inb) (h : o < 4) (d : Fin 1024) :
    View.ld X (Rect.unit (s := S4x8x1024) ![o, 0, 0] ![1, 1, 1024] inb) (ix3 0 0 d) = X (ix3 ⟨o, h⟩ 0 d) :=
  ld3 X inb 0 d h (by decide) (by decide)

theorem ld_tab (X : Vec Ideal S4x256x264 .f32) {o : ℕ} (inb) (h : o < 4) (r : Fin 256) (x : Fin 264) :
    View.ld X (Rect.unit (s := S4x256x264) ![o, 0, 0] ![1, 256, 264] inb) (ix3 0 r x) = X (ix3 ⟨o, h⟩ r x) :=
  ld3 X inb r x h (by decide) (by decide)

/-- At the first block the carried states are zero. -/
theorem start_zero (h1 : t.val % 16 = 0) (k : Fin 4) {o : ℕ} (inb) (h : o < 4) (d : Fin 1024) :
    View.ld (Val := Elt Ideal) (e' := .f32) (k0_pay13 (F := Ideal)) (Rect.unit (s := S4x8x1024) ![o, 0, 0] ![1, 1, 1024] inb) (ix3 0 0 d) = st A (bOf t) (256 * jOf t) k d := by
  rw [ld_carry _ inb h, show (256 * (jOf t : ℕ)) = 0 by show 256 * (t.val % 16) = 0; omega]
  unfold k0_pay13
  pointwise
  rfl

theorem start_B (hm : ¬t.val % 16 = 0) {o : Vec Ideal S1x256x1024 .f32 × Vec Ideal S1x256x128 .f32 × Vec Ideal S1x256x64 .f32 × Vec Ideal S4x8x1024 .f32 × Vec Ideal S4x256x264 .f32}
    (hp : Pt A ⟨t.val - 1, Nat.lt_of_le_of_lt (Nat.sub_le _ _) t.isLt⟩ o) (k : Fin 4) {n : ℕ} (hk : n = k) (inb inb') :
    Start A t k (View.ld o.2.2.2.1 (Rect.unit (s := S4x8x1024) ![n, 0, 0] ![1, 1, 1024] inb))
      (View.ld o.2.2.2.2 (Rect.unit (s := S4x256x264) ![n, 0, 0] ![1, 256, 264] inb')) := by
  subst hk
  refine ⟨fun d => ?_, fun r y => (ld_tab _ inb' k.2 r y).trans (hp.tab k r y)⟩
  rw [ld_carry _ inb k.2, hp.carry k d,
    show bOf ⟨t.val - 1, Nat.lt_of_le_of_lt (Nat.sub_le _ _) t.isLt⟩ = bOf t by ext; show (t.val - 1) / 16 = t.val / 16; omega,
    show 256 * (jOf ⟨t.val - 1, Nat.lt_of_le_of_lt (Nat.sub_le _ _) t.isLt⟩ : ℕ) + 256 = 256 * (jOf t : ℕ) by
      show 256 * ((t.val - 1) % 16) + 256 = 256 * (t.val % 16); omega]

theorem start_C (h1 : t.val % 16 = 0) {T : Vec Ideal S4x256x264 .f32} (hT : ∀ k r x, T (ix3 k r x) = powers (alpha A k).toReal r x)
    (k : Fin 4) {n : ℕ} (hk : n = k) (inb inb') :
    Start A t k (View.ld (k0_pay13 (F := Ideal)) (Rect.unit (s := S4x8x1024) ![n, 0, 0] ![1, 1, 1024] inb))
      (View.ld T (Rect.unit (s := S4x256x264) ![n, 0, 0] ![1, 256, 264] inb')) := by
  subst hk
  exact ⟨start_zero t h1 k inb k.2, fun r y => (ld_tab _ inb' k.2 r y).trans (hT k r y)⟩

/-- A slab of the table from the launch's decays and their logarithms. -/
theorem tab_at (hI : In0 A V c) (k : Fin 4) {n : ℕ} (hk : n = k) (inb inb') (x x' : S1.Idx) (r : Fin 256) (y : Fin 264) :
    k0_pay4 (F := Ideal) (View.ld (iblk0 V c 0 t) (Rect.unit (s := S4) ![n] ![1] inb) x) (View.ld (iblk0 V c 1 t) (Rect.unit (s := S4) ![n] ![1] inb') x') (ix3 0 r y)
      = powers (alpha A k).toReal r y := by
  subst hk
  obtain ⟨e0, e1, -⟩ := blk_whole V c t
  obtain ⟨a, ha0, -, ha⟩ := logistic_real (A.decay k)
  have ha : alpha A k = (a : EReal) := ha
  have hx : ∀ x : S1.Idx, (x 0 : ℕ) = 0 := fun x => by have : (x 0 : ℕ) < 1 := (x 0).isLt; omega
  have l0 : View.ld (iblk0 V c 0 t) (Rect.unit (s := S4) ![(k : ℕ)] ![1] inb) x = (a : EReal) := by
    rw [e0, ← ha, ← hI.al k]
    exact View.ld_unit_apply_of (V c main_v41) _ _ inb x (ix1 k) fun i => by match i with | ⟨0, _⟩ => show (k : ℕ) = k + (x 0 : ℕ); rw [hx]; rfl
  have l1 : View.ld (iblk0 V c 1 t) (Rect.unit (s := S4) ![(k : ℕ)] ![1] inb') x' = Ideal.log (a : EReal) := by
    rw [e1, ← ha, ← hI.ll k]
    exact View.ld_unit_apply_of (V c main_v42) _ _ inb' x' (ix1 k) fun i => by match i with | ⟨0, _⟩ => show (k : ℕ) = k + (x' 0 : ℕ); rw [hx]; rfl
  rw [l0, l1, ha, EReal.toReal_coe]
  exact table_at a ha0 r y

theorem pay8_eq' (a l : Elt Ideal .f32) : k0_pay8 k0_pay2 k0_pay3 a l (k0_pay7 k0_pay2 k0_pay3) (FloatOps.ofBits .f32 0#32) = k0_pay4 (F := Ideal) a l := rfl

theorem pt_A (hI : In0 A V c) (h0 : t.val % 32 = 0) (h1 : t.val % 16 = 0) : Pt A t (outsAt0 V c t.val t.isLt) := by
  have S : ∀ (k : Fin 4) (T : Vec Ideal S1x256x264 .f32) {n : ℕ} (hk : n = k) (inb), (∀ r y, T (ix3 0 r y) = powers (alpha A k).toReal r y) →
      Start A t k (View.ld (k0_pay13 (F := Ideal)) (Rect.unit (s := S4x8x1024) ![n, 0, 0] ![1, 1, 1024] inb)) T := by
    intro k T n hk inb hT; subst hk; exact ⟨start_zero t h1 k inb k.2, hT⟩
  rw [outsAt0_A V c t h0 h1]
  constructor
  · intro r d
    frame_out
    simp (disch := decide) only [↓ View.readCov_skip, ↓ View.readCov_cons_toLoadRect, ↓ View.readCov_fill]
    rw [pay12_eq, pay8_eq', pay6_eq]
    exact accB_at t hI (S 0 _ rfl _ (tab_at t hI 0 rfl _ _ _ _)) (S 1 _ rfl _ (tab_at t hI 1 rfl _ _ _ _)) (S 2 _ rfl _ (tab_at t hI 2 rfl _ _ _ _))
      (S 3 _ rfl _ (tab_at t hI 3 rfl _ _ _ _)) r d
  · intro r e; frame_out; exact wv_pt t hI r e
  · intro r; frame_out; exact wg_pt t hI r
  · intro r; frame_out; exact gm_pt t hI r
  · intro r q; frame_out; exact rb_pt t hI r q
  · intro r q; frame_out; exact wb_pt t hI r q
  · intro k d
    frame_out
    simp (disch := decide) only [↓ View.readCov_skip, ↓ View.readCov_cons_toLoadRect, ↓ View.readCov_fill]
    rw [pay12_eq, pay8_eq', pay6_eq]
    refine (slabs (n := 8) (p := 1) _ _ _ _ _ _ _ _ _ k 0 d (by decide) le_rfl).trans ?_
    match k with
    | ⟨0, _⟩ => exact carry_at t hI 0 _ _ (S 0 _ rfl _ (tab_at t hI 0 rfl _ _ _ _)) rfl _ d
    | ⟨1, _⟩ => exact carry_at t hI 1 _ _ (S 1 _ rfl _ (tab_at t hI 1 rfl _ _ _ _)) rfl _ d
    | ⟨2, _⟩ => exact carry_at t hI 2 _ _ (S 2 _ rfl _ (tab_at t hI 2 rfl _ _ _ _)) rfl _ d
    | ⟨3, _⟩ => exact carry_at t hI 3 _ _ (S 3 _ rfl _ (tab_at t hI 3 rfl _ _ _ _)) rfl _ d
  · intro k r x
    frame_out
    rw [pay12_eq, pay8_eq', pay6_eq]
    refine (slabs (n := 256) (p := 256) _ _ _ _ _ _ _ _ _ k r x le_rfl le_rfl).trans ?_
    match k with
    | ⟨0, _⟩ => exact tab_at t hI 0 rfl _ _ _ _ r x
    | ⟨1, _⟩ => exact tab_at t hI 1 rfl _ _ _ _ r x
    | ⟨2, _⟩ => exact tab_at t hI 2 rfl _ _ _ _ r x
    | ⟨3, _⟩ => exact tab_at t hI 3 rfl _ _ _ _ r x

theorem pt_C (hI : In0 A V c) (h0 : ¬t.val % 32 = 0) (h1 : t.val % 16 = 0)
    (hT : ∀ k r x, (outsAt0 V c (t.val - 1) (Nat.lt_of_le_of_lt (Nat.sub_le _ _) t.isLt)).2.2.2.2 (ix3 k r x) = powers (alpha A k).toReal r x) :
    Pt A t (outsAt0 V c t.val t.isLt) := by
  rw [outsAt0_C V c t h0 h1]
  constructor
  · intro r d
    frame_out
    simp (disch := decide) only [↓ View.readCov_skip, ↓ View.readCov_cons_toLoadRect, ↓ View.readCov_fill]
    simp only [read_unread_whole]
    exact accB_at t hI (start_C t h1 hT 0 rfl _ _) (start_C t h1 hT 1 rfl _ _) (start_C t h1 hT 2 rfl _ _) (start_C t h1 hT 3 rfl _ _) r d
  · intro r e; frame_out; exact wv_pt t hI r e
  · intro r; frame_out; exact wg_pt t hI r
  · intro r; frame_out; exact gm_pt t hI r
  · intro r q; frame_out; exact rb_pt t hI r q
  · intro r q; frame_out; exact wb_pt t hI r q
  · intro k d
    frame_out
    simp (disch := decide) only [↓ View.readCov_skip, ↓ View.readCov_cons_toLoadRect, ↓ View.readCov_fill]
    simp only [read_unread_whole]
    refine (slabs (n := 8) (p := 1) _ _ _ _ _ _ _ _ _ k 0 d (by decide) le_rfl).trans ?_
    match k with
    | ⟨0, _⟩ => exact carry_at t hI 0 _ _ (start_C t h1 hT 0 rfl _ _) rfl _ d
    | ⟨1, _⟩ => exact carry_at t hI 1 _ _ (start_C t h1 hT 1 rfl _ _) rfl _ d
    | ⟨2, _⟩ => exact carry_at t hI 2 _ _ (start_C t h1 hT 2 rfl _ _) rfl _ d
    | ⟨3, _⟩ => exact carry_at t hI 3 _ _ (start_C t h1 hT 3 rfl _ _) rfl _ d
  · exact hT

theorem pt_B (hI : In0 A V c) (h0 : ¬t.val % 32 = 0) (h1 : ¬t.val % 16 = 0)
    (hp : Pt A ⟨t.val - 1, Nat.lt_of_le_of_lt (Nat.sub_le _ _) t.isLt⟩ (outsAt0 V c (t.val - 1) (Nat.lt_of_le_of_lt (Nat.sub_le _ _) t.isLt))) :
    Pt A t (outsAt0 V c t.val t.isLt) := by
  rw [outsAt0_B V c t h0 h1]
  constructor
  · intro r d
    frame_out
    simp only [read_unread_whole]
    exact accB_at t hI (start_B t h1 hp 0 rfl _ _) (start_B t h1 hp 1 rfl _ _) (start_B t h1 hp 2 rfl _ _) (start_B t h1 hp 3 rfl _ _) r d
  · intro r e; frame_out; exact wv_pt t hI r e
  · intro r; frame_out; exact wg_pt t hI r
  · intro r; frame_out; exact gm_pt t hI r
  · intro r q; frame_out; exact rb_pt t hI r q
  · intro r q; frame_out; exact wb_pt t hI r q
  · intro k d
    frame_out
    simp only [read_unread_whole]
    rw [View.read_writes_apply_eq_canon]
    · refine (slabs (n := 8) (p := 1) _ _ _ _ _ _ _ _ _ k 0 d (by decide) le_rfl).trans ?_
      match k with
      | ⟨0, _⟩ => exact carry_at t hI 0 _ _ (start_B t h1 hp 0 rfl _ _) rfl _ d
      | ⟨1, _⟩ => exact carry_at t hI 1 _ _ (start_B t h1 hp 1 rfl _ _) rfl _ d
      | ⟨2, _⟩ => exact carry_at t hI 2 _ _ (start_B t h1 hp 2 rfl _ _) rfl _ d
      | ⟨3, _⟩ => exact carry_at t hI 3 _ _ (start_B t h1 hp 3 rfl _ _) rfl _ d
    · have hm : ∀ {o : ℕ} (inb), (k : ℕ) = o → ix3 k (0 : Fin 8) d ∈ (Rect.unit (s := S4x8x1024) ![o, 0, 0] ![1, 1, 1024] inb).set := by
        intro o inb hk
        rw [Rect.mem_set_unit]
        intro a
        match a with
        | ⟨0, _⟩ => show o ≤ (k : ℕ) ∧ (k : ℕ) < o + 1; omega
        | ⟨1, _⟩ => show 0 ≤ 0 ∧ 0 < 0 + 1; omega
        | ⟨2, _⟩ => show 0 ≤ (d : ℕ) ∧ (d : ℕ) < 0 + 1024; omega
      match k with
      | ⟨0, _⟩ => exact ⟨_, .tail _ (.tail _ (.tail _ (.head _))), hm (by intro a; fin_cases a <;> decide) rfl⟩
      | ⟨1, _⟩ => exact ⟨_, .tail _ (.tail _ (.head _)), hm (by intro a; fin_cases a <;> decide) rfl⟩
      | ⟨2, _⟩ => exact ⟨_, .tail _ (.head _), hm (by intro a; fin_cases a <;> decide) rfl⟩
      | ⟨3, _⟩ => exact ⟨_, .head _, hm (by intro a; fin_cases a <;> decide) rfl⟩
  · exact hp.tab

theorem pt_all (hI : In0 A V c) : ∀ (n : ℕ) (hn : n < cfg0.N), Pt A ⟨n, hn⟩ (outsAt0 V c n hn)
  | 0, hn => pt_A ⟨0, hn⟩ hI rfl rfl
  | n + 1, hn => by
    have hN : n + 1 < 32 := lt_of_lt_of_eq hn N_0
    have ih := pt_all hI n (Nat.lt_of_succ_lt hn)
    by_cases h1 : (n + 1) % 16 = 0
    · exact pt_C ⟨n + 1, hn⟩ hI (by show ¬(n + 1) % 32 = 0; omega) h1 ih.tab
    · exact pt_B ⟨n + 1, hn⟩ hI (by show ¬(n + 1) % 32 = 0; omega) h1 ih

end Cert.KernelIdeal.Hand

end
-- ==== Proof.Arr0.lean ====
module

public import proofs.«01_k».proof.Proof.Sweep

/-! The arrays the first launch leaves, as the problem's math. -/

@[expose] public section

set_option maxRecDepth 16384
set_option maxHeartbeats 1000000

noncomputable section

namespace Cert.KernelIdeal.Hand

open Cert.KernelIdeal Cert.KernelIdeal.Gen Idealize.ShloMosaic Idealize.ShloMosaic.TcCoe Idealize.ShloMosaic.Tactic Cert.Math

variable {A : Args} {V : (c : Dev nD) → (b : Ref Cert.KernelIdeal.sig .tc) → Buf (Elt Ideal) ((c : Thread nD τ).loc b)} {c : Dev nD}

theorem idx_ix3 {n k : ℕ} (y : (⟨3, ![1, n, k]⟩ : Shape).Idx) : ∃ r d, y = ix3 0 r d :=
  ⟨y 1, y 2, funext fun a => by
    match a with
    | ⟨0, _⟩ => exact Fin.ext (by have : (y 0 : ℕ) < 1 := (y 0).isLt; show (y 0 : ℕ) = 0; omega)
    | ⟨1, _⟩ => rfl
    | ⟨2, _⟩ => rfl⟩

/-- The output windows' block indices. -/
theorem idx0_o : ∀ t : Fin cfg0.N, (win0_15.index t (0 : Fin 3) = t.val / 16 ∧ win0_15.index t (1 : Fin 3) = t.val % 16 ∧ win0_15.index t (2 : Fin 3) = 0)
    ∧ (win0_16.index t (0 : Fin 3) = t.val / 16 ∧ win0_16.index t (1 : Fin 3) = t.val % 16 ∧ win0_16.index t (2 : Fin 3) = 0)
    ∧ (win0_17.index t (0 : Fin 3) = t.val / 16 ∧ win0_17.index t (1 : Fin 3) = t.val % 16 ∧ win0_17.index t (2 : Fin 3) = 0) :=
  (by decide +kernel : ∀ t : Fin grid0.N, _)

theorem emb15 (t : Fin cfg0.N) (r : Fin 256) (d : Fin 1024) : (win0_15.blk t).view.emb (ix3 0 r d) = ix3 (bOf t) (pos (jOf t) r) d := by
  obtain ⟨⟨e0, e1, e2⟩, -, -⟩ := idx0_o t
  funext a; apply Fin.ext
  match a with
  | ⟨0, _⟩ => show win0_15.index t (0 : Fin 3) * 1 + 1 * 0 = t.val / 16; omega
  | ⟨1, _⟩ => show win0_15.index t (1 : Fin 3) * 256 + 1 * r.val = 256 * (t.val % 16) + r.val; omega
  | ⟨2, _⟩ => show win0_15.index t (2 : Fin 3) * 1024 + 1 * d.val = d.val; omega

theorem emb16 (t : Fin cfg0.N) (r : Fin 256) (d : Fin 128) : (win0_16.blk t).view.emb (ix3 0 r d) = ix3 (bOf t) (pos (jOf t) r) d := by
  obtain ⟨-, ⟨e0, e1, e2⟩, -⟩ := idx0_o t
  funext a; apply Fin.ext
  match a with
  | ⟨0, _⟩ => show win0_16.index t (0 : Fin 3) * 1 + 1 * 0 = t.val / 16; omega
  | ⟨1, _⟩ => show win0_16.index t (1 : Fin 3) * 256 + 1 * r.val = 256 * (t.val % 16) + r.val; omega
  | ⟨2, _⟩ => show win0_16.index t (2 : Fin 3) * 128 + 1 * d.val = d.val; omega

theorem emb17 (t : Fin cfg0.N) (r : Fin 256) (d : Fin 64) : (win0_17.blk t).view.emb (ix3 0 r d) = ix3 (bOf t) (pos (jOf t) r) d := by
  obtain ⟨-, -, ⟨e0, e1, e2⟩⟩ := idx0_o t
  funext a; apply Fin.ext
  match a with
  | ⟨0, _⟩ => show win0_17.index t (0 : Fin 3) * 1 + 1 * 0 = t.val / 16; omega
  | ⟨1, _⟩ => show win0_17.index t (1 : Fin 3) * 256 + 1 * r.val = 256 * (t.val % 16) + r.val; omega
  | ⟨2, _⟩ => show win0_17.index t (2 : Fin 3) * 64 + 1 * d.val = d.val; omega

theorem acc_arr (hI : In0 A V c) (b : Fin 2) (t : Fin 4096) (d : Fin 1024) :
    (dat0 V c).arrAt 15 cfg0.N (ix3 b t d) = long A b t d + mlp A b t d := by
  refine (dat0 V c).arrAt_forall_of_covers 15 (fun (i : S2x4096x1024.Idx) (v : EReal) => v = long A (i 0) (i 1) (i 2) + mlp A (i 0) (i 1) (i 2))
    (by decide +kernel) (fun t hf y => ?_) (ix3 b t d)
  obtain ⟨r, d, rfl⟩ := idx_ix3 y
  blk_simp
  rw [after0_15]
  have e := emb15 t r d
  dsimp only
  rw [e]
  exact (pt_all hI t.val t.isLt).acc r d

theorem wvwg_arr (hI : In0 A V c) (b : Fin 2) (t : Fin 4096) :
    (∀ e : Fin 64, (dat0 V c).arrAt 16 cfg0.N (ix3 b t ⟨e, by omega⟩) = wv A b t e) ∧ (dat0 V c).arrAt 16 cfg0.N (ix3 b t 64) = wg A b t
      ∧ (dat0 V c).arrAt 16 cfg0.N (ix3 b t 66) = gate A b t A.gmW A.gmB := by
  have key := (dat0 V c).arrAt_forall_of_covers 16 (fun (i : S2x4096x128.Idx) (v : EReal) =>
    (∀ e : Fin 64, (i 2 : ℕ) = e → v = wv A (i 0) (i 1) e) ∧ ((i 2 : ℕ) = 64 → v = wg A (i 0) (i 1)) ∧ ((i 2 : ℕ) = 66 → v = gate A (i 0) (i 1) A.gmW A.gmB))
    (by decide +kernel) (fun t hf y => by
      obtain ⟨r, d, rfl⟩ := idx_ix3 y
      blk_simp
      rw [after0_16]
      have e := emb16 t r d
      dsimp only
      rw [e]
      have p := pt_all hI t.val t.isLt
      rw [(idx0_o t).2.1.2.2, Nat.zero_mul, Nat.zero_add]
      refine ⟨fun e he => ?_, fun he => ?_, fun he => ?_⟩
      · have hd : d = ⟨e, by omega⟩ := Fin.ext he
        rw [hd]
        exact p.wv r e
      · obtain rfl : d = 64 := Fin.ext he
        exact p.wg r
      · obtain rfl : d = 66 := Fin.ext he
        exact p.gm r)
  exact ⟨fun e => (key (ix3 b t ⟨e, by omega⟩)).1 e rfl, (key (ix3 b t 64)).2.1 rfl, (key (ix3 b t 66)).2.2 rfl⟩

theorem bits_arr (hI : In0 A V c) (b : Fin 2) (t : Fin 4096) (q : Fin 32) :
    (dat0 V c).arrAt 17 cfg0.N (ix3 b t ⟨q, by omega⟩) = sgn (dot (h A b t) (A.readW q))
      ∧ (dat0 V c).arrAt 17 cfg0.N (ix3 b t ⟨32 + q, by omega⟩) = sgn (dot (h A b t) (A.writeW q)) := by
  have key := (dat0 V c).arrAt_forall_of_covers 17 (fun (i : S2x4096x64.Idx) (v : EReal) =>
    ((i 2 : ℕ) = q → v = sgn (dot (h A (i 0) (i 1)) (A.readW q))) ∧ ((i 2 : ℕ) = 32 + q → v = sgn (dot (h A (i 0) (i 1)) (A.writeW q))))
    (by decide +kernel) (fun t hf y => by
      obtain ⟨r, d, rfl⟩ := idx_ix3 y
      blk_simp
      rw [after0_17]
      have e := emb17 t r d
      dsimp only
      rw [e]
      have p := pt_all hI t.val t.isLt
      rw [(idx0_o t).2.2.2.2, Nat.zero_mul, Nat.zero_add]
      refine ⟨fun he => ?_, fun he => ?_⟩
      · have hd : d = ⟨q, by omega⟩ := Fin.ext he
        rw [hd]
        exact p.rb r q
      · have hd : d = ⟨32 + q, by omega⟩ := Fin.ext he
        rw [hd]
        exact p.wb r q)
  exact ⟨(key (ix3 b t ⟨q, by omega⟩)).1 rfl, (key (ix3 b t ⟨32 + q, by omega⟩)).2 rfl⟩

end Cert.KernelIdeal.Hand

end
-- ==== Proof.Num.lean ====
module

public import proofs.«01_k».proof.Proof.MatchRun
public import proofs.«01_k».proof.Proof.PayMatch
public import proofs.«01_k».proof.Proof.Arr0

/-! The second launch: the sums it carries after each grid point, and the array it leaves, as the problem's math. -/

@[expose] public section

set_option maxRecDepth 16384
set_option maxHeartbeats 1000000

noncomputable section

namespace Cert.KernelIdeal.Hand

open Cert.KernelIdeal Cert.KernelIdeal.Gen Idealize.ShloMosaic Idealize.ShloMosaic.TcCoe Idealize.ShloMosaic.Tactic Cert.Math

/-- The batch row, the block of reading positions and the block of written positions of a grid point. -/
def b1 (t : Fin cfg1.N) : Fin 2 := ⟨t.val / 256, by have := lt_of_lt_of_eq t.isLt N_1; omega⟩
def q1 (t : Fin cfg1.N) : Fin 16 := ⟨t.val / 16 % 16, Nat.mod_lt _ (by decide)⟩
def k1 (t : Fin cfg1.N) : Fin 16 := ⟨t.val % 16, Nat.mod_lt _ (by decide)⟩

/-- What the second launch's operands hold. -/
structure In1 (A : Args) (V : (c : Dev nD) → (b : Ref Cert.KernelIdeal.sig .tc) → Buf (Elt Ideal) ((c : Thread nD τ).loc b)) (c : Dev nD) : Prop where
  acc : ∀ b t d, V c main_v51_0 (ix3 b t d) = long A b t d + mlp A b t d
  wv : ∀ b t (e : Fin 64), V c main_v51_1 (ix3 b t ⟨e, by omega⟩) = wv A b t e
  wg : ∀ b t, V c main_v51_1 (ix3 b t 64) = wg A b t
  gm : ∀ b t, V c main_v51_1 (ix3 b t 66) = gate A b t A.gmW A.gmB
  rb : ∀ b t (q : Fin 32), V c main_v51_2 (ix3 b t ⟨q, by omega⟩) = sgn (dot (h A b t) (A.readW q))
  wb : ∀ b t (q : Fin 32), V c main_v51_2 (ix3 b t ⟨32 + q, by omega⟩) = sgn (dot (h A b t) (A.writeW q))
  x : ∀ b t d, V c main_arg0 (ix3 b t d) = A.x b t d
  memW : ∀ d e, V c main_v52 (ix2 d e) = A.memW d e

theorem idx1 : ∀ t : Fin cfg1.N, (win1_0.index t (0 : Fin 3) = t.val / 256 ∧ win1_0.index t (1 : Fin 3) = t.val / 16 % 16 ∧ win1_0.index t (2 : Fin 3) = 0)
    ∧ (win1_1.index t (0 : Fin 3) = t.val / 256 ∧ win1_1.index t (1 : Fin 3) = t.val % 16 ∧ win1_1.index t (2 : Fin 3) = 0)
    ∧ (win1_2.index t (0 : Fin 3) = t.val / 256 ∧ win1_2.index t (1 : Fin 3) = t.val % 16 ∧ win1_2.index t (2 : Fin 3) = 0)
    ∧ (win1_3.index t (0 : Fin 3) = t.val / 256 ∧ win1_3.index t (1 : Fin 3) = t.val / 16 % 16 ∧ win1_3.index t (2 : Fin 3) = 0)
    ∧ (win1_4.index t (0 : Fin 3) = t.val / 256 ∧ win1_4.index t (1 : Fin 3) = t.val / 16 % 16 ∧ win1_4.index t (2 : Fin 3) = 0)
    ∧ (win1_5.index t (0 : Fin 3) = t.val / 256 ∧ win1_5.index t (1 : Fin 3) = t.val / 16 % 16 ∧ win1_5.index t (2 : Fin 3) = 0)
    ∧ (win1_7.index t (0 : Fin 3) = t.val / 256 ∧ win1_7.index t (1 : Fin 3) = t.val / 16 % 16 ∧ win1_7.index t (2 : Fin 3) = 0)
    ∧ (∀ a, win1_6.index t a = 0) :=
  (by decide +kernel : ∀ t : Fin grid1.N, _)

variable {A : Args} {V : (c : Dev nD) → (b : Ref Cert.KernelIdeal.sig .tc) → Buf (Elt Ideal) ((c : Thread nD τ).loc b)} {c : Dev nD} (t : Fin cfg1.N)

section Blocks

variable (V c) (r : Fin 256)

theorem blk1_0 (d : Fin 64) : iblk1 V c 0 t (ix3 0 r d) = V c main_v51_2 (ix3 (b1 t) (pos (q1 t) r) d) := by
  obtain ⟨⟨e0, e1, e2⟩, -⟩ := idx1 t
  show V c main_v51_2 (((cfg1.win 0).blk t).view.emb (ix3 0 r d)) = _
  congr 1; funext a; apply Fin.ext
  match a with
  | ⟨0, _⟩ => show win1_0.index t (0 : Fin 3) * 1 + 1 * 0 = t.val / 256; omega
  | ⟨1, _⟩ => show win1_0.index t (1 : Fin 3) * 256 + 1 * r.val = 256 * (t.val / 16 % 16) + r.val; omega
  | ⟨2, _⟩ => show win1_0.index t (2 : Fin 3) * 64 + 1 * d.val = d.val; omega

theorem blk1_1 (d : Fin 64) : iblk1 V c 1 t (ix3 0 r d) = V c main_v51_2 (ix3 (b1 t) (pos (k1 t) r) d) := by
  obtain ⟨-, ⟨e0, e1, e2⟩, -⟩ := idx1 t
  show V c main_v51_2 (((cfg1.win 1).blk t).view.emb (ix3 0 r d)) = _
  congr 1; funext a; apply Fin.ext
  match a with
  | ⟨0, _⟩ => show win1_1.index t (0 : Fin 3) * 1 + 1 * 0 = t.val / 256; omega
  | ⟨1, _⟩ => show win1_1.index t (1 : Fin 3) * 256 + 1 * r.val = 256 * (t.val % 16) + r.val; omega
  | ⟨2, _⟩ => show win1_1.index t (2 : Fin 3) * 64 + 1 * d.val = d.val; omega

theorem blk1_2 (d : Fin 128) : iblk1 V c 2 t (ix3 0 r d) = V c main_v51_1 (ix3 (b1 t) (pos (k1 t) r) d) := by
  obtain ⟨-, -, ⟨e0, e1, e2⟩, -⟩ := idx1 t
  show V c main_v51_1 (((cfg1.win 2).blk t).view.emb (ix3 0 r d)) = _
  congr 1; funext a; apply Fin.ext
  match a with
  | ⟨0, _⟩ => show win1_2.index t (0 : Fin 3) * 1 + 1 * 0 = t.val / 256; omega
  | ⟨1, _⟩ => show win1_2.index t (1 : Fin 3) * 256 + 1 * r.val = 256 * (t.val % 16) + r.val; omega
  | ⟨2, _⟩ => show win1_2.index t (2 : Fin 3) * 128 + 1 * d.val = d.val; omega

theorem blk1_3 (d : Fin 128) : iblk1 V c 3 t (ix3 0 r d) = V c main_v51_1 (ix3 (b1 t) (pos (q1 t) r) d) := by
  obtain ⟨-, -, -, ⟨e0, e1, e2⟩, -⟩ := idx1 t
  show V c main_v51_1 (((cfg1.win 3).blk t).view.emb (ix3 0 r d)) = _
  congr 1; funext a; apply Fin.ext
  match a with
  | ⟨0, _⟩ => show win1_3.index t (0 : Fin 3) * 1 + 1 * 0 = t.val / 256; omega
  | ⟨1, _⟩ => show win1_3.index t (1 : Fin 3) * 256 + 1 * r.val = 256 * (t.val / 16 % 16) + r.val; omega
  | ⟨2, _⟩ => show win1_3.index t (2 : Fin 3) * 128 + 1 * d.val = d.val; omega

theorem blk1_4 (d : Fin 1024) : iblk1 V c 4 t (ix3 0 r d) = V c main_arg0 (ix3 (b1 t) (pos (q1 t) r) d) := by
  obtain ⟨-, -, -, -, ⟨e0, e1, e2⟩, -⟩ := idx1 t
  show V c main_arg0 (((cfg1.win 4).blk t).view.emb (ix3 0 r d)) = _
  congr 1; funext a; apply Fin.ext
  match a with
  | ⟨0, _⟩ => show win1_4.index t (0 : Fin 3) * 1 + 1 * 0 = t.val / 256; omega
  | ⟨1, _⟩ => show win1_4.index t (1 : Fin 3) * 256 + 1 * r.val = 256 * (t.val / 16 % 16) + r.val; omega
  | ⟨2, _⟩ => show win1_4.index t (2 : Fin 3) * 1024 + 1 * d.val = d.val; omega

theorem blk1_5 (d : Fin 1024) : iblk1 V c 5 t (ix3 0 r d) = V c main_v51_0 (ix3 (b1 t) (pos (q1 t) r) d) := by
  obtain ⟨-, -, -, -, -, ⟨e0, e1, e2⟩, -⟩ := idx1 t
  show V c main_v51_0 (((cfg1.win 5).blk t).view.emb (ix3 0 r d)) = _
  congr 1; funext a; apply Fin.ext
  match a with
  | ⟨0, _⟩ => show win1_5.index t (0 : Fin 3) * 1 + 1 * 0 = t.val / 256; omega
  | ⟨1, _⟩ => show win1_5.index t (1 : Fin 3) * 256 + 1 * r.val = 256 * (t.val / 16 % 16) + r.val; omega
  | ⟨2, _⟩ => show win1_5.index t (2 : Fin 3) * 1024 + 1 * d.val = d.val; omega

theorem emb1_7 (d : Fin 1024) : (win1_7.blk t).view.emb (ix3 0 r d) = ix3 (b1 t) (pos (q1 t) r) d := by
  obtain ⟨-, -, -, -, -, -, ⟨e0, e1, e2⟩, -⟩ := idx1 t
  funext a; apply Fin.ext
  match a with
  | ⟨0, _⟩ => show win1_7.index t (0 : Fin 3) * 1 + 1 * 0 = t.val / 256; omega
  | ⟨1, _⟩ => show win1_7.index t (1 : Fin 3) * 256 + 1 * r.val = 256 * (t.val / 16 % 16) + r.val; omega
  | ⟨2, _⟩ => show win1_7.index t (2 : Fin 3) * 1024 + 1 * d.val = d.val; omega

theorem blk1_6 : iblk1 V c 6 t = V c main_v52 := by
  obtain ⟨-, -, -, -, -, -, -, e⟩ := idx1 t
  funext y; blk_simp [iblk1]
  blk_ext [e]

end Blocks

/-! ## The carried sums -/

/-- One written column. -/
def W (V : (c : Dev nD) → (b : Ref Cert.KernelIdeal.sig .tc) → Buf (Elt Ideal) ((c : Thread nD τ).loc b)) (c : Dev nD) (b : Fin 2) (e : Fin 128) (t' : Fin 4096) : EReal :=
  V c main_v51_1 (ix3 b t' e)

/-- What the `i`-th block of written positions adds to a read. -/
def G (A : Args) (V : (c : Dev nD) → (b : Ref Cert.KernelIdeal.sig .tc) → Buf (Elt Ideal) ((c : Thread nD τ).loc b)) (c : Dev nD) (b : Fin 2) (s : Fin 4096) (k : Fin 2) (e : Fin 128) (i : ℕ) : EReal :=
  ∑ x : Fin 256, hits A b s k (pos ⟨i % 16, Nat.mod_lt _ (by decide)⟩ x) * W V c b e (pos ⟨i % 16, Nat.mod_lt _ (by decide)⟩ x)

theorem G_all (b : Fin 2) (s : Fin 4096) (k : Fin 2) (e : Fin 128) : ∑ i ∈ Finset.range 16, G A V c b s k e i = held A b s k (W V c b e) := by
  rw [Finset.sum_range]
  refine Fin.sum_mul_add_congr (n := 256) fun i x hl => ?_
  have : pos ⟨(i : ℕ) % 16, Nat.mod_lt _ (by decide)⟩ x = ⟨i * 256 + x, hl⟩ := Fin.ext (by show 256 * ((i : ℕ) % 16) + (x : ℕ) = i * 256 + x; omega)
  rw [this]

def Sums (A : Args) (V : (c : Dev nD) → (b : Ref Cert.KernelIdeal.sig .tc) → Buf (Elt Ideal) ((c : Thread nD τ).loc b)) (c : Dev nD) (t : Fin cfg1.N) (n : ℕ) (k : Fin 2) (r : Fin 256) (e : Fin 128) : EReal :=
  ∑ i ∈ Finset.range n, G A V c (b1 t) (pos (q1 t) r) k e i

theorem Sums_succ (k : Fin 2) (r : Fin 256) (e : Fin 128) {L : EReal} (hL : L = Sums A V c t (t.val % 16) k r e) :
    L + ∑ x, hits A (b1 t) (pos (q1 t) r) k (pos (k1 t) x) * (iblk1 V c 2 t (ix3 0 x e) : EReal) = Sums A V c t (t.val % 16 + 1) k r e := by
  rw [hL, Sums, Sums, Finset.sum_range_succ]
  refine congrArg _ (Finset.sum_congr rfl fun x _ => ?_)
  have : pos ⟨(t.val % 16) % 16, Nat.mod_lt _ (by decide)⟩ x = pos (k1 t) x := Fin.ext (by show 256 * ((t.val % 16) % 16) + (x : ℕ) = 256 * (t.val % 16) + x; omega)
  rw [this]
  exact congrArg _ (blk1_2 V c t x e)

theorem step0 (hI : In1 A V c) (L : Vec Ideal S1x256x128 .f32) (r : Fin 256) (e : Fin 128) (hL : L (ix3 0 r e) = Sums A V c t (t.val % 16) 0 r e) :
    k1_pay1 (F := Ideal) (k1_pay10 (iblk1 V c 0 t) (iblk1 V c 1 t) (iblk1 V c 2 t) L) (ix3 0 r e) = Sums A V c t (t.val % 16 + 1) 0 r e :=
  (pay1_at _ r e).trans ((num0_at A (b1 t) (k1 t) r (pos (q1 t) r) _ _ _ L e (fun q => (blk1_0 V c t r _).trans (hI.rb _ _ q)) (fun x q => (blk1_1 V c t x _).trans (hI.wb _ _ q))).trans
    (Sums_succ t 0 r e hL))

theorem step1 (hI : In1 A V c) (L : Vec Ideal S1x256x128 .f32) (r : Fin 256) (e : Fin 128) (hL : L (ix3 0 r e) = Sums A V c t (t.val % 16) 1 r e) :
    k1_pay2 (F := Ideal) (k1_pay7 (iblk1 V c 0 t)) (k1_pay8 (iblk1 V c 1 t)) (k1_pay9 (iblk1 V c 2 t)) L (ix3 0 r e) = Sums A V c t (t.val % 16 + 1) 1 r e :=
  (num1_at A (b1 t) (k1 t) r (pos (q1 t) r) _ _ _ L e (fun q => (blk1_0 V c t r _).trans (hI.rb _ _ q)) (fun x q => (blk1_1 V c t x _).trans (hI.wb _ _ q))).trans
    (Sums_succ t 1 r e hL)

/-- Two slabs written over anything: slab `s` reads its payload. -/
theorem slabs2 (inb1 inb0) (w0 w1 : Vec Ideal S1x256x128 .f32) (L : List (View.Piece (Elt Ideal) S2x256x128 .f32)) (s : Fin 2) (i : Fin 256) (j : Fin 128) :
    View.canon ((⟨Rect.unit (s := S2x256x128) ![1, 0, 0] ![1, 256, 128] inb1, w1⟩ : View.Piece (Elt Ideal) S2x256x128 .f32)
      :: ⟨Rect.unit (s := S2x256x128) ![0, 0, 0] ![1, 256, 128] inb0, w0⟩ :: L) (ix3 s i j) = (![w0, w1] s) (ix3 0 i j) := by
  match s with
  | ⟨1, h⟩ => exact slab_hit (m := 2) (n := 256) (k := 128) inb1 w1 _ i j h le_rfl le_rfl
  | ⟨0, h⟩ => exact (slab_miss (m := 2) (n := 256) (k := 128) inb1 w1 _ _ i j (by simp)).trans (slab_hit (m := 2) (n := 256) (k := 128) inb0 w0 _ i j h le_rfl le_rfl)

/-- Columns of the slab written last, read back. -/
theorem cov_slab {sg : RefSig} {κ : Kind} {sp : Space} (v : View sg κ sp S2x256x128 .f32) {o k q : ℕ} (inb inb') (w : Vec Ideal S1x256x128 .f32) (L : List (View.Piece (Elt Ideal) S2x256x128 .f32))
    (i : Fin 256) (j : Fin q) (hj : k + j < 128) :
    v.readCov ((⟨Rect.unit (s := S2x256x128) ![o, 0, 0] ![1, 256, 128] inb, w⟩ : View.Piece (Elt Ideal) S2x256x128 .f32) :: L)
      (Rect.unit (s := S2x256x128) ![o, 0, k] ![1, 256, q] inb').toLoadRect (ix3 0 i j) = w (ix3 0 i ⟨k + j, hj⟩) := by
  rw [View.readCov_eq_canon']
  have hy : (Rect.unit (s := S2x256x128) ![o, 0, k] ![1, 256, q] inb').toLoadRect.idx (ix3 0 i j)
      = (Rect.unit (s := S2x256x128) ![o, 0, 0] ![1, 256, 128] inb).emb (ix3 (0 : Fin 1) i ⟨k + j, hj⟩) := by
    funext a; apply Fin.ext
    match a with
    | ⟨0, _⟩ => rfl
    | ⟨1, _⟩ => rfl
    | ⟨2, _⟩ => show k + 1 * (j : ℕ) = 0 + 1 * (k + j); omega
  dsimp only
  rw [hy]
  exact View.canon_cons_emb _ _ _ _

theorem ld_num (X : Vec Ideal S2x256x128 .f32) {o : ℕ} (inb) (h : o < 2) (r : Fin 256) (e : Fin 128) :
    View.ld X (Rect.unit (s := S2x256x128) ![o, 0, 0] ![1, 256, 128] inb) (ix3 0 r e) = X (ix3 ⟨o, h⟩ r e) :=
  ld3 X inb r e h le_rfl le_rfl

theorem num_A (hI : In1 A V c) (h0 : t.val % 16 = 0) (h1 : ¬t.val % 16 = 15) (k : Fin 2) (r : Fin 256) (e : Fin 128) :
    (outsAt1 V c t.val t.isLt).2 (ix3 k r e) = Sums A V c t (t.val % 16 + 1) k r e := by
  have z : ∀ (k : Fin 2) {n : ℕ} (hk : n = k) (inb), View.ld (Val := Elt Ideal) (e' := .f32) (k1_pay6 (F := Ideal)) (Rect.unit (s := S2x256x128) ![n, 0, 0] ![1, 256, 128] inb) (ix3 0 r e)
      = Sums A V c t (t.val % 16) k r e := by
    intro k n hk inb
    subst hk
    rw [ld_num _ inb k.2, h0]
    exact pay6_at _ r e
  rw [outsAt1_A V c t h0 h1]
  frame_out
  simp (disch := decide) only [↓ View.readCov_skip, ↓ View.readCov_cons_toLoadRect, ↓ View.readCov_fill]
  refine (slabs2 _ _ _ _ _ k r e).trans ?_
  match k with
  | ⟨0, _⟩ => exact step0 t hI _ r e (z 0 rfl _)
  | ⟨1, _⟩ => exact step1 t hI _ r e (z 1 rfl _)

/-- What the point before left, in the point's own terms. -/
theorem prev_eq (hm : ¬t.val % 16 = 0) (X : Vec Ideal S2x256x128 .f32)
    (hX : ∀ k r e, X (ix3 k r e) = Sums A V c ⟨t.val - 1, Nat.lt_of_le_of_lt (Nat.sub_le _ _) t.isLt⟩ ((t.val - 1) % 16 + 1) k r e)
    (k : Fin 2) {n : ℕ} (hk : n = k) (inb) (r : Fin 256) (e : Fin 128) :
    View.ld X (Rect.unit (s := S2x256x128) ![n, 0, 0] ![1, 256, 128] inb) (ix3 0 r e) = Sums A V c t (t.val % 16) k r e := by
  subst hk
  rw [ld_num _ inb k.2, hX k r e, Sums, Sums,
    show b1 ⟨t.val - 1, Nat.lt_of_le_of_lt (Nat.sub_le _ _) t.isLt⟩ = b1 t by ext; show (t.val - 1) / 256 = t.val / 256; omega,
    show q1 ⟨t.val - 1, Nat.lt_of_le_of_lt (Nat.sub_le _ _) t.isLt⟩ = q1 t by ext; show (t.val - 1) / 16 % 16 = t.val / 16 % 16; omega,
    show (t.val - 1) % 16 + 1 = t.val % 16 by omega]

theorem num_B (hI : In1 A V c) (h0 : ¬t.val % 16 = 0) (h1 : ¬t.val % 16 = 15)
    (hX : ∀ k r e, (outsAt1 V c (t.val - 1) (Nat.lt_of_le_of_lt (Nat.sub_le _ _) t.isLt)).2 (ix3 k r e) = Sums A V c ⟨t.val - 1, Nat.lt_of_le_of_lt (Nat.sub_le _ _) t.isLt⟩ ((t.val - 1) % 16 + 1) k r e)
    (k : Fin 2) (r : Fin 256) (e : Fin 128) : (outsAt1 V c t.val t.isLt).2 (ix3 k r e) = Sums A V c t (t.val % 16 + 1) k r e := by
  rw [outsAt1_B V c t h0 h1]
  frame_out
  try simp (disch := decide) only [↓ View.readCov_skip, ↓ View.readCov_cons_toLoadRect, ↓ View.readCov_fill]
  try simp only [read_unread_whole]
  refine (slabs2 _ _ _ _ _ k r e).trans ?_
  match k with
  | ⟨0, _⟩ => exact step0 t hI _ r e (prev_eq t h0 _ hX 0 rfl _ r e)
  | ⟨1, _⟩ => exact step1 t hI _ r e (prev_eq t h0 _ hX 1 rfl _ r e)

theorem num_C (hI : In1 A V c) (h0 : ¬t.val % 16 = 0) (h1 : t.val % 16 = 15)
    (hX : ∀ k r e, (outsAt1 V c (t.val - 1) (Nat.lt_of_le_of_lt (Nat.sub_le _ _) t.isLt)).2 (ix3 k r e) = Sums A V c ⟨t.val - 1, Nat.lt_of_le_of_lt (Nat.sub_le _ _) t.isLt⟩ ((t.val - 1) % 16 + 1) k r e) :
    (∀ (k : Fin 2) (r : Fin 256) (e : Fin 128), (outsAt1 V c t.val t.isLt).2 (ix3 k r e) = Sums A V c t (t.val % 16 + 1) k r e)
    ∧ ∀ (r : Fin 256) (d : Fin 1024), (outsAt1 V c t.val t.isLt).1 (ix3 0 r d) = out A (b1 t) (pos (q1 t) r) d := by
  rw [outsAt1_C V c t h0 h1]
  constructor
  · intro k r e
    frame_out
    try simp (disch := decide) only [↓ View.readCov_skip, ↓ View.readCov_cons_toLoadRect, ↓ View.readCov_fill]
    try simp only [read_unread_whole]
    refine (slabs2 _ _ _ _ _ k r e).trans ?_
    match k with
    | ⟨0, _⟩ => exact step0 t hI _ r e (prev_eq t h0 _ hX 0 rfl _ r e)
    | ⟨1, _⟩ => exact step1 t hI _ r e (prev_eq t h0 _ hX 1 rfl _ r e)
  · intro r d
    have s0 : ∀ (e : Fin 128) f, (∀ t', W V c (b1 t) e t' = f t') → Sums A V c t (t.val % 16 + 1) 0 r e = held A (b1 t) (pos (q1 t) r) 0 f := by
      intro e f hf; rw [h1, Sums, G_all]; exact congrArg _ (funext hf)
    have s1 : ∀ (e : Fin 128) f, (∀ t', W V c (b1 t) e t' = f t') → Sums A V c t (t.val % 16 + 1) 1 r e = held A (b1 t) (pos (q1 t) r) 1 f := by
      intro e f hf; rw [h1, Sums, G_all]; exact congrArg _ (funext hf)
    frame_out
    try simp (disch := decide) only [↓ View.readCov_skip, ↓ View.readCov_cons_toLoadRect, ↓ View.readCov_fill]
    try simp only [read_unread_whole]
    refine out_at A (b1 t) r (pos (q1 t) r) _ _ _ _ _ _ _ _ (fun e => ?_) ?_ (fun e => ?_) ?_ (fun d e => ?_) ?_ (fun d => ?_) (fun d => ?_) d
    · rw [cov_slab _ _ _ _ _ r e (by omega), step0 t hI _ r _ (prev_eq (n := 0) t h0 _ hX 0 rfl _ r _)]
      refine s0 _ _ fun t' => ?_
      rw [W, ← hI.wv]
      congr 2; ext; show 0 + (e : ℕ) = e; omega
    · rw [cov_slab _ _ _ _ _ r 0 (by decide), step0 t hI _ r _ (prev_eq (n := 0) t h0 _ hX 0 rfl _ r _)]
      exact s0 _ _ fun t' => hI.wg _ _
    · rw [cov_slab _ _ _ _ _ r e (by omega), step1 t hI _ r _ (prev_eq (n := 1) t h0 _ hX 1 rfl _ r _)]
      refine s1 _ _ fun t' => ?_
      rw [W, ← hI.wv]
      congr 2; ext; show 0 + (e : ℕ) = e; omega
    · rw [cov_slab _ _ _ _ _ r 0 (by decide), step1 t hI _ r _ (prev_eq (n := 1) t h0 _ hX 1 rfl _ r _)]
      exact s1 _ _ fun t' => hI.wg _ _
    · rw [blk1_6]; exact hI.memW d e
    · rw [blk1_3]; exact hI.gm _ _
    · rw [blk1_4]; exact hI.x _ _ _
    · rw [blk1_5]; exact hI.acc _ _ _

theorem num_all (hI : In1 A V c) : ∀ (n : ℕ) (hn : n < cfg1.N) (k : Fin 2) (r : Fin 256) (e : Fin 128),
    (outsAt1 V c n hn).2 (ix3 k r e) = Sums A V c ⟨n, hn⟩ (n % 16 + 1) k r e := by
  intro n
  induction n with
  | zero => intro hn; exact num_A ⟨0, hn⟩ hI rfl (by show ¬0 % 16 = 15; decide)
  | succ n ih =>
    intro hn
    by_cases h0 : (n + 1) % 16 = 0
    · exact num_A ⟨n + 1, hn⟩ hI h0 (by show ¬(n + 1) % 16 = 15; omega)
    · by_cases h1 : (n + 1) % 16 = 15
      · exact (num_C ⟨n + 1, hn⟩ hI h0 h1 (ih (Nat.lt_of_succ_lt hn))).1
      · exact num_B ⟨n + 1, hn⟩ hI h0 h1 (ih (Nat.lt_of_succ_lt hn))

theorem out_arr (hI : In1 A V c) (b : Fin 2) (s : Fin 4096) (d : Fin 1024) : (dat1 V c).arrAt 7 cfg1.N (ix3 b s d) = out A b s d := by
  refine (dat1 V c).arrAt_forall_of_covers 7 (fun (i : S2x4096x1024.Idx) (v : EReal) => v = out A (i 0) (i 1) (i 2))
    (by decide +kernel) (fun t hf y => ?_) (ix3 b s d)
  obtain ⟨r, d, rfl⟩ := idx_ix3 y
  have hf : t.val % 16 = 15 := (by decide +kernel : ∀ t : Fin grid1.N, win1_7.flush t = true → t.val % 16 = 15) t hf
  blk_simp
  rw [after1_7]
  have e := emb1_7 t r d
  dsimp only
  rw [e]
  exact (num_C t hI (by omega) hf (num_all hI (t.val - 1) _)).2 r d

end Cert.KernelIdeal.Hand
-- ==== Proof.Inputs.lean ====
module

public import proofs.«01_k».proof.Proof.Math
public import Idealize.ShloMosaic.Lib.Pipeline.ValueKit

/-! The problem's inputs, read off the argument arrays. -/

@[expose] public section

noncomputable section

namespace Cert.Math

open Idealize.ShloMosaic

def ofArrays
    (a0 : (⟨3, ![2, 4096, 1024]⟩ : Shape).Idx → EReal)
    (a1 : (⟨2, ![1024, 4]⟩ : Shape).Idx → EReal)
    (a2 : (⟨2, ![1024, 1024]⟩ : Shape).Idx → EReal)
    (a3 : (⟨1, ![1024]⟩ : Shape).Idx → EReal)
    (a4 : (⟨2, ![2048, 1024]⟩ : Shape).Idx → EReal)
    (a5 : (⟨1, ![2048]⟩ : Shape).Idx → EReal)
    (a6 : (⟨2, ![1024, 2048]⟩ : Shape).Idx → EReal)
    (a7 : (⟨1, ![1024]⟩ : Shape).Idx → EReal)
    (a8 : (⟨2, ![4096, 1024]⟩ : Shape).Idx → EReal)
    (a9 : (⟨2, ![1024, 4096]⟩ : Shape).Idx → EReal)
    (a10 : (⟨1, ![4]⟩ : Shape).Idx → EReal)
    (a11 : (⟨2, ![32, 1024]⟩ : Shape).Idx → EReal)
    (a12 : (⟨2, ![32, 1024]⟩ : Shape).Idx → EReal)
    (a13 : (⟨2, ![64, 1024]⟩ : Shape).Idx → EReal)
    (a14 : (⟨2, ![1024, 64]⟩ : Shape).Idx → EReal)
    (a15 : (⟨2, ![1, 1024]⟩ : Shape).Idx → EReal)
    (a16 : (⟨1, ![1]⟩ : Shape).Idx → EReal)
    (a17 : (⟨2, ![1, 1024]⟩ : Shape).Idx → EReal)
    (a18 : (⟨1, ![1]⟩ : Shape).Idx → EReal)
    (a19 : (⟨2, ![1, 1024]⟩ : Shape).Idx → EReal)
    (a20 : (⟨1, ![1]⟩ : Shape).Idx → EReal) : Args :=
  ⟨fun b t d => a0 (ix3 b t d),
    fun d k => a1 (ix2 d k),
    fun d k => a2 (ix2 d k),
    fun d => a3 (ix1 d),
    fun i d => a4 (ix2 i d),
    fun i => a5 (ix1 i),
    fun d i => a6 (ix2 d i),
    fun d => a7 (ix1 d),
    fun i d => a8 (ix2 i d),
    fun d i => a9 (ix2 d i),
    fun k => a10 (ix1 k),
    fun q d => a11 (ix2 q d),
    fun q d => a12 (ix2 q d),
    fun q d => a13 (ix2 q d),
    fun d e => a14 (ix2 d e),
    fun d => a15 (ix2 0 d),
    a16 (ix1 0),
    fun d => a17 (ix2 0 d),
    a18 (ix1 0),
    fun d => a19 (ix2 0 d),
    a20 (ix1 0)⟩

end Cert.Math
-- ==== Proof.Prep.lean ====
module

public import proofs.«01_k».proof.Proof.Num
public import proofs.«01_k».proof.Proof.Inputs
public import proofs.«01_k».proof.Proof.Fold
public import Idealize.ShloMosaic.Lib.Routing.OpsPair
public import Idealize.ShloMosaic.Lib.Routing.OpsSet

/-! What the host lays out for the launches, as the problem's math, and the array the whole program leaves. -/

@[expose] public section

set_option maxRecDepth 16384
set_option maxHeartbeats 1000000

noncomputable section

namespace Cert.KernelIdeal.Hand

open Cert.KernelIdeal Cert.KernelIdeal.Gen Idealize.ShloMosaic Idealize.ShloMosaic.TcCoe Idealize.ShloMosaic.Tactic Cert.Math

/-! ## Rows and entries set in an array -/

theorem start_eq {s si u : Shape} (d : ScatterDims s si u) (j : u.Idx) (idx : IVec si 32) (a : Fin s.rank) (q : si.Idx) (ha : a ∈ d.scatterDimsToOperandDims)
    (h : d.siIdx j ⟨d.scatterDimsToOperandDims.idxOf a, List.idxOf_lt_length_iff.2 ha⟩ = q) : d.start j idx a = (idx q).toInt := by
  unfold ScatterDims.start
  rw [dif_pos ha, h]

theorem put_rows {R C A : ℕ} (d : ScatterDims ⟨2, ![R, C]⟩ ⟨1, ![1]⟩ ⟨2, ![A, C]⟩) (h0 : ∀ (a : Fin A) (b : Fin C) (idx : IVec ⟨1, ![1]⟩ 32), d.start (ix2 a b) idx 0 = (idx (ix1 0)).toInt)
    (h1 : ∀ (a : Fin A) (b : Fin C) (idx : IVec ⟨1, ![1]⟩ 32), d.start (ix2 a b) idx 1 = 0) (h2 : ∀ (a : Fin A) (b : Fin C), d.window (ix2 a b) 0 = a) (h3 : ∀ (a : Fin A) (b : Fin C), d.window (ix2 a b) 1 = b)
    (x : (⟨2, ![R, C]⟩ : Shape).Idx → EReal) (idx : IVec ⟨1, ![1]⟩ 32) (u : (⟨2, ![A, C]⟩ : Shape).Idx → EReal) (n : ℕ) (hn : (idx (ix1 0)).toInt = n) (r : Fin R) (e : Fin C) :
    (∀ a : Fin A, (r : ℕ) = n + a → Host.scatter d (fun _ b => b) x idx u (ix2 r e) = u (ix2 a e))
      ∧ ((∀ a : Fin A, (r : ℕ) ≠ n + a) → Host.scatter d (fun _ b => b) x idx u (ix2 r e) = x (ix2 r e)) := by
  have key : ∀ (a : Fin A) (b : Fin C), d.resultIdx? (ix2 a b) idx = some (ix2 r e) ↔ (r : ℕ) = n + a ∧ b = e := by
    intro a b
    refine (Routing.resultIdx?_ix2 d _ idx r e).trans ?_
    rw [h0, h1, h2, h3, hn, Fin.ext_iff]
    omega
  constructor
  · intro a ha
    refine Routing.scatter_set_hit d x idx u _ _ (fun k hk => ?_) (ix2 a e) ((key a e).mpr ⟨ha, rfl⟩)
    obtain ⟨a', b', rfl⟩ : ∃ a' b', k = ix2 a' b' := ⟨k 0, k 1, funext fun i => by match i with | ⟨0, _⟩ => rfl | ⟨1, _⟩ => rfl⟩
    obtain ⟨e1, e2⟩ := (key a' b').mp hk
    rw [e2, show a' = a from Fin.ext (by omega)]
  · intro h
    refine Routing.scatter_set_miss d x idx u _ fun k hk => ?_
    obtain ⟨a', b', rfl⟩ : ∃ a' b', k = ix2 a' b' := ⟨k 0, k 1, funext fun i => by match i with | ⟨0, _⟩ => rfl | ⟨1, _⟩ => rfl⟩
    exact h a' ((key a' b').mp hk).1

theorem put_row {R C : ℕ} (d : ScatterDims ⟨2, ![R, C]⟩ ⟨1, ![1]⟩ ⟨1, ![C]⟩) (h0 : ∀ (b : Fin C) (idx : IVec ⟨1, ![1]⟩ 32), d.start (ix1 b) idx 0 = (idx (ix1 0)).toInt)
    (h1 : ∀ (b : Fin C) (idx : IVec ⟨1, ![1]⟩ 32), d.start (ix1 b) idx 1 = 0) (h2 : ∀ b : Fin C, d.window (ix1 b) 0 = 0) (h3 : ∀ b : Fin C, d.window (ix1 b) 1 = b)
    (x : (⟨2, ![R, C]⟩ : Shape).Idx → EReal) (idx : IVec ⟨1, ![1]⟩ 32) (u : (⟨1, ![C]⟩ : Shape).Idx → EReal) (n : ℕ) (hn : (idx (ix1 0)).toInt = n) (r : Fin R) (e : Fin C) :
    ((r : ℕ) = n → Host.scatter d (fun _ b => b) x idx u (ix2 r e) = u (ix1 e))
      ∧ ((r : ℕ) ≠ n → Host.scatter d (fun _ b => b) x idx u (ix2 r e) = x (ix2 r e)) := by
  have key : ∀ b : Fin C, d.resultIdx? (ix1 b) idx = some (ix2 r e) ↔ (r : ℕ) = n ∧ b = e := by
    intro b
    refine (Routing.resultIdx?_ix2 d _ idx r e).trans ?_
    rw [h0, h1, h2, h3, hn, Fin.ext_iff]
    omega
  constructor
  · intro ha
    refine Routing.scatter_set_hit d x idx u _ _ (fun k hk => ?_) (ix1 e) ((key e).mpr ⟨ha, rfl⟩)
    obtain ⟨b', rfl⟩ : ∃ b', k = ix1 b' := ⟨k 0, funext fun i => by match i with | ⟨0, _⟩ => rfl⟩
    rw [((key b').mp hk).2]
  · intro h
    refine Routing.scatter_set_miss d x idx u _ fun k hk => ?_
    obtain ⟨b', rfl⟩ : ∃ b', k = ix1 b' := ⟨k 0, funext fun i => by match i with | ⟨0, _⟩ => rfl⟩
    exact h ((key b').mp hk).1

theorem put_cell (x : S1x256.Idx → EReal) (idx : IVec S2 32) (u : S_.Idx → EReal) (n : ℕ) (h0 : (idx (ix1 0)).toInt = 0) (hn : (idx (ix1 1)).toInt = n) (e : Fin 256) :
    ((e : ℕ) = n → Host.scatter scatter_S1x256_S2_S__n_01_01_0 (fun _ b => b) x idx u (ix2 0 e) = u ix0)
      ∧ ((e : ℕ) ≠ n → Host.scatter scatter_S1x256_S2_S__n_01_01_0 (fun _ b => b) x idx u (ix2 0 e) = x (ix2 0 e)) := by
  have key : ∀ k, scatter_S1x256_S2_S__n_01_01_0.resultIdx? k idx = some (ix2 0 e) ↔ (e : ℕ) = n := by
    intro k
    refine (Routing.resultIdx?_ix2 scatter_S1x256_S2_S__n_01_01_0 k idx (0 : Fin 1) e).trans ?_
    have e0 : scatter_S1x256_S2_S__n_01_01_0.start k idx 0 = (idx (ix1 0)).toInt := start_eq _ _ _ 0 (ix1 0) (by decide) (funext fun b => Fin.ext (by match b with | ⟨0, _⟩ => rfl))
    have e1 : scatter_S1x256_S2_S__n_01_01_0.start k idx 1 = (idx (ix1 1)).toInt := start_eq _ _ _ 1 (ix1 1) (by decide) (funext fun b => Fin.ext (by match b with | ⟨0, _⟩ => rfl))
    have e2 : scatter_S1x256_S2_S__n_01_01_0.window k 0 = 0 := rfl
    have e3 : scatter_S1x256_S2_S__n_01_01_0.window k 1 = 0 := rfl
    rw [e0, e1, e2, e3, h0, hn]
    simp only [Fin.val_zero]
    omega
  constructor
  · intro ha
    exact Routing.scatter_set_hit _ x idx u _ _ (fun k hk => congrArg u (funext fun i => i.elim0)) ix0 ((key ix0).mpr ha)
  · intro h
    exact Routing.scatter_set_miss _ x idx u _ fun k hk => h ((key k).mp hk)

def put8 := put_rows scatter_S8x1024_S1_S4x1024_01_n_0_0 (fun _ _ _ => start_eq _ _ _ 0 (ix1 0) (by decide) (funext fun b => Fin.ext (by match b with | ⟨0, _⟩ => rfl))) (fun _ _ _ => rfl) (fun _ _ => rfl) (fun _ _ => rfl)
def put32 := put_rows scatter_S256x1024_S1_S32x1024_01_n_0_0 (fun _ _ _ => start_eq _ _ _ 0 (ix1 0) (by decide) (funext fun b => Fin.ext (by match b with | ⟨0, _⟩ => rfl))) (fun _ _ _ => rfl) (fun _ _ => rfl) (fun _ _ => rfl)
def put64 := put_rows scatter_S256x1024_S1_S64x1024_01_n_0_0 (fun _ _ _ => start_eq _ _ _ 0 (ix1 0) (by decide) (funext fun b => Fin.ext (by match b with | ⟨0, _⟩ => rfl))) (fun _ _ _ => rfl) (fun _ _ => rfl) (fun _ _ => rfl)
def put1 := put_row scatter_S256x1024_S1_S1024_0_0_0_0 (fun _ _ => start_eq _ _ _ 0 (ix1 0) (by decide) (funext fun b => Fin.ext (by match b with | ⟨0, _⟩ => rfl))) (fun _ _ => rfl) (fun _ => rfl) (fun _ => rfl)

theorem row_at (h) (x : (⟨2, ![1, 1024]⟩ : Shape).Idx → EReal) (d : Fin 1024) : shapeCast (⟨1, ![1024]⟩ : Shape) x h (ix1 d) = x (ix2 0 d) := by
  pointwise

theorem cell_at (h) (x : (⟨1, ![1]⟩ : Shape).Idx → EReal) : shapeCast (⟨0, ![]⟩ : Shape) x h ix0 = x (ix1 0) := by
  pointwise

theorem flat1024 (h) (x : (⟨1, ![1024]⟩ : Shape).Idx → EReal) (d : Fin 1024) : shapeCast (⟨2, ![1, 1024]⟩ : Shape) x h (ix2 0 d) = x (ix1 d) := by
  pointwise

theorem flat2048 (h) (x : (⟨1, ![2048]⟩ : Shape).Idx → EReal) (d : Fin 2048) : shapeCast (⟨2, ![1, 2048]⟩ : Shape) x h (ix2 0 d) = x (ix1 d) := by
  pointwise

variable (m : (ℓ : Loc nD τ sig) → Buf (Elt Ideal) ℓ) (ρ : Dev nD → PrngReg) (c : Dev nD)

/-- The problem's inputs on a device. -/
def argsOf : Args :=
  ofArrays (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))

theorem v41_at (k : Fin 4) : V1 m ρ c main_v41 (ix1 k) = alpha (argsOf m c) k := by
  show StableHlo.after hostOps0 (W0 m ρ c) (Proc.devRef .tc main_v41) (ix1 k) = _
  after_results
  pointwise
  rfl

theorem v42_at (k : Fin 4) : V1 m ρ c main_v42 (ix1 k) = Ideal.log (alpha (argsOf m c) k) := by
  show StableHlo.after hostOps0 (W0 m ρ c) (Proc.devRef .tc main_v42) (ix1 k) = _
  after_results
  pointwise
  rfl

theorem v3_at (k : Fin 4) (d : Fin 1024) : V1 m ρ c main_v3 (ix2 ⟨k, by omega⟩ d) = (argsOf m c).convW d k := by
  show StableHlo.after hostOps0 (W0 m ρ c) (Proc.devRef .tc main_v3) (ix2 ⟨k, by omega⟩ d) = _
  after_results
  refine ((put8 _ _ _ 0 rfl _ d).1 k (Nat.zero_add _).symm).trans ?_
  pointwise
  rfl

theorem v45_at (d k : Fin 1024) : V1 m ρ c main_v45 (ix2 d k) = (argsOf m c).gateW d k := by
  show StableHlo.after hostOps0 (W0 m ρ c) (Proc.devRef .tc main_v45) (ix2 d k) = _
  after_results
  pointwise
  rfl

theorem v43_at (i : Fin 4096) (d : Fin 1024) : V1 m ρ c main_v43 (ix2 i d) = (argsOf m c).inW i d := by
  show StableHlo.after hostOps0 (W0 m ρ c) (Proc.devRef .tc main_v43) (ix2 i d) = _
  after_results
  pointwise
  rfl

theorem v44_at (d : Fin 1024) (i : Fin 4096) : V1 m ρ c main_v44 (ix2 d i) = (argsOf m c).outW d i := by
  show StableHlo.after hostOps0 (W0 m ρ c) (Proc.devRef .tc main_v44) (ix2 d i) = _
  after_results
  pointwise
  rfl

theorem v47_at (i : Fin 2048) (d : Fin 1024) : V1 m ρ c main_v47 (ix2 i d) = (argsOf m c).upW i d := by
  show StableHlo.after hostOps0 (W0 m ρ c) (Proc.devRef .tc main_v47) (ix2 i d) = _
  after_results
  pointwise
  rfl

theorem v49_at (d : Fin 1024) (i : Fin 2048) : V1 m ρ c main_v49 (ix2 d i) = (argsOf m c).downW d i := by
  show StableHlo.after hostOps0 (W0 m ρ c) (Proc.devRef .tc main_v49) (ix2 d i) = _
  after_results
  pointwise
  rfl

theorem v46_at (d : Fin 1024) : V1 m ρ c main_v46 (ix2 0 d) = (argsOf m c).gateB d := by
  show StableHlo.after hostOps0 (W0 m ρ c) (Proc.devRef .tc main_v46) (ix2 0 d) = _
  after_results
  exact flat1024 _ _ d

theorem v48_at (d : Fin 2048) : V1 m ρ c main_v48 (ix2 0 d) = (argsOf m c).upB d := by
  show StableHlo.after hostOps0 (W0 m ρ c) (Proc.devRef .tc main_v48) (ix2 0 d) = _
  after_results
  exact flat2048 _ _ d

theorem v50_at (d : Fin 1024) : V1 m ρ c main_v50 (ix2 0 d) = (argsOf m c).downB d := by
  show StableHlo.after hostOps0 (W0 m ρ c) (Proc.devRef .tc main_v50) (ix2 0 d) = _
  after_results
  exact flat1024 _ _ d

theorem pr_at (q : Fin 32) (d : Fin 1024) : V1 m ρ c main_v19 (ix2 ⟨q, by omega⟩ d) = (argsOf m c).readW q d := by
  show StableHlo.after hostOps0 (W0 m ρ c) (Proc.devRef .tc main_v19) (ix2 ⟨q, by omega⟩ d) = _
  after_results
  exact ((put1 _ _ _ 130 rfl _ d).2 (by have := q.isLt; simp only [ne_eq]; omega)).trans <| ((put1 _ _ _ 129 rfl _ d).2 (by have := q.isLt; simp only [ne_eq]; omega)).trans <| ((put1 _ _ _ 128 rfl _ d).2 (by have := q.isLt; simp only [ne_eq]; omega)).trans <| ((put64 _ _ _ 64 rfl _ d).2 fun a => by simp only [ne_eq]; omega).trans <| ((put32 _ _ _ 32 rfl _ d).2 fun a => by simp only [ne_eq]; omega).trans <| (put32 _ _ _ 0 rfl _ d).1 q (Nat.zero_add _).symm

theorem pw_at (q : Fin 32) (d : Fin 1024) : V1 m ρ c main_v19 (ix2 ⟨32 + q, by omega⟩ d) = (argsOf m c).writeW q d := by
  show StableHlo.after hostOps0 (W0 m ρ c) (Proc.devRef .tc main_v19) (ix2 ⟨32 + q, by omega⟩ d) = _
  after_results
  exact ((put1 _ _ _ 130 rfl _ d).2 (by have := q.isLt; simp only [ne_eq]; omega)).trans <| ((put1 _ _ _ 129 rfl _ d).2 (by have := q.isLt; simp only [ne_eq]; omega)).trans <| ((put1 _ _ _ 128 rfl _ d).2 (by have := q.isLt; simp only [ne_eq]; omega)).trans <| ((put64 _ _ _ 64 rfl _ d).2 fun a => by simp only [ne_eq]; omega).trans <| (put32 _ _ _ 32 rfl _ d).1 q rfl

theorem pv_at (q : Fin 64) (d : Fin 1024) : V1 m ρ c main_v19 (ix2 ⟨64 + q, by omega⟩ d) = (argsOf m c).valW q d := by
  show StableHlo.after hostOps0 (W0 m ρ c) (Proc.devRef .tc main_v19) (ix2 ⟨64 + q, by omega⟩ d) = _
  after_results
  exact ((put1 _ _ _ 130 rfl _ d).2 (by have := q.isLt; simp only [ne_eq]; omega)).trans <| ((put1 _ _ _ 129 rfl _ d).2 (by have := q.isLt; simp only [ne_eq]; omega)).trans <| ((put1 _ _ _ 128 rfl _ d).2 (by have := q.isLt; simp only [ne_eq]; omega)).trans <| (put64 _ _ _ 64 rfl _ d).1 q rfl

theorem pwg_at (d : Fin 1024) : V1 m ρ c main_v19 (ix2 128 d) = (argsOf m c).wgW d := by
  show StableHlo.after hostOps0 (W0 m ρ c) (Proc.devRef .tc main_v19) (ix2 128 d) = _
  after_results
  exact ((put1 _ _ _ 130 rfl _ d).2 (by decide)).trans <| ((put1 _ _ _ 129 rfl _ d).2 (by decide)).trans <| ((put1 _ _ _ 128 rfl _ d).1 rfl).trans (row_at _ _ d)

theorem pgl_at (d : Fin 1024) : V1 m ρ c main_v19 (ix2 129 d) = (argsOf m c).glW d := by
  show StableHlo.after hostOps0 (W0 m ρ c) (Proc.devRef .tc main_v19) (ix2 129 d) = _
  after_results
  exact ((put1 _ _ _ 130 rfl _ d).2 (by decide)).trans <| ((put1 _ _ _ 129 rfl _ d).1 rfl).trans (row_at _ _ d)

theorem pgm_at (d : Fin 1024) : V1 m ρ c main_v19 (ix2 130 d) = (argsOf m c).gmW d := by
  show StableHlo.after hostOps0 (W0 m ρ c) (Proc.devRef .tc main_v19) (ix2 130 d) = _
  after_results
  exact ((put1 _ _ _ 130 rfl _ d).1 rfl).trans (row_at _ _ d)

theorem b0_at (q : Fin 128) : V1 m ρ c main_v35 (ix2 0 ⟨q, by omega⟩) = (0 : EReal) := by
  show StableHlo.after hostOps0 (W0 m ρ c) (Proc.devRef .tc main_v35) (ix2 0 ⟨q, by omega⟩) = _
  after_results
  refine ((put_cell _ _ _ 130 rfl rfl _).2 (by have := q.isLt; simp only [ne_eq]; omega)).trans <| ((put_cell _ _ _ 129 rfl rfl _).2 (by have := q.isLt; simp only [ne_eq]; omega)).trans <| ((put_cell _ _ _ 128 rfl rfl _).2 (by have := q.isLt; simp only [ne_eq]; omega)).trans <| ?_
  pointwise

theorem bwg_at : V1 m ρ c main_v35 (ix2 0 128) = (argsOf m c).wgB := by
  show StableHlo.after hostOps0 (W0 m ρ c) (Proc.devRef .tc main_v35) (ix2 0 128) = _
  after_results
  exact ((put_cell _ _ _ 130 rfl rfl _).2 (by decide)).trans <| ((put_cell _ _ _ 129 rfl rfl _).2 (by decide)).trans <| ((put_cell _ _ _ 128 rfl rfl _).1 rfl).trans (cell_at _ _)

theorem bgl_at : V1 m ρ c main_v35 (ix2 0 129) = (argsOf m c).glB := by
  show StableHlo.after hostOps0 (W0 m ρ c) (Proc.devRef .tc main_v35) (ix2 0 129) = _
  after_results
  exact ((put_cell _ _ _ 130 rfl rfl _).2 (by decide)).trans <| ((put_cell _ _ _ 129 rfl rfl _).1 rfl).trans (cell_at _ _)

theorem bgm_at : V1 m ρ c main_v35 (ix2 0 130) = (argsOf m c).gmB := by
  show StableHlo.after hostOps0 (W0 m ρ c) (Proc.devRef .tc main_v35) (ix2 0 130) = _
  after_results
  exact ((put_cell _ _ _ 130 rfl rfl _).1 rfl).trans (cell_at _ _)

theorem in0 : In0 (argsOf m c) (V1 m ρ) c where
  al := v41_at m ρ c
  ll := v42_at m ρ c
  x b t d := congrFun (W1_args m ρ c main_arg0 (by decide)) (ix3 b t d)
  cw := v3_at m ρ c
  gateW := v45_at m ρ c
  gateB := v46_at m ρ c
  pr := pr_at m ρ c
  pw := pw_at m ρ c
  pv := pv_at m ρ c
  pwg := pwg_at m ρ c
  pgl := pgl_at m ρ c
  pgm := pgm_at m ρ c
  b0 := b0_at m ρ c
  bwg := bwg_at m ρ c
  bgl := bgl_at m ρ c
  bgm := bgm_at m ρ c
  inW := v43_at m ρ c
  outW := v44_at m ρ c
  upW := v47_at m ρ c
  upB := v48_at m ρ c
  downW := v49_at m ρ c
  downB := v50_at m ρ c

/-- What the first launch leaves in an array, the host operations between the launches keep. -/
theorem left0 (w : Fin cfg0.W) (h : Pipeline.arrRef spec0 w ∉ hostOps1_W) : V3 m ρ c (Pipeline.arrRef spec0 w) = (dat0 (V1 m ρ) c).arrAt w cfg0.N :=
  (W3_of m ρ c _ h).trans (W2_arr m ρ c w)

theorem in1 : In1 (argsOf m c) (V3 m ρ) c where
  acc b t d := (congrFun (left0 m ρ c 15 (by decide)) (ix3 b t d)).trans (acc_arr (in0 m ρ c) b t d)
  wv b t e := (congrFun (left0 m ρ c 16 (by decide)) (ix3 b t ⟨e, by omega⟩)).trans ((wvwg_arr (in0 m ρ c) b t).1 e)
  wg b t := (congrFun (left0 m ρ c 16 (by decide)) (ix3 b t 64)).trans (wvwg_arr (in0 m ρ c) b t).2.1
  gm b t := (congrFun (left0 m ρ c 16 (by decide)) (ix3 b t 66)).trans (wvwg_arr (in0 m ρ c) b t).2.2
  rb b t q := (congrFun (left0 m ρ c 17 (by decide)) (ix3 b t ⟨q, by omega⟩)).trans (bits_arr (in0 m ρ c) b t q).1
  wb b t q := (congrFun (left0 m ρ c 17 (by decide)) (ix3 b t ⟨32 + q, by omega⟩)).trans (bits_arr (in0 m ρ c) b t q).2
  x b t d := congrFun (W3_args m ρ c main_arg0 (by decide)) (ix3 b t d)
  memW d e := by
    show StableHlo.after hostOps1 (W2 m ρ c) (Proc.devRef .tc main_v52) (ix2 d e) = _
    after_results
    exact congrFun (W2_args m ρ c main_arg14 (by decide)) (ix2 d e)

/-- The kernel's result, element by element. -/
theorem kernel_out (b : Fin 2) (t : Fin 4096) (d : Fin 1024) : V4 m ρ c main_v53 (ix3 b t d) = out (argsOf m c) b t d :=
  (congrFun (W4_arr m ρ c 7) (ix3 b t d)).trans (out_arr (in1 m ρ c) b t d)

end Cert.KernelIdeal.Hand
-- ==== Proof.RefCut.lean ====
module

public import proofs.«01_k».proof.Proof.RefFrame
public import proofs.«01_k».proof.Proof.Inputs
public import Idealize.ShloMosaic.Lib.StableHlo.RunClose
public import Idealize.ShloMosaic.Lib.StableHlo.RunRead

/-! The operations after the loop, taken a stretch at a time. -/

@[expose] public section

set_option maxRecDepth 16384
set_option maxHeartbeats 1000000

noncomputable section

namespace Cert.ReferenceIdeal.Hand

open Cert.ReferenceIdeal Cert.ReferenceIdeal.Gen Idealize.ShloMosaic Idealize.ShloMosaic.TcCoe Idealize.ShloMosaic.Tactic Cert.Math
open Idealize.ShloMosaic.StableHlo

/-- What the buffers hold. -/
abbrev Val := Valuation τ sig (Elt Ideal)

/-- A buffer of the program. -/
abbrev rf (b : Ref sig .tc) := Proc.devRef (τ := τ) .tc b

/-- After the first `n` of the operations that follow the loop. -/
def upTo (n : ℕ) (V : Val) : Val := after (hostOps0_5.take n) V

theorem upTo_add (a n : ℕ) (V : Val) : upTo (a + n) V = after ((hostOps0_5.drop a).take n) (upTo a V) := by
  unfold upTo
  rw [List.take_add, after_append]

theorem upTo_all (V : Val) : upTo 307 V = after hostOps0_5 V := rfl

theorem keep_list {L : List (HloOp τ sig (Elt Ideal))} {W : List (Ref sig .tc)} (h : List.Forall₂ (fun op w => op.writes = {rf w}) L W) (V : Val) (b : Ref sig .tc)
    (hb : b ∉ W) : after L V (rf b) = V (rf b) := by
  refine after_of_writes_sub L V (W := W) ?_ hb
  rw [List.forall_iff_forall_mem]
  induction h with
  | nil => simp
  | cons h0 _ ih =>
    intro op hop
    rcases List.mem_cons.mp hop with rfl | hop
    · rw [h0]; simp
    · refine (ih (fun h => hb (List.mem_cons_of_mem _ h)) op hop).trans ?_
      simp

theorem aligned : List.Forall₂ (fun (op : HloOp τ sig (Elt Ideal)) w => op.writes = {rf w}) hostOps0_5 hostOps0_5_W := by
  repeat' first | exact List.Forall₂.nil | refine List.Forall₂.cons rfl ?_

theorem upTo_keep (a n : ℕ) (V : Val) (b : Ref sig .tc) (hb : b ∉ (hostOps0_5_W.drop a).take n) : upTo (a + n) V (rf b) = upTo a V (rf b) := by
  rw [upTo_add]
  exact keep_list (List.forall₂_take n (List.forall₂_drop a aligned)) _ b hb

/-- The math's arguments, as the program's buffers hold them. -/
def argsR (V : Val) : Args :=
  ofArrays (V (rf main_arg0)) (V (rf main_arg1)) (V (rf main_arg2)) (V (rf main_arg3)) (V (rf main_arg4)) (V (rf main_arg5)) (V (rf main_arg6)) (V (rf main_arg7))
    (V (rf main_arg8)) (V (rf main_arg9)) (V (rf main_arg10)) (V (rf main_arg11)) (V (rf main_arg12)) (V (rf main_arg13)) (V (rf main_arg14)) (V (rf main_arg15))
    (V (rf main_arg16)) (V (rf main_arg17)) (V (rf main_arg18)) (V (rf main_arg19)) (V (rf main_arg20))

end Cert.ReferenceIdeal.Hand

end
-- ==== Proof.Codes.lean ====
module

public import proofs.«01_k».proof.Proof.Math
public import Idealize.ShloMosaic.Lib.Pointwise
public import Idealize.ShloMosaic.Lib.Routing.OpsPair

/-! Bucket numbers: sixteen bits as one number below 65536, the bits recovered from it, and the sums of a scatter and a gather by
    such numbers. -/

@[expose] public section

set_option maxRecDepth 16384
set_option maxHeartbeats 1000000

noncomputable section

namespace Cert.Math

open Idealize.ShloMosaic

/-- The number whose low `n` bits are `p`. -/
def low (p : ℕ → Bool) : ℕ → ℕ
  | 0 => 0
  | n + 1 => low p n + (p n).toNat * 2 ^ n

theorem low_lt (p : ℕ → Bool) (n : ℕ) : low p n < 2 ^ n := by
  induction n with
  | zero => simp [low]
  | succ n ih =>
    have : (p n).toNat ≤ 1 := Bool.toNat_le _
    have h2 : (p n).toNat * 2 ^ n ≤ 1 * 2 ^ n := Nat.mul_le_mul_right _ this
    rw [low, pow_succ]
    omega

theorem low_inj (p q : ℕ → Bool) (n : ℕ) (e : low p n = low q n) : ∀ i < n, p i = q i := by
  induction n with
  | zero => intro i hi; omega
  | succ n ih =>
    have hp := low_lt p n
    have hq := low_lt q n
    rw [low, low] at e
    have hn : p n = q n := by
      cases h1 : p n <;> cases h2 : q n <;> simp [h1, h2] at e ⊢ <;> omega
    have hl : low p n = low q n := by rw [hn] at e; omega
    intro i hi
    rcases Nat.lt_succ_iff_lt_or_eq.mp hi with h | rfl
    · exact ih hl i h
    · exact hn

/-- Sixteen bits as a number. -/
def code (p : Fin 16 → Bool) : ℕ := ∑ x : Fin 16, (p x).toNat * 2 ^ (x : ℕ)

theorem code_low (p : Fin 16 → Bool) : code p = low (fun n => if h : n < 16 then p ⟨n, h⟩ else false) 16 := by
  have : ∀ (q : ℕ → Bool) (n : ℕ), low q n = ∑ i ∈ Finset.range n, (q i).toNat * 2 ^ i := by
    intro q n
    induction n with
    | zero => rfl
    | succ n ih => rw [low, ih, Finset.sum_range_succ]
  rw [this, ← Fin.sum_univ_eq_sum_range (fun n => (if h : n < 16 then p ⟨n, h⟩ else false).toNat * 2 ^ n) 16]
  simp [code]

theorem code_lt (p : Fin 16 → Bool) : code p < 65536 := by
  rw [code_low]; exact low_lt _ 16

theorem code_inj (p q : Fin 16 → Bool) : code p = code q ↔ ∀ i, p i = q i := by
  constructor
  · intro e i
    rw [code_low, code_low] at e
    have := low_inj _ _ 16 e i i.2
    simpa using this
  · intro e
    rw [show p = q from funext e]

theorem fold_ofNat (g : Fin 16 → ℕ) (s : Finset (Fin 16)) :
    Finset.fold IntOp.addi (0#32) (fun x => BitVec.ofNat 32 (g x)) s = BitVec.ofNat 32 (∑ x ∈ s, g x) := by
  induction s using Finset.induction_on with
  | empty => simp
  | insert a s ha ih =>
    rw [Finset.fold_insert ha, ih, Finset.sum_insert ha, BitVec.ofNat_add]
    rfl

theorem code_word (p : Fin 16 → Bool) :
    IntOp.remsi ArithUnit.host (Finset.fold IntOp.addi (0#32)
      (fun x : Fin 16 => IntOp.muli (BitVec.setWidth 32 (BitVec.ofBool (p x))) (IntOp.shli ArithUnit.host (1#32) (BitVec.ofNat 32 (x : ℕ)))) Finset.univ) 65536#32
      = BitVec.ofNat 32 (code p) := by
  have h1 : ∀ (x : Fin 16) (c : Bool), IntOp.muli (BitVec.setWidth 32 (BitVec.ofBool c)) (IntOp.shli ArithUnit.host (1#32) (BitVec.ofNat 32 (x : ℕ)))
      = BitVec.ofNat 32 (c.toNat * 2 ^ (x : ℕ)) := by decide
  rw [show (fun x : Fin 16 => IntOp.muli (BitVec.setWidth 32 (BitVec.ofBool (p x))) (IntOp.shli ArithUnit.host (1#32) (BitVec.ofNat 32 (x : ℕ))))
    = fun x => BitVec.ofNat 32 ((p x).toNat * 2 ^ (x : ℕ)) from funext fun x => h1 x (p x), fold_ofNat]
  show IntOp.remsi ArithUnit.host (BitVec.ofNat 32 (code p)) 65536#32 = _
  have hl := code_lt p
  unfold IntOp.remsi
  rw [if_neg (by rintro (h | ⟨_, h⟩) <;> revert h <;> decide)]
  generalize code p = n at hl
  have hm : (BitVec.ofNat 32 n).msb = false := by
    rw [BitVec.msb_eq_false_iff_two_mul_lt, BitVec.toNat_ofNat]; omega
  rw [BitVec.srem, hm, show (65536#32).msb = false from by decide]
  show BitVec.umod _ _ = _
  apply BitVec.eq_of_toNat_eq
  show (BitVec.ofNat 32 n % 65536#32).toNat = _
  rw [BitVec.toNat_umod, BitVec.toNat_ofNat]
  show n % 2 ^ 32 % 65536 = _
  omega

theorem int_of {n : ℕ} (hn : n < 65536) : (BitVec.ofNat 32 n).toInt = n := by
  rw [BitVec.toInt_eq_toNat_of_lt (by rw [BitVec.toNat_ofNat]; omega), BitVec.toNat_ofNat]
  omega

/-- A number's word, counted from the end only where negative, is the word. -/
theorem wrap_word (N : BitVec 32) {n : ℕ} (hn : n < 65536) :
    Scalar.select (IntOp.cmpi CmpIPredicate.slt (BitVec.ofNat 32 n) 0#32) (IntOp.addi (BitVec.ofNat 32 n) N) (BitVec.ofNat 32 n) = BitVec.ofNat 32 n := by
  exact Routing.wrap_of_lt _ _ (by rw [BitVec.toNat_ofNat]; omega)

/-- A scatter that adds: each entry gains the updates of its own row that name it. -/
theorem add_at {B N T C : ℕ} (d : ScatterDims ⟨3, ![B, N, C]⟩ ⟨3, ![B, T, 2]⟩ ⟨3, ![B, T, C]⟩)
    (h0 : ∀ b t e (idx : IVec ⟨3, ![B, T, 2]⟩ 32), d.start (ix3 b t e) idx 0 = (idx (ix3 b t 0)).toInt)
    (h1 : ∀ b t e (idx : IVec ⟨3, ![B, T, 2]⟩ 32), d.start (ix3 b t e) idx 1 = (idx (ix3 b t 1)).toInt)
    (h2 : ∀ b t e (idx : IVec ⟨3, ![B, T, 2]⟩ 32), d.start (ix3 b t e) idx 2 = 0)
    (w0 : ∀ b t e, d.window (ix3 b t e) 0 = 0) (w1 : ∀ b t e, d.window (ix3 b t e) 1 = 0) (w2 : ∀ b t e, d.window (ix3 b t e) 2 = e)
    (x : (⟨3, ![B, N, C]⟩ : Shape).Idx → EReal) (idx : IVec ⟨3, ![B, T, 2]⟩ 32) (u : (⟨3, ![B, T, C]⟩ : Shape).Idx → EReal)
    (n : Fin B → Fin T → ℕ) (hb : ∀ b t, (idx (ix3 b t 0)).toInt = (b : ℕ)) (hn : ∀ b t, (idx (ix3 b t 1)).toInt = n b t)
    (b : Fin B) (q : Fin N) (e : Fin C) :
    Host.scatterAdd (F := Ideal) (φ := .f32) d x idx u (ix3 b q e) = x (ix3 b q e) + ∑ t, if n b t = q then u (ix3 b t e) else 0 := by
  show x (ix3 b q e) + ∑ j ∈ Finset.univ.filter (fun j => d.resultIdx? j idx = some (ix3 b q e)), u j = _
  have key : ∀ b' t e', d.resultIdx? (ix3 b' t e') idx = some (ix3 b q e) ↔ b' = b ∧ n b' t = q ∧ e' = e := by
    intro b' t e'
    rw [Routing.resultIdx?_eq_some]
    constructor
    · intro h
      have a0 := h 0
      have a1 := h 1
      have a2 := h 2
      rw [h0, w0, hb] at a0
      rw [h1, w1, hn] at a1
      rw [h2, w2] at a2
      have a0 : ((b' : ℕ) : ℤ) + ((0 : ℕ) : ℤ) = ((b : ℕ) : ℤ) := a0
      have a1 : ((n b' t : ℕ) : ℤ) + ((0 : ℕ) : ℤ) = ((q : ℕ) : ℤ) := a1
      have a2 : (0 : ℤ) + ((e' : ℕ) : ℤ) = ((e : ℕ) : ℤ) := a2
      exact ⟨Fin.ext (by omega), by omega, Fin.ext (by omega)⟩
    · rintro ⟨rfl, hq, rfl⟩ a
      match a with
      | ⟨0, _⟩ => exact (by rw [show d.start (ix3 b' t e') idx ⟨0, _⟩ = _ from h0 b' t e' idx, show d.window (ix3 b' t e') ⟨0, _⟩ = 0 from w0 b' t e', hb]; rfl)
      | ⟨1, _⟩ => exact (by rw [show d.start (ix3 b' t e') idx ⟨1, _⟩ = _ from h1 b' t e' idx, show d.window (ix3 b' t e') ⟨1, _⟩ = 0 from w1 b' t e', hn, hq]; rfl)
      | ⟨2, _⟩ => exact (by rw [show d.start (ix3 b' t e') idx ⟨2, _⟩ = _ from h2 b' t e' idx, show d.window (ix3 b' t e') ⟨2, _⟩ = e' from w2 b' t e']; exact zero_add _)
  have form : ∀ j : (⟨3, ![B, T, C]⟩ : Shape).Idx, ∃ b' t e', j = ix3 b' t e' := fun j =>
    ⟨j 0, j 1, j 2, funext fun i => by match i with | ⟨0, _⟩ => rfl | ⟨1, _⟩ => rfl | ⟨2, _⟩ => rfl⟩
  rw [← Finset.sum_filter]
  congr 1
  refine Finset.sum_nbij' (fun j => (j 1 : Fin T)) (fun t => ix3 b t e) ?_ ?_ ?_ ?_ ?_
  · intro j hj
    obtain ⟨b', t, e', rfl⟩ := form j
    obtain ⟨rfl, hq, _⟩ := (key b' t e').mp (Finset.mem_filter.mp hj).2
    exact Finset.mem_filter.mpr ⟨Finset.mem_univ _, hq⟩
  · intro t ht
    exact Finset.mem_filter.mpr ⟨Finset.mem_univ _, (key b t e).mpr ⟨rfl, (Finset.mem_filter.mp ht).2, rfl⟩⟩
  · intro j hj
    obtain ⟨b', t, e', rfl⟩ := form j
    obtain ⟨rfl, _, rfl⟩ := (key b' t e').mp (Finset.mem_filter.mp hj).2
    rfl
  · intro t _; rfl
  · intro j hj
    obtain ⟨b', t, e', rfl⟩ := form j
    obtain ⟨rfl, _, rfl⟩ := (key b' t e').mp (Finset.mem_filter.mp hj).2
    rfl

/-- A gather of rows by a row number and a bucket number. -/
theorem take_at {B N T C : ℕ} (d : GatherDims ⟨3, ![B, N, C]⟩ ⟨3, ![B, T, 2]⟩ ⟨3, ![B, T, C]⟩)
    (h0 : ∀ b t e (idx : IVec ⟨3, ![B, T, 2]⟩ 32), d.start (ix3 b t e) idx 0 = min (idx (ix3 b t 0)).toInt.toNat (B - 1))
    (h1 : ∀ b t e (idx : IVec ⟨3, ![B, T, 2]⟩ 32), d.start (ix3 b t e) idx 1 = min (idx (ix3 b t 1)).toInt.toNat (N - 1))
    (h2 : ∀ b t e (idx : IVec ⟨3, ![B, T, 2]⟩ 32), d.start (ix3 b t e) idx 2 = 0)
    (w0 : ∀ b t e, d.batchCoord (ix3 b t e) 0 + d.offCoord (ix3 b t e) 0 = 0) (w1 : ∀ b t e, d.batchCoord (ix3 b t e) 1 + d.offCoord (ix3 b t e) 1 = 0)
    (w2 : ∀ b t e, d.batchCoord (ix3 b t e) 2 + d.offCoord (ix3 b t e) 2 = e)
    (x : (⟨3, ![B, N, C]⟩ : Shape).Idx → EReal) (idx : IVec ⟨3, ![B, T, 2]⟩ 32) (b : Fin B) (t : Fin T) (e : Fin C) (n : Fin N)
    (hb : (idx (ix3 b t 0)).toInt = (b : ℕ)) (hn : (idx (ix3 b t 1)).toInt = (n : ℕ)) :
    Host.gather d x idx (ix3 b t e) = x (ix3 b n e) := by
  unfold Host.gather
  refine congrArg x (funext fun a => Fin.ext ?_)
  show d.start (ix3 b t e) idx a + d.batchCoord (ix3 b t e) a + d.offCoord (ix3 b t e) a = _
  rw [Nat.add_assoc]
  match a with
  | ⟨0, _⟩ =>
    refine (congrArg₂ (· + ·) (h0 b t e idx) (w0 b t e)).trans ?_
    rw [hb]; show min (b : ℕ) (B - 1) + 0 = (b : ℕ); have := b.2; omega
  | ⟨1, _⟩ =>
    refine (congrArg₂ (· + ·) (h1 b t e idx) (w1 b t e)).trans ?_
    rw [hn]; show min (n : ℕ) (N - 1) + 0 = (n : ℕ); have := n.2; omega
  | ⟨2, _⟩ =>
    refine (congrArg₂ (· + ·) (h2 b t e idx) (w2 b t e)).trans ?_
    exact zero_add _

end Cert.Math

end
-- ==== Proof.RefRead.lean ====
module

public import proofs.«01_k».proof.Proof.RefCut
public import proofs.«01_k».proof.Proof.Codes

/-! What each stretch of the reference leaves, as the problem's math: the norm, the convolution and its gate, the outputs. -/

@[expose] public section

set_option maxRecDepth 16384
set_option maxHeartbeats 1000000

noncomputable section

namespace Cert.ReferenceIdeal.Hand

open Cert.ReferenceIdeal Cert.ReferenceIdeal.Gen Idealize.ShloMosaic Idealize.ShloMosaic.TcCoe Idealize.ShloMosaic.Tactic Cert.Math
open Idealize.ShloMosaic.StableHlo

theorem v76_at (V : Val) (b : Fin 2) (t : Fin 4096) (d : Fin 1024) : after hostOps0_3 V (rf main_v76) (ix3 b t d) = h (argsR V) b t d := by
  show after hostOps0_3 V (Proc.devRef .tc main_v76) (ix3 b t d) = _
  after_results
  pointwise
  rfl

theorem v9_at (V : Val) (b : Fin 2) (t : Fin 4096) (d : Fin 1024) : after hostOps0 V (rf main_v9) (ix3 b t d) = h (argsR V) b t d := by
  show after hostOps0 V (Proc.devRef .tc main_v9) (ix3 b t d) = _
  after_results
  pointwise
  rfl

/-- Three rows of zeros put before an array. -/
theorem pad_at (A : Args) (x : FVec Ideal S2x4096x1024 .f32) (v : FVec Ideal S_ .f32) (hx : ∀ b t d, x (ix3 b t d) = h A b t d) (hv : v (Shape.Idx.first h_S_) = (0 : EReal))
    (b : Fin 2) (n : Fin 4099) (d : Fin 1024) :
    pad S2x4099x1024 ![0, 3, 0] ![0, 0, 0] ![0, 0, 0] x v pads_S2x4096x1024_S2x4099x1024_000_300_000 h_S_ (ix3 b n d) = tap A b n d := by
  unfold pad tap
  by_cases hn : 3 ≤ (n : ℕ)
  · have h2 : (n : ℕ) - 3 < 4096 := by omega
    rw [dif_pos, dif_pos (c := 3 ≤ (n : ℕ) ∧ (n : ℕ) - 3 < 4096) ⟨hn, h2⟩]
    · refine (congrArg x (funext fun a => ?_)).trans (hx b ⟨n - 3, h2⟩ d)
      match a with
      | ⟨0, _⟩ => exact Fin.ext (Nat.div_one _)
      | ⟨1, _⟩ => exact Fin.ext (Nat.div_one _)
      | ⟨2, _⟩ => exact Fin.ext (Nat.div_one _)
    · intro a
      match a with
      | ⟨0, _⟩ => exact ⟨Nat.zero_le _, Nat.mod_one _, by show (b : ℕ) / 1 < 2; omega⟩
      | ⟨1, _⟩ => exact ⟨hn, Nat.mod_one _, by show ((n : ℕ) - 3) / 1 < 4096; omega⟩
      | ⟨2, _⟩ => exact ⟨Nat.zero_le _, Nat.mod_one _, by show (d : ℕ) / 1 < 1024; omega⟩
  · rw [dif_neg fun h => hn (h 1).1, dif_neg fun h => hn h.1]
    exact hv

theorem v77_at (V : Val) (A : Args) (hx : ∀ b t d, V (rf main_v76) (ix3 b t d) = h A b t d) (hc : V (rf main_c_13) = constantI S_ 32 0#32)
    (b : Fin 2) (n : Fin 4099) (d : Fin 1024) : after hostOps0_4 V (rf main_v77) (ix3 b n d) = tap A b n d := by
  show after hostOps0_4 V (Proc.devRef .tc main_v77) (ix3 b n d) = _
  after_results
  refine pad_at A (V (rf main_v76)) (sitofp .f32 (V (rf main_c_13))) hx ?_ b n d
  rw [hc]
  show (((0#32 : BitVec 32).toInt : ℝ) : EReal) = 0
  simp

theorem v10_at (V : Val) (A : Args) (hx : ∀ b t d, V (rf main_v9) (ix3 b t d) = h A b t d) (hc : V (rf main_c) = constantI S_ 32 0#32)
    (b : Fin 2) (n : Fin 4099) (d : Fin 1024) : after hostOps0_1 V (rf main_v10) (ix3 b n d) = tap A b n d := by
  show after hostOps0_1 V (Proc.devRef .tc main_v10) (ix3 b n d) = _
  after_results
  refine pad_at A (V (rf main_v9)) (sitofp .f32 (V (rf main_c))) hx ?_ b n d
  rw [hc]
  show (((0#32 : BitVec 32).toInt : ℝ) : EReal) = 0
  simp

/-- The four taps and the gate, as the reference adds them. -/
theorem u_of (A : Args) (b : Fin 2) (t : Fin 4096) (d : Fin 1024) (y0 y1 y2 y3 : EReal) (g : Fin 1024 → EReal)
    (e0 : y0 = tap A b t d) (e1 : y1 = tap A b (1 + t) d) (e2 : y2 = tap A b (2 + t) d) (e3 : y3 = tap A b (3 + t) d) (eg : ∀ k, g k = h A b t k) :
    (y0 * A.convW d 0 + y1 * A.convW d 1 + y2 * A.convW d 2 + y3 * A.convW d 3) * Ideal.div 1 (1 + Ideal.exp (-(∑ k, g k * A.gateW d k + A.gateB d))) = u A b t d := by
  rw [e0, e1, e2, e3, funext eg, Nat.add_comm 1, Nat.add_comm 2, Nat.add_comm 3]
  show _ = (tap A b (t + 3) d * A.convW d 3 + tap A b t d * A.convW d 0 + tap A b (t + 1) d * A.convW d 1 + tap A b (t + 2) d * A.convW d 2) * _
  congr 1
  rw [add_assoc (tap A b (t + 3) d * A.convW d 3), add_assoc (tap A b (t + 3) d * A.convW d 3), add_comm (tap A b (t + 3) d * A.convW d 3)]

theorem v118_at (V : Val) (hx : ∀ b t d, V (rf main_v76) (ix3 b t d) = h (argsR V) b t d) (hy : ∀ b n d, V (rf main_v77) (ix3 b n d) = tap (argsR V) b n d)
    (b : Fin 2) (t : Fin 4096) (d : Fin 1024) : after ((hostOps0_5.drop 0).take 44) V (rf main_v118) (ix3 b t d) = u (argsR V) b t d := by
  dsimp only [hostOps0_5, List.drop, List.take]
  show after _ V (Proc.devRef .tc main_v118) (ix3 b t d) = _
  after_results
  pointwise
  exact u_of (argsR V) b t d _ _ _ _ _ (hy b _ d) (hy b _ d) (hy b _ d) (hy b _ d) (hx b t)

theorem v54_at (V : Val) (hx : ∀ b t d, V (rf main_v9) (ix3 b t d) = h (argsR V) b t d) (hy : ∀ b n d, V (rf main_v10) (ix3 b n d) = tap (argsR V) b n d)
    (b : Fin 2) (t : Fin 4096) (k : Fin 4) (d : Fin 1024) : after hostOps0_2 V (rf main_v54) (ix4 b t k d) = z (argsR V) b t k d := by
  show after hostOps0_2 V (Proc.devRef .tc main_v54) (ix4 b t k d) = _
  after_results
  pointwise
  rw [z, dif_pos t.2]
  show (_ : EReal) = _
  refine Finset.sum_congr rfl fun x _ => ?_
  exact congrArg (· * _) (u_of (argsR V) b t x _ _ _ _ _ (hy b _ x) (hy b _ x) (hy b _ x) (hy b _ x) (hx b t))

theorem v64_0_at (V : Val) (hx : ∀ b t d, V (rf main_v9) (ix3 b t d) = h (argsR V) b t d) (hy : ∀ b n d, V (rf main_v10) (ix3 b n d) = tap (argsR V) b n d)
    (b : Fin 2) (t : Fin 4096) (k : Fin 4) (d : Fin 1024) : after hostOps0_2 V (rf main_v64_0) (ix4 t b k d) = z (argsR V) b t k d := by
  have e : after hostOps0_2 V (rf main_v64_0) = transpose S4096x2x4x1024 [1, 0, 2, 3] (after hostOps0_2 V (rf main_v54)) transposes_S2x4096x4x1024_S4096x2x4x1024_1_0_2_3 := by
    show after hostOps0_2 V (Proc.devRef .tc main_v64_0) = transpose S4096x2x4x1024 [1, 0, 2, 3] (after hostOps0_2 V (Proc.devRef .tc main_v54)) transposes_S2x4096x4x1024_S4096x2x4x1024_1_0_2_3
    after_results
    rfl
  rw [e]
  refine Eq.trans ?_ (v54_at V hx hy b t k d)
  generalize after hostOps0_2 V (rf main_v54) = X
  pointwise

theorem v64_1_at (V : Val) (k : Fin 4) : after hostOps0_2 V (rf main_v64_1) (ix1 k) = alpha (argsR V) k := by
  show after hostOps0_2 V (Proc.devRef .tc main_v64_1) (ix1 k) = _
  after_results
  simp only [id]
  pointwise
  rfl

theorem v64_3_at (V : Val) (b : Fin 2) (k : Fin 4) (d : Fin 1024) : after hostOps0_2 V (rf main_v64_3) (ix3 b k d) = (0 : EReal) := by
  show after hostOps0_2 V (Proc.devRef .tc main_v64_3) (ix3 b k d) = _
  after_results
  simp only [id]
  pointwise

theorem v66_at (V : Val) (b : Fin 2) (t : Fin 4096) (k : Fin 4) (d : Fin 1024) : after hostOps0_3 V (rf main_v66) (ix3 b t (col k d)) = V (rf main_v64_4) (ix4 t b k d) := by
  show after hostOps0_3 V (Proc.devRef .tc main_v66) (ix3 b t (col k d)) = _
  after_results
  pointwise
  refine congrArg (V (rf main_v64_4)) (congrArg₂ (ix4 t b) (Fin.ext ?_) (Fin.ext ?_))
  · show ((k : ℕ) * 1024 + d) / 1024 = k
    omega
  · show ((k : ℕ) * 1024 + d) % 1024 = d
    omega

end Cert.ReferenceIdeal.Hand

end
-- ==== Proof.RefLoop.lean ====
module

public import proofs.«01_k».proof.Proof.RefRead
public import Idealize.ShloMosaic.Lib.DynamicIndex
public import Idealize.ShloMosaic.Lib.WordCmp

/-! The loop: after `n` trips the state is the recurrence at `n`, and the rows before `n` are filled. -/

@[expose] public section

set_option maxRecDepth 16384
set_option maxHeartbeats 1000000

noncomputable section

namespace Cert.ReferenceIdeal.Hand

open Cert.ReferenceIdeal Cert.ReferenceIdeal.Gen Idealize.ShloMosaic Idealize.ShloMosaic.TcCoe Idealize.ShloMosaic.Tactic Cert.Math
open Idealize.ShloMosaic.StableHlo

variable {n : ℕ} (hn : n < 4096)

include hn in
theorem slice_row (x : S4096x2x4x1024.Idx → EReal) (s : Fin 4 → ℤ) (h) (s0 : s 0 = (n : ℤ)) (s1 : s 1 = 0) (s2 : s 2 = 0) (s3 : s 3 = 0) (b : Fin 2) (k : Fin 4) (d : Fin 1024) :
    Host.dynamicSlice S1x2x4x1024 x s h (ix4 0 b k d) = x (ix4 ⟨n, hn⟩ b k d) := by
  have hoff : S4096x2x4x1024.Slices ![n, 0, 0, 0] S1x2x4x1024 := ⟨rfl, fun a => by
    match a with
    | ⟨0, _⟩ => show n + 1 ≤ 4096; omega
    | ⟨1, _⟩ => exact le_rfl
    | ⟨2, _⟩ => exact le_rfl
    | ⟨3, _⟩ => exact le_rfl⟩
  rw [Host.dynamicSlice_eq_extractStridedSlice S1x2x4x1024 x s ![n, 0, 0, 0] h hoff (fun a => by
    match a with
    | ⟨0, _⟩ => exact s0
    | ⟨1, _⟩ => exact s1
    | ⟨2, _⟩ => exact s2
    | ⟨3, _⟩ => exact s3)]
  refine congrArg x (funext fun a => ?_)
  match a with
  | ⟨0, _⟩ => rfl
  | ⟨1, _⟩ => exact Fin.ext (Nat.zero_add (b : ℕ))
  | ⟨2, _⟩ => exact Fin.ext (Nat.zero_add (k : ℕ))
  | ⟨3, _⟩ => exact Fin.ext (Nat.zero_add (d : ℕ))

include hn in
theorem update_row (x : S4096x2x4x1024.Idx → EReal) (w : S1x2x4x1024.Idx → EReal) (s : Fin 4 → ℤ) (h) (s0 : s 0 = (n : ℤ)) (s1 : s 1 = 0) (s2 : s 2 = 0) (s3 : s 3 = 0)
    (t : Fin 4096) (b : Fin 2) (k : Fin 4) (d : Fin 1024) :
    Host.dynamicUpdateSlice x w s h (ix4 t b k d) = if (t : ℕ) = n then w (ix4 0 b k d) else x (ix4 t b k d) := by
  have hoff : S4096x2x4x1024.Slices ![n, 0, 0, 0] S1x2x4x1024 := ⟨rfl, fun a => by
    match a with
    | ⟨0, _⟩ => show n + 1 ≤ 4096; omega
    | ⟨1, _⟩ => exact le_rfl
    | ⟨2, _⟩ => exact le_rfl
    | ⟨3, _⟩ => exact le_rfl⟩
  rw [WordCmp.dynamicUpdateSlice_eq_update x w s h ![n, 0, 0, 0] hoff (fun a => by
    match a with
    | ⟨0, _⟩ => exact s0
    | ⟨1, _⟩ => exact s1
    | ⟨2, _⟩ => exact s2
    | ⟨3, _⟩ => exact s3)]
  unfold updateSlice
  by_cases ht : (t : ℕ) = n
  · rw [if_pos ht, dif_pos]
    · refine congrArg w (funext fun a => ?_)
      match a with
      | ⟨0, _⟩ => exact Fin.ext (by show (t : ℕ) - n = 0; omega)
      | ⟨1, _⟩ => rfl
      | ⟨2, _⟩ => rfl
      | ⟨3, _⟩ => rfl
    · intro a
      match a with
      | ⟨0, _⟩ => show n ≤ (t : ℕ) ∧ (t : ℕ) < n + 1; omega
      | ⟨1, _⟩ => show 0 ≤ (b : ℕ) ∧ (b : ℕ) < 0 + 2; omega
      | ⟨2, _⟩ => show 0 ≤ (k : ℕ) ∧ (k : ℕ) < 0 + 4; omega
      | ⟨3, _⟩ => show 0 ≤ (d : ℕ) ∧ (d : ℕ) < 0 + 1024; omega
  · rw [if_neg ht, dif_neg]
    intro ha
    have h0 : n ≤ (t : ℕ) ∧ (t : ℕ) < n + 1 := ha 0
    omega

include hn in
theorem v335_at (X : Val) (hc : (X (rf main_v64_2) (Shape.Idx.first h_S_) : BitVec 32).toInt = n) (b : Fin 2) (k : Fin 4) (d : Fin 1024) :
    after while0Ops0 X (rf main_while0b_v335) (ix3 b k d) = X (rf main_v64_0) (ix4 ⟨n, hn⟩ b k d) := by
  show after while0Ops0 X (Proc.devRef .tc main_while0b_v335) (ix3 b k d) = _
  after_results
  pointwise
  exact slice_row hn (X (rf main_v64_0)) _ sliceFits_S4096x2x4x1024_S1x2x4x1024 hc rfl rfl rfl b k d

theorem v344_at (X : Val) (b : Fin 2) (k : Fin 4) (d : Fin 1024) (a s y : EReal) (ha : X (rf main_v64_1) (ix1 k) = a) (hs : X (rf main_v64_3) (ix3 b k d) = s)
    (hy : X (rf main_while0b_v335) (ix3 b k d) = y) : after while0Ops0_1 X (rf main_while0b_v344) (ix3 b k d) = a * s + (1 - a) * y := by
  show after while0Ops0_1 X (Proc.devRef .tc main_while0b_v344) (ix3 b k d) = _
  after_results
  pointwise
  rw [← ha, ← hs, ← hy]

include hn in
theorem v345_at (X : Val) (hc : (X (rf main_v64_2) (Shape.Idx.first h_S_) : BitVec 32).toInt = n) (t : Fin 4096) (b : Fin 2) (k : Fin 4) (d : Fin 1024) :
    after while0Ops0_2 X (rf main_while0b_v345) (ix4 t b k d)
      = if (t : ℕ) = n then X (rf main_while0b_v344) (ix3 b k d) else X (rf main_v64_4) (ix4 t b k d) := by
  show after while0Ops0_2 X (Proc.devRef .tc main_while0b_v345) (ix4 t b k d) = _
  after_results
  refine Eq.trans (b := if (t : ℕ) = n then broadcastInDim S1x2x4x1024 ![1, 2, 3] bcast_S2x4x1024_S1x2x4x1024_1_2_3 (X (rf main_while0b_v344)) (ix4 0 b k d)
    else X (rf main_v64_4) (ix4 t b k d)) ?_ ?_
  · show Host.dynamicUpdateSlice (X (rf main_v64_4)) (broadcastInDim S1x2x4x1024 ![1, 2, 3] bcast_S2x4x1024_S1x2x4x1024_1_2_3 (X (rf main_while0b_v344))) _
      updateFits_S4096x2x4x1024_S1x2x4x1024 (ix4 t b k d) = _
    refine update_row hn _ _ _ _ ?_ ?_ ?_ ?_ t b k d
    · exact hc
    · rfl
    · rfl
    · rfl
  by_cases ht : (t : ℕ) = n
  · rw [if_pos ht, if_pos ht]
    pointwise
  · rw [if_neg ht, if_neg ht]

theorem last3 (X : Val) : after while0Ops0_3 X (rf main_v64_3) = X (rf main_while0b_v344) := by
  show after while0Ops0_3 X (Proc.devRef .tc main_v64_3) = _
  after_results
  rfl

theorem last4 (X : Val) : after while0Ops0_3 X (rf main_v64_4) = X (rf main_while0b_v345) := by
  show after while0Ops0_3 X (Proc.devRef .tc main_v64_4) = _
  after_results
  rfl

/-- What holds before trip `n`: the rows to step through and the decays are given, the state is the recurrence's, the rows before `n` hold it. -/
structure Inv (A : Args) (n : ℕ) (X : Val) : Prop where
  ctr : (X (rf main_v64_2) (Shape.Idx.first h_S_) : BitVec 32).toInt = n
  rows : ∀ (t : Fin 4096) b k d, X (rf main_v64_0) (ix4 t b k d) = z A b t k d
  decay : ∀ k, X (rf main_v64_1) (ix1 k) = alpha A k
  state : ∀ b k d, X (rf main_v64_3) (ix3 b k d) = st A b n k d
  filled : ∀ (t : Fin 4096) b k d, (t : ℕ) < n → X (rf main_v64_4) (ix4 t b k d) = st A b (t + 1) k d

include hn in
theorem trip {A : Args} {X : Val} (h : Inv A n X) (Y : Val) (hY : Y = afterL bodyI (after condOps X))
    (hctr : (Y (rf main_v64_2) (Shape.Idx.first h_S_) : BitVec 32).toInt = ((n + 1 : ℕ) : ℤ)) : Inv A (n + 1) Y := by
  subst hY
  have keep : ∀ b, b ∉ condOps_W → b ∉ while0Ops0_W → b ∉ while0Ops0_1_W → b ∉ while0Ops0_2_W → b ∉ while0Ops0_3_W →
      afterL bodyI (after condOps X) (rf b) = X (rf b) := fun b hc h0 h1 h2 h3 => trip_keeps X b hc h0 h1 h2 h3
  have kc : ∀ b, b ∉ condOps_W → after condOps X (rf b) = X (rf b) := fun b hb => after_of_writes_sub condOps X condOps_writes hb
  have k0 : ∀ b, b ∉ condOps_W → b ∉ while0Ops0_W → after while0Ops0 (after condOps X) (rf b) = X (rf b) :=
    fun b hb h0 => (after_of_writes_sub while0Ops0 _ while0Ops0_writes h0).trans (kc b hb)
  have k1 : ∀ b, b ∉ condOps_W → b ∉ while0Ops0_W → b ∉ while0Ops0_1_W → after while0Ops0_1 (after while0Ops0 (after condOps X)) (rf b) = X (rf b) :=
    fun b hb h0 h1 => (after_of_writes_sub while0Ops0_1 _ while0Ops0_1_writes h1).trans (k0 b hb h0)
  have new : ∀ b k d, after while0Ops0_1 (after while0Ops0 (after condOps X)) (rf main_while0b_v344) (ix3 b k d) = st A b (n + 1) k d := by
    intro b k d
    refine v344_at _ b k d (alpha A k) (st A b n k d) (z A b n k d) ?_ ?_ ?_
    · rw [k0 main_v64_1 (by decide +kernel) (by decide +kernel)]; exact h.decay k
    · rw [k0 main_v64_3 (by decide +kernel) (by decide +kernel)]; exact h.state b k d
    · rw [v335_at hn (after condOps X) (by rw [kc main_v64_2 (by decide +kernel)]; exact h.ctr) b k d, kc main_v64_0 (by decide +kernel)]
      exact h.rows ⟨n, hn⟩ b k d
  refine ⟨hctr, fun t b k d => ?_, fun k => ?_, fun b k d => ?_, fun t b k d ht => ?_⟩
  · rw [keep main_v64_0 (by decide +kernel) (by decide +kernel) (by decide +kernel) (by decide +kernel) (by decide +kernel)]; exact h.rows t b k d
  · rw [keep main_v64_1 (by decide +kernel) (by decide +kernel) (by decide +kernel) (by decide +kernel) (by decide +kernel)]; exact h.decay k
  · simp only [bodyI, afterL_cons, afterL_nil]
    rw [last3, show after while0Ops0_2 (after while0Ops0_1 (after while0Ops0 (after condOps X))) (rf main_while0b_v344) = _ from
      after_of_writes_sub while0Ops0_2 _ while0Ops0_2_writes (by decide +kernel)]
    exact new b k d
  · simp only [bodyI, afterL_cons, afterL_nil]
    rw [last4, v345_at hn _ (by rw [k1 main_v64_2 (by decide +kernel) (by decide +kernel) (by decide +kernel)]; exact h.ctr)]
    by_cases e : (t : ℕ) = n
    · rw [if_pos e, e]; exact new b k d
    · rw [if_neg e, k1 main_v64_4 (by decide +kernel) (by decide +kernel) (by decide +kernel)]
      exact h.filled t b k d (by omega)

variable (m : (ℓ : Loc nD τ sig) → Buf (Elt Ideal) ℓ) (c : Dev nD)

theorem ctr_word {k : ℕ} (hk : k ≤ 4096) : (Scf.iv 0#32 1#32 k).toInt = k := by
  have : Scf.iv 0#32 1#32 k = BitVec.ofNat 32 k := by simp [Scf.iv]
  rw [this, BitVec.toInt_eq_toNat_of_lt (by rw [BitVec.toNat_ofNat]; omega), BitVec.toNat_ofNat]
  omega

theorem loop_inv (A : Args) (h0 : Inv A 0 (entryContents preI m c)) : ∀ k, k ≤ 4096 → Inv A k (atK m k c)
  | 0, _ => h0
  | k + 1, hk => trip (by omega) (loop_inv A h0 k (by omega)) (atK m (k + 1) c) rfl (by
      show (atK m (k + 1) c (Proc.devRef .tc main_v64_2) (Shape.Idx.first h_S_) : BitVec 32).toInt = _
      rw [atK_ctr m c (k + 1)]
      exact ctr_word hk)

theorem argsR_of {X V : Val} (h : ∀ b, isArg b → X (rf b) = V (rf b)) : argsR X = argsR V := by
  unfold argsR
  rw [h main_arg0 (by decide), h main_arg1 (by decide), h main_arg2 (by decide), h main_arg3 (by decide), h main_arg4 (by decide), h main_arg5 (by decide),
    h main_arg6 (by decide), h main_arg7 (by decide), h main_arg8 (by decide), h main_arg9 (by decide), h main_arg10 (by decide), h main_arg11 (by decide),
    h main_arg12 (by decide), h main_arg13 (by decide), h main_arg14 (by decide), h main_arg15 (by decide), h main_arg16 (by decide), h main_arg17 (by decide),
    h main_arg18 (by decide), h main_arg19 (by decide), h main_arg20 (by decide)]

/-- The launch's arguments on core `c`. -/
abbrev argsM : Args := argsR fun b => m (c, b)

end Cert.ReferenceIdeal.Hand

end
-- ==== Proof.RefOuts.lean ====
module

public import proofs.«01_k».proof.Proof.RefCut
public import proofs.«01_k».proof.Proof.Codes

/-! What the reference adds up: the long output, the bucket numbers, the write gate and values, the read output and the mlp. -/

@[expose] public section

set_option maxRecDepth 16384
set_option maxHeartbeats 1000000

noncomputable section

namespace Cert.ReferenceIdeal.Hand

open Cert.ReferenceIdeal Cert.ReferenceIdeal.Gen Idealize.ShloMosaic Idealize.ShloMosaic.TcCoe Idealize.ShloMosaic.Tactic Cert.Math
open Idealize.ShloMosaic.StableHlo

/-- Bucket `k`'s number, of the bits a row of weights gives. -/
def bucket (A : Args) (b : Fin 2) (W : Fin 32 → Fin 1024 → EReal) (t : Fin 4096) (k : Fin 2) : ℕ :=
  code fun i => decide (0 < dot (h A b t) (W (bit k i)))

/-- The row the state's columns make, four stretches of 1024. -/
theorem sum_cols (f : Fin 4096 → EReal) : ∑ x, f x = ∑ k : Fin 4, ∑ q : Fin 1024, f (col k q) := by
  rw [← Finset.sum_product', Finset.univ_product_univ]
  refine (Fintype.sum_equiv (finProdFinEquiv (m := 4) (n := 1024)) _ _ fun p => congrArg f (Fin.ext ?_)).symm
  show (p.1 : ℕ) * 1024 + p.2 = p.2 + 1024 * p.1
  omega

theorem v133_at (V : Val) (hx : ∀ b t d, V (rf main_v76) (ix3 b t d) = h (argsR V) b t d)
    (hs : ∀ b (t : Fin 4096) k d, V (rf main_v66) (ix3 b t (col k d)) = st (argsR V) b (t + 1) k d)
    (b : Fin 2) (t : Fin 4096) (d : Fin 1024) : after ((hostOps0_5.drop 44).take 17) V (rf main_v133) (ix3 b t d) = long (argsR V) b t d := by
  dsimp only [hostOps0_5, List.drop, List.take]
  show after _ V (Proc.devRef .tc main_v133) (ix3 b t d) = _
  after_results
  pointwise
  show (_ : EReal) = _
  refine congrArg₂ (· * ·) ((sum_cols _).trans (Finset.sum_congr rfl fun k _ => Finset.sum_congr rfl fun q _ => congrArg (· * _) (hs b t k q))) ?_
  simp only [show ∀ x, V (Proc.devRef .tc main_v76) (ix3 b t x) = h (argsR V) b t x from hx b t]
  rfl

theorem v148_at (V : Val) (hx : ∀ b t d, V (rf main_v76) (ix3 b t d) = h (argsR V) b t d) (b : Fin 2) (t : Fin 4096) (l : Fin 2) :
    after ((hostOps0_5.drop 61).take 19) V (rf main_v148) (ix3 b t l) = BitVec.ofNat 32 (bucket (argsR V) b (argsR V).writeW t l) := by
  dsimp only [hostOps0_5, List.drop, List.take]
  show after _ V (Proc.devRef .tc main_v148) (ix3 b t l) = _
  after_results
  pointwise
  refine (code_word _).trans (congrArg (fun p => BitVec.ofNat 32 (code p)) (funext fun i => ?_))
  refine decide_eq_decide.mpr (Iff.of_eq (congrArg (fun y : EReal => 0 < y) (Finset.sum_congr rfl fun x _ => ?_)))
  refine congrArg₂ (fun p q : EReal => p * q) (hx b t x) (congrArg (fun r => V (rf main_arg12) (ix2 r x)) (Fin.ext ?_))
  show (l : ℕ) * 16 + i = 16 * l + i
  omega

theorem v163_at (V : Val) (hx : ∀ b t d, V (rf main_v76) (ix3 b t d) = h (argsR V) b t d) (b : Fin 2) (t : Fin 4096) (l : Fin 2) :
    after ((hostOps0_5.drop 80).take 19) V (rf main_v163) (ix3 b t l) = BitVec.ofNat 32 (bucket (argsR V) b (argsR V).readW t l) := by
  dsimp only [hostOps0_5, List.drop, List.take]
  show after _ V (Proc.devRef .tc main_v163) (ix3 b t l) = _
  after_results
  pointwise
  refine (code_word _).trans (congrArg (fun p => BitVec.ofNat 32 (code p)) (funext fun i => ?_))
  refine decide_eq_decide.mpr (Iff.of_eq (congrArg (fun y : EReal => 0 < y) (Finset.sum_congr rfl fun x _ => ?_)))
  refine congrArg₂ (fun p q : EReal => p * q) (hx b t x) (congrArg (fun r => V (rf main_arg11) (ix2 r x)) (Fin.ext ?_))
  show (l : ℕ) * 16 + i = 16 * l + i
  omega

theorem v176_at (V : Val) (hx : ∀ b t d, V (rf main_v76) (ix3 b t d) = h (argsR V) b t d) (b : Fin 2) (t : Fin 4096) :
    after ((hostOps0_5.drop 99).take 17) V (rf main_v176) (ix3 b t 0) = wg (argsR V) b t := by
  dsimp only [hostOps0_5, List.drop, List.take]
  show after _ V (Proc.devRef .tc main_v176) (ix3 b t 0) = _
  after_results
  pointwise
  simp only [show ∀ x, V (Proc.devRef .tc main_v76) (ix3 b t x) = h (argsR V) b t x from hx b t]
  rfl

theorem v178_at (V : Val) (hx : ∀ b t d, V (rf main_v76) (ix3 b t d) = h (argsR V) b t d) (b : Fin 2) (t : Fin 4096) (e : Fin 64) :
    after ((hostOps0_5.drop 99).take 17) V (rf main_v178) (ix3 b t e) = wv (argsR V) b t e := by
  dsimp only [hostOps0_5, List.drop, List.take]
  show after _ V (Proc.devRef .tc main_v178) (ix3 b t e) = _
  after_results
  pointwise
  simp only [show ∀ x, V (Proc.devRef .tc main_v76) (ix3 b t x) = h (argsR V) b t x from hx b t]
  rfl

theorem div_two (x : EReal) : Ideal.div x (Ideal.ofBits .f32 1073741824#32) = x * Ideal.ofBits .f32 1056964608#32 := by
  rw [lit_two, lit_half]
  exact Ideal.div_coe two_ne_zero x

theorem v308_at (V : Val) (hx : ∀ b t d, V (rf main_v76) (ix3 b t d) = h (argsR V) b t d) (r : Fin 2 → Fin 4096 → Fin 64 → EReal)
    (hr : ∀ b t e, V (rf main_v291) (ix3 b t e) = r b t e) (b : Fin 2) (t : Fin 4096) (d : Fin 1024) :
    after ((hostOps0_5.drop 257).take 20) V (rf main_v308) (ix3 b t d)
      = dot (fun e => r b t e * Ideal.ofBits .f32 1056964608#32) ((argsR V).memW d) * gate (argsR V) b t (argsR V).gmW (argsR V).gmB := by
  dsimp only [hostOps0_5, List.drop, List.take]
  show after _ V (Proc.devRef .tc main_v308) (ix3 b t d) = _
  after_results
  pointwise
  simp only [show ∀ x, V (Proc.devRef .tc main_v76) (ix3 b t x) = h (argsR V) b t x from hx b t,
    show ∀ x, V (Proc.devRef .tc main_v291) (ix3 b t x) = r b t x from hr b t, div_two]
  rfl

theorem v331_at (V : Val) (hu : ∀ b t d, V (rf main_v118) (ix3 b t d) = u (argsR V) b t d) (b : Fin 2) (t : Fin 4096) (d : Fin 1024) :
    after ((hostOps0_5.drop 277).take 27) V (rf main_v331) (ix3 b t d) = mlp (argsR V) b t d := by
  dsimp only [hostOps0_5, List.drop, List.take]
  show after _ V (Proc.devRef .tc main_v331) (ix3 b t d) = _
  after_results
  pointwise
  simp only [show ∀ x, V (Proc.devRef .tc main_v118) (ix3 b t x) = u (argsR V) b t x from hu b t]
  show (_ : EReal) = _
  refine congrArg (· + _) (Finset.sum_congr rfl fun i _ => congrArg (· * _) ?_)
  rw [mul_assoc (_ + _ : EReal) (_ + _) (_ + _)]
  rfl

theorem v334_at (V : Val) (b : Fin 2) (t : Fin 4096) (d : Fin 1024) (p q r s : EReal) (hp : V (rf main_arg0) (ix3 b t d) = p) (hq : V (rf main_v133) (ix3 b t d) = q)
    (hr : V (rf main_v308) (ix3 b t d) = r) (hs : V (rf main_v331) (ix3 b t d) = s) :
    after ((hostOps0_5.drop 304).take 3) V (rf main_v334) (ix3 b t d) = p + q + r + s := by
  dsimp only [hostOps0_5, List.drop, List.take]
  show after _ V (Proc.devRef .tc main_v334) (ix3 b t d) = _
  after_results
  pointwise
  rw [← hp, ← hq, ← hr, ← hs]

end Cert.ReferenceIdeal.Hand

end
-- ==== Proof.RefMem.lean ====
module

public import proofs.«01_k».proof.Proof.RefCut
public import proofs.«01_k».proof.Proof.Codes

/-! The memory the reference writes and reads: two scatters of each kind, a division, two gathers. -/

@[expose] public section

set_option maxRecDepth 16384
set_option maxHeartbeats 1000000

noncomputable section

namespace Cert.ReferenceIdeal.Hand

open Cert.ReferenceIdeal Cert.ReferenceIdeal.Gen Idealize.ShloMosaic Idealize.ShloMosaic.TcCoe Idealize.ShloMosaic.Tactic Cert.Math
open Idealize.ShloMosaic.StableHlo

def add64 := add_at (C := 64) scatter_S2x65536x64_S2x4096x2_S2x4096x64_2_01_01_2
  (fun b t e idx => by
    unfold ScatterDims.start
    rw [dif_pos (by decide)]
    exact congrArg (fun q => (idx q).toInt) (funext fun a => Fin.ext (by match a with | ⟨0, _⟩ => rfl | ⟨1, _⟩ => rfl | ⟨2, _⟩ => rfl)))
  (fun b t e idx => by
    unfold ScatterDims.start
    rw [dif_pos (by decide)]
    exact congrArg (fun q => (idx q).toInt) (funext fun a => Fin.ext (by match a with | ⟨0, _⟩ => rfl | ⟨1, _⟩ => rfl | ⟨2, _⟩ => rfl)))
  (fun _ _ _ _ => rfl) (fun _ _ _ => rfl) (fun _ _ _ => rfl) (fun _ _ _ => rfl)

def add1 := add_at (C := 1) scatter_S2x65536x1_S2x4096x2_S2x4096x1_2_01_01_2
  (fun b t e idx => by
    unfold ScatterDims.start
    rw [dif_pos (by decide)]
    exact congrArg (fun q => (idx q).toInt) (funext fun a => Fin.ext (by match a with | ⟨0, _⟩ => rfl | ⟨1, _⟩ => rfl | ⟨2, _⟩ => rfl)))
  (fun b t e idx => by
    unfold ScatterDims.start
    rw [dif_pos (by decide)]
    exact congrArg (fun q => (idx q).toInt) (funext fun a => Fin.ext (by match a with | ⟨0, _⟩ => rfl | ⟨1, _⟩ => rfl | ⟨2, _⟩ => rfl)))
  (fun _ _ _ _ => rfl) (fun _ _ _ => rfl) (fun _ _ _ => rfl) (fun _ _ _ => rfl)

def take64 := take_at (C := 64) gather_S2x65536x64_S2x4096x2_S2x4096x64_2_01_n_n_01_2_1164
  (fun b t e idx => by
    unfold GatherDims.start
    rw [dif_pos (by decide)]
    exact congrArg (fun q => min (idx q).toInt.toNat 1) (funext fun a => Fin.ext (by match a with | ⟨0, _⟩ => rfl | ⟨1, _⟩ => rfl | ⟨2, _⟩ => rfl)))
  (fun b t e idx => by
    unfold GatherDims.start
    rw [dif_pos (by decide)]
    exact congrArg (fun q => min (idx q).toInt.toNat 65535) (funext fun a => Fin.ext (by match a with | ⟨0, _⟩ => rfl | ⟨1, _⟩ => rfl | ⟨2, _⟩ => rfl)))
  (fun _ _ _ _ => rfl) (fun _ _ _ => rfl) (fun _ _ _ => rfl) (fun _ _ e => Nat.zero_add (e : ℕ))

/-- The two columns of an index read as a row number and a bucket number. -/
theorem row_word (b : Fin 2) : (Scalar.select (IntOp.cmpi CmpIPredicate.slt (BitVec.ofNat 32 (b : ℕ)) 0#32) (IntOp.addi (BitVec.ofNat 32 (b : ℕ)) 2#32) (BitVec.ofNat 32 (b : ℕ))).toInt = (b : ℕ) := by
  rw [wrap_word _ (by omega), int_of (by omega)]

theorem bucket_word {w : BitVec 32} {n : ℕ} (hw : w = BitVec.ofNat 32 n) (hn : n < 65536) :
    (Scalar.select (IntOp.cmpi CmpIPredicate.slt w 0#32) (IntOp.addi w 65536#32) w).toInt = n := by
  rw [hw, wrap_word _ hn, int_of hn]

/-- The row numbers, as the buffer of them holds them. -/
def Rows (V : Val) : Prop := ∀ b : Fin 2, V (rf main_v180) (ix2 b 0) = BitVec.ofNat 32 (b : ℕ)

theorem row_word' {V : Val} (h : Rows V) (b : Fin 2) : (Scalar.select (IntOp.cmpi CmpIPredicate.slt (V (Proc.devRef .tc main_v180) (ix2 b 0) : BitVec 32) 0#32)
    (IntOp.addi (V (Proc.devRef .tc main_v180) (ix2 b 0) : BitVec 32) 2#32) (V (Proc.devRef .tc main_v180) (ix2 b 0) : BitVec 32)).toInt = (b : ℕ) := by
  rw [show V (Proc.devRef .tc main_v180) (ix2 b 0) = BitVec.ofNat 32 (b : ℕ) from h b]
  exact row_word b

theorem rows_at (V : Val) : Rows (after ((hostOps0_5.drop 116).take 27) V) := by
  intro b
  dsimp only [hostOps0_5, List.drop, List.take]
  show after _ V (Proc.devRef .tc main_v180) (ix2 b 0) = _
  after_results
  pointwise

theorem v182_at (V : Val) (b : Fin 2) (q : Fin 65536) : after ((hostOps0_5.drop 116).take 27) V (rf main_v182) (ix3 b q 0) = (0 : EReal) := by
  dsimp only [hostOps0_5, List.drop, List.take]
  show after _ V (Proc.devRef .tc main_v182) (ix3 b q 0) = _
  after_results
  pointwise

theorem v199_at (V : Val) (n : Fin 2 → Fin 4096 → ℕ) (hn : ∀ b t, n b t < 65536) (hi : ∀ b t, V (rf main_v148) (ix3 b t 0) = BitVec.ofNat 32 (n b t))
    (f : Fin 2 → Fin 4096 → Fin 64 → EReal) (hf : ∀ b t e, V (rf main_v178) (ix3 b t e) = f b t e) (b : Fin 2) (q : Fin 65536) (e : Fin 64) :
    after ((hostOps0_5.drop 116).take 27) V (rf main_v199) (ix3 b q e) = ∑ t, if n b t = q then f b t e else 0 := by
  dsimp only [hostOps0_5, List.drop, List.take]
  show after _ V (Proc.devRef .tc main_v199) (ix3 b q e) = _
  after_results
  refine (add64 _ _ _ n (fun b t => ?_) (fun b t => ?_) b q e).trans ?_
  · pointwise
    exact row_word b
  · pointwise
    exact bucket_word (hi b t) (hn b t)
  · refine Eq.trans ?_ (zero_add (∑ t, if n b t = q then f b t e else 0))
    refine congrArg₂ (· + ·) (by pointwise) (Finset.sum_congr rfl fun t _ => ?_)
    exact congrArg (fun w : EReal => if n b t = q then w else 0) (hf b t e)

theorem v216_at (V : Val) (hr : Rows V) (n : Fin 2 → Fin 4096 → ℕ) (hn : ∀ b t, n b t < 65536) (hi : ∀ b t, V (rf main_v148) (ix3 b t 0) = BitVec.ofNat 32 (n b t))
    (f : Fin 2 → Fin 4096 → EReal) (hf : ∀ b t, V (rf main_v176) (ix3 b t 0) = f b t) (b : Fin 2) (q : Fin 65536) (y : EReal) (hy : V (rf main_v182) (ix3 b q 0) = y) :
    after ((hostOps0_5.drop 143).take 21) V (rf main_v216) (ix3 b q 0) = y + ∑ t, if n b t = q then f b t else 0 := by
  dsimp only [hostOps0_5, List.drop, List.take]
  show after _ V (Proc.devRef .tc main_v216) (ix3 b q 0) = _
  after_results
  refine (add1 _ _ _ n (fun b t => ?_) (fun b t => ?_) b q 0).trans ?_
  · pointwise
    exact row_word' hr b
  · pointwise
    exact bucket_word (hi b t) (hn b t)
  · refine congrArg₂ (· + ·) hy (Finset.sum_congr rfl fun t _ => ?_)
    exact congrArg (fun w : EReal => if n b t = q then w else 0) (hf b t)

theorem v233_at (V : Val) (hr : Rows V) (n : Fin 2 → Fin 4096 → ℕ) (hn : ∀ b t, n b t < 65536) (hi : ∀ b t, V (rf main_v148) (ix3 b t 1) = BitVec.ofNat 32 (n b t))
    (f : Fin 2 → Fin 4096 → Fin 64 → EReal) (hf : ∀ b t e, V (rf main_v178) (ix3 b t e) = f b t e) (b : Fin 2) (q : Fin 65536) (e : Fin 64) (y : EReal) (hy : V (rf main_v199) (ix3 b q e) = y) :
    after ((hostOps0_5.drop 164).take 21) V (rf main_v233) (ix3 b q e) = y + ∑ t, if n b t = q then f b t e else 0 := by
  dsimp only [hostOps0_5, List.drop, List.take]
  show after _ V (Proc.devRef .tc main_v233) (ix3 b q e) = _
  after_results
  refine (add64 _ _ _ n (fun b t => ?_) (fun b t => ?_) b q e).trans ?_
  · pointwise
    exact row_word' hr b
  · pointwise
    exact bucket_word (hi b t) (hn b t)
  · refine congrArg₂ (· + ·) hy (Finset.sum_congr rfl fun t _ => ?_)
    exact congrArg (fun w : EReal => if n b t = q then w else 0) (hf b t e)

theorem v250_at (V : Val) (hr : Rows V) (n : Fin 2 → Fin 4096 → ℕ) (hn : ∀ b t, n b t < 65536) (hi : ∀ b t, V (rf main_v148) (ix3 b t 1) = BitVec.ofNat 32 (n b t))
    (f : Fin 2 → Fin 4096 → EReal) (hf : ∀ b t, V (rf main_v176) (ix3 b t 0) = f b t) (b : Fin 2) (q : Fin 65536) (y : EReal) (hy : V (rf main_v216) (ix3 b q 0) = y) :
    after ((hostOps0_5.drop 185).take 21) V (rf main_v250) (ix3 b q 0) = y + ∑ t, if n b t = q then f b t else 0 := by
  dsimp only [hostOps0_5, List.drop, List.take]
  show after _ V (Proc.devRef .tc main_v250) (ix3 b q 0) = _
  after_results
  refine (add1 _ _ _ n (fun b t => ?_) (fun b t => ?_) b q 0).trans ?_
  · pointwise
    exact row_word' hr b
  · pointwise
    exact bucket_word (hi b t) (hn b t)
  · refine congrArg₂ (· + ·) hy (Finset.sum_congr rfl fun t _ => ?_)
    exact congrArg (fun w : EReal => if n b t = q then w else 0) (hf b t)

theorem v254_at (V : Val) (b : Fin 2) (q : Fin 65536) (e : Fin 64) (x y : EReal) (hx : V (rf main_v233) (ix3 b q e) = x) (hy : V (rf main_v250) (ix3 b q 0) = y) :
    after ((hostOps0_5.drop 206).take 5) V (rf main_v254) (ix3 b q e) = Ideal.div x (y + eps) := by
  dsimp only [hostOps0_5, List.drop, List.take]
  show after _ V (Proc.devRef .tc main_v254) (ix3 b q e) = _
  after_results
  pointwise
  rw [← hx, ← hy]

theorem v273_at (V : Val) (hr : Rows V) (n : Fin 2 → Fin 4096 → Fin 65536) (hi : ∀ b t, V (rf main_v163) (ix3 b t 0) = BitVec.ofNat 32 (n b t))
    (b : Fin 2) (t : Fin 4096) (e : Fin 64) (x : EReal) (hx : V (rf main_v254) (ix3 b (n b t) e) = x) :
    after ((hostOps0_5.drop 211).take 24) V (rf main_v273) (ix3 b t e) = x := by
  dsimp only [hostOps0_5, List.drop, List.take]
  show after _ V (Proc.devRef .tc main_v273) (ix3 b t e) = _
  after_results
  refine Eq.trans (congrArg₂ (fun p q : EReal => p + q) (x' := 0) (by pointwise) ((take64 _ _ b t e (n b t) ?_ ?_).trans hx)) (zero_add x)
  · pointwise
    exact row_word' hr b
  · pointwise
    exact bucket_word (hi b t) (n b t).2

theorem v291_at (V : Val) (hr : Rows V) (n : Fin 2 → Fin 4096 → Fin 65536) (hi : ∀ b t, V (rf main_v163) (ix3 b t 1) = BitVec.ofNat 32 (n b t))
    (b : Fin 2) (t : Fin 4096) (e : Fin 64) (x y : EReal) (hx : V (rf main_v273) (ix3 b t e) = x) (hy : V (rf main_v254) (ix3 b (n b t) e) = y) :
    after ((hostOps0_5.drop 235).take 22) V (rf main_v291) (ix3 b t e) = x + y := by
  dsimp only [hostOps0_5, List.drop, List.take]
  show after _ V (Proc.devRef .tc main_v291) (ix3 b t e) = _
  after_results
  refine congrArg₂ (fun p q : EReal => p + q) hx ((take64 _ _ b t e (n b t) ?_ ?_).trans hy)
  · pointwise
    exact row_word' hr b
  · pointwise
    exact bucket_word (hi b t) (n b t).2

end Cert.ReferenceIdeal.Hand

end
-- ==== Proof.RefFin.lean ====
module

public import proofs.«01_k».proof.Proof.RefLoop
public import proofs.«01_k».proof.Proof.RefOuts
public import proofs.«01_k».proof.Proof.RefMem

/-! What the whole reference leaves is the problem's math of its arguments. -/

@[expose] public section

set_option maxRecDepth 16384
set_option maxHeartbeats 1000000

noncomputable section

namespace Cert.ReferenceIdeal.Hand

open Cert.ReferenceIdeal Cert.ReferenceIdeal.Gen Idealize.ShloMosaic Idealize.ShloMosaic.TcCoe Idealize.ShloMosaic.Tactic Cert.Math
open Idealize.ShloMosaic.StableHlo

/-! ## The memory's sums -/

theorem from_zero {x y : EReal} (e : x = 0 + y) : x = y := e.trans (zero_add y)

theorem bucket_lt (A : Args) (b : Fin 2) (W : Fin 32 → Fin 1024 → EReal) (t : Fin 4096) (k : Fin 2) : bucket A b W t k < 65536 := by
  unfold bucket
  exact code_lt _

/-- The bucket written by lane `l`, and the one read by head `k`. -/
def wId (A : Args) (l : Fin 2) (b : Fin 2) (t : Fin 4096) : ℕ := bucket A b A.writeW t l
def rId (A : Args) (k : Fin 2) (b : Fin 2) (t : Fin 4096) : Fin 65536 := ⟨bucket A b A.readW t k, bucket_lt A b A.readW t k⟩

theorem wId_lt (A : Args) (l : Fin 2) (b : Fin 2) (t : Fin 4096) : wId A l b t < 65536 := bucket_lt A b A.writeW t l

section
variable (A : Args) (b : Fin 2)

theorem same_bucket (t t' : Fin 4096) (k l : Fin 2) : wId A l b t' = (rId A k b t : ℕ) ↔ Hit A b t k t' l := by
  show bucket A b A.writeW t' l = bucket A b A.readW t k ↔ _
  unfold bucket Hit
  rw [code_inj]
  refine forall_congr' fun i => ?_
  rw [decide_eq_decide]
  exact ⟨fun e => e.symm, fun e => e.symm⟩

theorem held_of (t : Fin 4096) (k : Fin 2) (f : Fin 4096 → EReal) :
    (∑ t', if wId A 0 b t' = (rId A k b t : ℕ) then f t' else 0) + (∑ t', if wId A 1 b t' = (rId A k b t : ℕ) then f t' else 0) = held A b t k f := by
  rw [← Finset.sum_add_distrib]
  refine Finset.sum_congr rfl fun t' _ => ?_
  have e0 := same_bucket A b t t' k 0
  have e1 := same_bucket A b t t' k 1
  unfold hits
  by_cases h0 : Hit A b t k t' 0 <;> by_cases h1 : Hit A b t k t' 1
  · rw [if_pos (e0.2 h0), if_pos (e1.2 h1), if_pos h0, if_pos h1, EReal.right_distrib_of_nonneg zero_le_one zero_le_one, one_mul]
  · rw [if_pos (e0.2 h0), if_neg (mt e1.1 h1), if_pos h0, if_neg h1, add_zero, add_zero, one_mul]
  · rw [if_neg (mt e0.1 h0), if_pos (e1.2 h1), if_neg h0, if_pos h1, zero_add, zero_add, one_mul]
  · rw [if_neg (mt e0.1 h0), if_neg (mt e1.1 h1), if_neg h0, if_neg h1, add_zero, zero_mul]

end

/-! ## Before the loop -/

theorem c_at (V : Val) : after hostOps0 V (rf main_c) = constantI S_ 32 0#32 := by
  show after hostOps0 V (Proc.devRef .tc main_c) = _
  after_results

theorem c13_at (V : Val) : after hostOps0_3 V (rf main_c_13) = constantI S_ 32 0#32 := by
  show after hostOps0_3 V (Proc.devRef .tc main_c_13) = _
  after_results

variable (m : (ℓ : Loc nD τ sig) → Buf (Elt Ideal) ℓ) (c : Dev nD)

theorem entry_inv : Inv (argsM m c) 0 (entryContents preI m c) := by
  let V0 : Val := fun b => m (c, b)
  let V1 := after hostOps0 V0
  let V2 := after hostOps0_1 V1
  have a1 : ∀ b, isArg b → V1 (rf b) = V0 (rf b) := fun b hb => after_of_writes_sub hostOps0 V0 hostOps0_writes (arg_not_in hb (by decide +kernel))
  have a2 : ∀ b, isArg b → V2 (rf b) = V0 (rf b) := fun b hb =>
    (after_of_writes_sub hostOps0_1 V1 hostOps0_1_writes (arg_not_in hb (by decide +kernel))).trans (a1 b hb)
  have e2 : argsR V2 = argsM m c := argsR_of a2
  have x9 : ∀ b t d, V2 (rf main_v9) (ix3 b t d) = h (argsM m c) b t d := fun b t d => by
    rw [show V2 (rf main_v9) = V1 (rf main_v9) from after_of_writes_sub hostOps0_1 V1 hostOps0_1_writes (by decide +kernel)]
    exact v9_at V0 b t d
  have x10 : ∀ b n d, V2 (rf main_v10) (ix3 b n d) = tap (argsM m c) b n d := v10_at V1 _ (v9_at V0) (c_at V0)
  rw [← e2] at x9 x10
  refine ⟨?_, fun t b k d => ?_, fun k => ?_, fun b k d => ?_, fun t b k d ht => absurd ht (Nat.not_lt_zero _)⟩
  · show (entryContents preI m c (Proc.devRef .tc main_v64_2) (Shape.Idx.first h_S_) : BitVec 32).toInt = _
    rw [ctr_entry]; rfl
  · rw [← e2]; exact v64_0_at V2 x9 x10 b t k d
  · rw [← e2]; exact v64_1_at V2 k
  · exact v64_3_at V2 b k d

/-! ## After the loop -/

/-- What the last stretch starts from: `h`, its taps and every token's state. -/
structure Ready (A : Args) (P : Val) : Prop where
  args : argsR P = A
  now : ∀ b t d, P (rf main_v76) (ix3 b t d) = h A b t d
  before : ∀ b n d, P (rf main_v77) (ix3 b n d) = tap A b n d
  state : ∀ b (t : Fin 4096) k d, P (rf main_v66) (ix3 b t (col k d)) = st A b (t + 1) k d

theorem ready_of {A : Args} {L : Val} (hA : argsR L = A) (hs : ∀ (t : Fin 4096) b k d, L (rf main_v64_4) (ix4 t b k d) = st A b (t + 1) k d) :
    Ready A (after hostOps0_4 (after hostOps0_3 L)) := by
  subst hA
  refine ⟨argsR_of fun b hb => ?_, fun b t d => ?_, v77_at _ _ (v76_at L) (c13_at L), fun b t k d => ?_⟩
  · exact (after_of_writes_sub hostOps0_4 _ hostOps0_4_writes (arg_not_in hb (by decide +kernel))).trans
      (after_of_writes_sub hostOps0_3 _ hostOps0_3_writes (arg_not_in hb (by decide +kernel)))
  · rw [show after hostOps0_4 _ (rf main_v76) = after hostOps0_3 L (rf main_v76) from after_of_writes_sub hostOps0_4 _ hostOps0_4_writes (by decide +kernel)]
    exact v76_at L b t d
  · rw [show after hostOps0_4 _ (rf main_v66) = after hostOps0_3 L (rf main_v66) from after_of_writes_sub hostOps0_4 _ hostOps0_4_writes (by decide +kernel), v66_at]
    exact hs t b k d

section
variable {A : Args} {P : Val} (R : Ready A P)
include R

omit R in
theorem upTo_zero (V : Val) : upTo 0 V = V := rfl

omit R in
theorem kept (n : ℕ) {b} (hb : b ∉ hostOps0_5_W) : upTo n P (rf b) = P (rf b) := by
  have e := upTo_keep 0 n P b fun h => hb (List.mem_of_mem_take h)
  rwa [Nat.zero_add, upTo_zero] at e

theorem argsQ (n : ℕ) : argsR (upTo n P) = A :=
  (argsR_of fun _ hb => kept n (arg_not_in hb (by decide +kernel))).trans R.args

theorem q76 (n : ℕ) (b t d) : upTo n P (rf main_v76) (ix3 b t d) = h (argsR (upTo n P)) b t d := by
  rw [argsQ R, kept n (by decide +kernel)]
  exact R.now b t d

theorem q66 (b : Fin 2) (t : Fin 4096) (k d) : upTo 44 P (rf main_v66) (ix3 b t (col k d)) = st (argsR (upTo 44 P)) b (t + 1) k d := by
  rw [argsQ R, kept 44 (by decide +kernel)]
  exact R.state b t k d

theorem q118 (b t d) : upTo 44 P (rf main_v118) (ix3 b t d) = u A b t d := by
  rw [show upTo 44 P = _ from upTo_add 0 44 P, upTo_zero, ← R.args]
  refine v118_at P (fun b t d => ?_) (fun b n d => ?_) b t d
  · rw [R.args]; exact R.now b t d
  · rw [R.args]; exact R.before b n d

theorem q133 (b t d) : upTo 61 P (rf main_v133) (ix3 b t d) = long A b t d := by
  rw [show upTo 61 P = _ from upTo_add 44 17 P, ← argsQ R 44]
  exact v133_at (upTo 44 P) (q76 R 44) (q66 R) b t d

theorem q148 (b t l) : upTo 80 P (rf main_v148) (ix3 b t l) = BitVec.ofNat 32 (bucket A b A.writeW t l) := by
  rw [show upTo 80 P = _ from upTo_add 61 19 P, ← argsQ R 61]
  exact v148_at (upTo 61 P) (q76 R 61) b t l

theorem q163 (b t l) : upTo 99 P (rf main_v163) (ix3 b t l) = BitVec.ofNat 32 (bucket A b A.readW t l) := by
  rw [show upTo 99 P = _ from upTo_add 80 19 P, ← argsQ R 80]
  exact v163_at (upTo 80 P) (q76 R 80) b t l

theorem q176 (b t) : upTo 116 P (rf main_v176) (ix3 b t 0) = wg A b t := by
  rw [show upTo 116 P = _ from upTo_add 99 17 P, ← argsQ R 99]
  exact v176_at (upTo 99 P) (q76 R 99) b t

theorem q178 (b t e) : upTo 116 P (rf main_v178) (ix3 b t e) = wv A b t e := by
  rw [show upTo 116 P = _ from upTo_add 99 17 P, ← argsQ R 99]
  exact v178_at (upTo 99 P) (q76 R 99) b t e

theorem qrows (k : ℕ) (hk : main_v180 ∉ (hostOps0_5_W.drop 143).take k) : Rows (upTo (143 + k) P) := by
  intro b
  rw [upTo_keep 143 k P main_v180 hk, show upTo 143 P = _ from upTo_add 116 27 P]
  exact rows_at _ b

theorem q199 (b q e) : upTo 143 P (rf main_v199) (ix3 b q e) = ∑ t, if wId A 0 b t = q then wv A b t e else 0 := by
  rw [show upTo 143 P = _ from upTo_add 116 27 P]
  refine v199_at (upTo 116 P) (wId A 0) (wId_lt A 0) (fun b t => ?_) (wv A) (q178 R) b q e
  rw [show upTo 116 P (rf main_v148) = _ from upTo_keep 80 36 P main_v148 (by decide +kernel)]
  exact q148 R b t 0

theorem q216 (b q) : upTo 164 P (rf main_v216) (ix3 b q 0) = 0 + ∑ t, if wId A 0 b t = q then wg A b t else 0 := by
  rw [show upTo 164 P = _ from upTo_add 143 21 P]
  refine v216_at (upTo 143 P) (qrows R 0 (by decide +kernel)) (wId A 0) (wId_lt A 0) (fun b t => ?_) (wg A) (fun b t => ?_) b q 0 ?_
  · rw [show upTo 143 P (rf main_v148) = _ from upTo_keep 80 63 P main_v148 (by decide +kernel)]
    exact q148 R b t 0
  · rw [show upTo 143 P (rf main_v176) = _ from upTo_keep 116 27 P main_v176 (by decide +kernel)]
    exact q176 R b t
  · rw [show upTo 143 P = _ from upTo_add 116 27 P]
    exact v182_at _ b q

theorem q233 (b q e) : upTo 185 P (rf main_v233) (ix3 b q e)
    = (∑ t, if wId A 0 b t = q then wv A b t e else 0) + ∑ t, if wId A 1 b t = q then wv A b t e else 0 := by
  rw [show upTo 185 P = _ from upTo_add 164 21 P]
  refine v233_at (upTo 164 P) (qrows R 21 (by decide +kernel)) (wId A 1) (wId_lt A 1) (fun b t => ?_) (wv A) (fun b t e => ?_) b q e _ ?_
  · rw [show upTo 164 P (rf main_v148) = _ from upTo_keep 80 84 P main_v148 (by decide +kernel)]
    exact q148 R b t 1
  · rw [show upTo 164 P (rf main_v178) = _ from upTo_keep 116 48 P main_v178 (by decide +kernel)]
    exact q178 R b t e
  · rw [show upTo 164 P (rf main_v199) = _ from upTo_keep 143 21 P main_v199 (by decide +kernel)]
    exact q199 R b q e

theorem q250 (b q) : upTo 206 P (rf main_v250) (ix3 b q 0)
    = (∑ t, if wId A 0 b t = q then wg A b t else 0) + ∑ t, if wId A 1 b t = q then wg A b t else 0 := by
  rw [show upTo 206 P = _ from upTo_add 185 21 P]
  refine v250_at (upTo 185 P) (qrows R 42 (by decide +kernel)) (wId A 1) (wId_lt A 1) (fun b t => ?_) (wg A) (fun b t => ?_) b q _ ?_
  · rw [show upTo 185 P (rf main_v148) = _ from upTo_keep 80 105 P main_v148 (by decide +kernel)]
    exact q148 R b t 1
  · rw [show upTo 185 P (rf main_v176) = _ from upTo_keep 116 69 P main_v176 (by decide +kernel)]
    exact q176 R b t
  · rw [show upTo 185 P (rf main_v216) = _ from upTo_keep 164 21 P main_v216 (by decide +kernel)]
    exact from_zero (q216 R b q)

/-- What a read finds: the held values over the held gates. -/
theorem q254 (k b t e) : upTo 211 P (rf main_v254) (ix3 b (rId A k b t) e)
    = Ideal.div (held A b t k fun t' => wv A b t' e) (held A b t k (wg A b) + eps) := by
  rw [show upTo 211 P = _ from upTo_add 206 5 P, ← held_of, ← held_of]
  refine v254_at (upTo 206 P) b (rId A k b t) e _ _ ?_ (q250 R b (rId A k b t))
  rw [show upTo 206 P (rf main_v233) = _ from upTo_keep 185 21 P main_v233 (by decide +kernel)]
  exact q233 R b (rId A k b t) e

theorem q273 (b t e) : upTo 235 P (rf main_v273) (ix3 b t e)
    = Ideal.div (held A b t 0 fun t' => wv A b t' e) (held A b t 0 (wg A b) + eps) := by
  rw [show upTo 235 P = _ from upTo_add 211 24 P]
  refine v273_at (upTo 211 P) (qrows R 68 (by decide +kernel)) (rId A 0) (fun b t => ?_) b t e _ (q254 R 0 b t e)
  rw [show upTo 211 P (rf main_v163) = _ from upTo_keep 99 112 P main_v163 (by decide +kernel)]
  exact q163 R b t 0

theorem q291 (b t e) : upTo 257 P (rf main_v291) (ix3 b t e)
    = Ideal.div (held A b t 0 fun t' => wv A b t' e) (held A b t 0 (wg A b) + eps)
      + Ideal.div (held A b t 1 fun t' => wv A b t' e) (held A b t 1 (wg A b) + eps) := by
  rw [show upTo 257 P = _ from upTo_add 235 22 P]
  refine v291_at (upTo 235 P) (qrows R 92 (by decide +kernel)) (rId A 1) (fun b t => ?_) b t e _ _ (q273 R b t e) ?_
  · rw [show upTo 235 P (rf main_v163) = _ from upTo_keep 99 136 P main_v163 (by decide +kernel)]
    exact q163 R b t 1
  · rw [show upTo 235 P (rf main_v254) = _ from upTo_keep 211 24 P main_v254 (by decide +kernel)]
    exact q254 R 1 b t e

theorem q308 (b t d) : upTo 277 P (rf main_v308) (ix3 b t d)
    = dot (read A b t) (A.memW d) * gate A b t A.gmW A.gmB := by
  have e := v308_at (upTo 257 P) (q76 R 257) _ (q291 R) b t d
  rw [argsQ R] at e
  rw [show upTo 277 P = _ from upTo_add 257 20 P]
  exact e

theorem q331 (b t d) : upTo 304 P (rf main_v331) (ix3 b t d) = mlp A b t d := by
  rw [show upTo 304 P = _ from upTo_add 277 27 P, ← argsQ R 277]
  refine v331_at (upTo 277 P) (fun b t d => ?_) b t d
  rw [argsQ R, show upTo 277 P (rf main_v118) = _ from upTo_keep 44 233 P main_v118 (by decide +kernel)]
  exact q118 R b t d

theorem q334 (b t d) : after hostOps0_5 P (rf main_v334) (ix3 b t d) = out A b t d := by
  rw [← upTo_all]
  rw [show upTo 307 P = _ from upTo_add 304 3 P]
  refine (v334_at (upTo 304 P) b t d (A.x b t d) (long A b t d)
    (dot (read A b t) (A.memW d) * gate A b t A.gmW A.gmB) (mlp A b t d) ?_ ?_ ?_ (q331 R b t d)).trans ?_
  · rw [← argsQ R 304]; rfl
  · rw [show upTo 304 P (rf main_v133) = _ from upTo_keep 61 243 P main_v133 (by decide +kernel)]
    exact q133 R b t d
  · rw [show upTo 304 P (rf main_v308) = _ from upTo_keep 277 27 P main_v308 (by decide +kernel)]
    exact q308 R b t d
  · unfold out
    rw [add_right_comm, add_assoc (A.x b t d)]

end

theorem ref_out (b t d) : finalContents condOps preI bodyI postI 4096 m c (rf main_v334) (ix3 b t d) = out (argsM m c) b t d := by
  refine q334 (ready_of (L := after condOps (atK m 4096 c)) (argsR_of fun b hb => ?_) fun t b k d => ?_) b t d
  · exact (after_of_writes_sub condOps _ condOps_writes (arg_not_in hb (by decide +kernel))).trans (loop_arg m c b hb 4096)
  · rw [show after condOps (atK m 4096 c) (rf main_v64_4) = atK m 4096 c (rf main_v64_4) from after_of_writes_sub condOps _ condOps_writes (by decide +kernel)]
    exact (loop_inv m c _ (entry_inv m c) 4096 le_rfl).filled t b k d t.2

end Cert.ReferenceIdeal.Hand

end
-- ==== Proof.Algebra.lean ====
module

public import proofs.«01_k».proof.Proof.Quiet
public import proofs.«01_k».proof.Proof.Prep
public import proofs.«01_k».proof.Proof.RefFin

/-! Of equal arguments the kernel and the reference leave the same result: each leaves the problem's math of them. -/

@[expose] public section

set_option maxRecDepth 16384

noncomputable section

namespace Cert.Proof

open Idealize.ShloMosaic Idealize.ShloMosaic.Tactic Idealize.SL.Sem

attribute [local instance] Cert.Kernel.Gen.facts Cert.KernelIdeal.Gen.facts Cert.ReferenceIdeal.Gen.facts

/-- A block of the result is known by its three coordinates. -/
theorem by_coords {f f' : (⟨3, ![2, 4096, 1024]⟩ : Shape).Idx → EReal} (e : ∀ b t d, f (ix3 b t d) = f' (ix3 b t d)) : f = f' := by
  funext i
  have hi : i = ix3 (i 0) (i 1) (i 2) := by
    funext k
    match k with
    | ⟨0, _⟩ => rfl
    | ⟨1, _⟩ => rfl
    | ⟨2, _⟩ => rfl
  rw [hi]
  exact e _ _ _

theorem algebraic : Cert.algebraic_KernelIdeal_ReferenceIdeal := fun m g m' g' _ H => by
  have same : ∀ c, Cert.ReferenceIdeal.Hand.argsM m' c = Cert.KernelIdeal.Hand.argsOf m c := fun c => by
    obtain ⟨h0, h1, h2, h3, h4, h5, h6, h7, h8, h9, h10, h11, h12, h13, h14, h15, h16, h17, h18, h19, h20⟩ := H c
    unfold Cert.ReferenceIdeal.Hand.argsM Cert.ReferenceIdeal.Hand.argsR Cert.KernelIdeal.Hand.argsOf
    congr 1
  refine ⟨fun c => Cert.KernelIdeal.Hand.V4 m g c Cert.KernelIdeal.main_v53, ?_, ?_⟩
  · refine (θ_run _ _ _).mono (fun r h c => ⟨h.1 c _ (Cert.KernelIdeal.Hand.mem_uc _ (by decide)), ?_⟩) (Cert.KernelIdeal.Hand.run_all m g)
    refine ⟨?_, ?_, ?_, ?_, ?_, ?_, ?_, ?_, ?_, ?_, ?_, ?_, ?_, ?_, ?_, ?_, ?_, ?_, ?_, ?_, ?_⟩
    all_goals exact (h.1 c _ (Cert.KernelIdeal.Hand.mem_uc _ (by decide))).trans (Cert.KernelIdeal.Hand.W4_args m g c _ (by decide +kernel))
  · refine (θ_run _ _ _).mono ?_ (Cert.ReferenceIdeal.Hand.run_fold m' g')
    intro r h c
    refine ⟨(h c _ rfl).trans (by_coords ?_), ?_⟩
    · intro b t d
      exact (Cert.ReferenceIdeal.Hand.ref_out m' c b t d).trans
        ((congrArg (fun A => Cert.Math.out A b t d) (same c)).trans (Cert.KernelIdeal.Hand.kernel_out m g c b t d).symm)
    · refine ⟨?_, ?_, ?_, ?_, ?_, ?_, ?_, ?_, ?_, ?_, ?_, ?_, ?_, ?_, ?_, ?_, ?_, ?_, ?_, ?_, ?_⟩
      all_goals exact (h c _ rfl).trans (Cert.ReferenceIdeal.Hand.final_arg m' c _ (by decide +kernel))

end Cert.Proof

end
-- ==== Proof.lean ====
module

public import proofs.«01_k».proof.Proof.Algebra

/-! The certificate's claim, from the modules that prove its parts. -/

@[expose] public section

noncomputable section

namespace Cert.Proof

theorem claim : Cert.Claim := ⟨Cert.Kernel.Gen.facts, Cert.KernelIdeal.Gen.facts, Cert.ReferenceIdeal.Gen.facts,
  quiet_kernel, quiet_ideal, quiet_reference, trivial, algebraic⟩

end Cert.Proof

end
